-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x8192 : Shape := ⟨2, ![4096, 8192]⟩
abbrev S4096x1024 : Shape := ⟨2, ![4096, 1024]⟩
abbrev S1x2 : Shape := ⟨2, ![1, 2]⟩
abbrev S2x4096x512 : Shape := ⟨3, ![2, 4096, 512]⟩
abbrev S512x6144 : Shape := ⟨2, ![512, 6144]⟩
abbrev S512x2048 : Shape := ⟨2, ![512, 2048]⟩
abbrev S512x5120 : Shape := ⟨2, ![512, 5120]⟩
abbrev S8x128 : Shape := ⟨2, ![8, 128]⟩
abbrev S2 : Shape := ⟨1, ![2]⟩
abbrev S8 : Shape := ⟨1, ![8]⟩
abbrev S_ : Shape := ⟨0, ![]⟩
abbrev S1 : Shape := ⟨1, ![1]⟩
abbrev S1x4096x512 : Shape := ⟨3, ![1, 4096, 512]⟩
abbrev S4096x512 : Shape := ⟨2, ![4096, 512]⟩
abbrev S512x512 : Shape := ⟨2, ![512, 512]⟩
abbrev S1x512x512 : Shape := ⟨3, ![1, 512, 512]⟩
abbrev S1x1x1 : Shape := ⟨3, ![1, 1, 1]⟩
abbrev S512x1024 : Shape := ⟨2, ![512, 1024]⟩
abbrev S1x128 : Shape := ⟨2, ![1, 128]⟩
abbrev S8x1 : Shape := ⟨2, ![8, 1]⟩
abbrev S1x8 : Shape := ⟨2, ![1, 8]⟩
abbrev S1x1 : Shape := ⟨2, ![1, 1]⟩

abbrev nBuf : Space → Nat
  | .hbm => 3
  | .vmem => 9
  | .smem => 1
  | _ => 0

abbrev bufTy : (tb : Table) → Fin (tcTables nBuf tb) → BufTy
  | .hbm, ⟨0, _⟩ => ⟨S512x4096, .f32⟩
  | .hbm, ⟨1, _⟩ => ⟨S4096x8192, .f32⟩
  | .hbm, ⟨2, _⟩ => ⟨S4096x1024, .f32⟩
  | .local _ .vmem, ⟨0, _⟩ => ⟨S512x4096, .f32⟩
  | .local _ .vmem, ⟨1, _⟩ => ⟨S4096x1024, .f32⟩
  | .local _ .vmem, ⟨2, _⟩ => ⟨S4096x1024, .bf16⟩
  | .local _ .vmem, ⟨3, _⟩ => ⟨S2x4096x512, .f32⟩
  | .local _ .vmem, ⟨4, _⟩ => ⟨S512x6144, .f32⟩
  | .local _ .vmem, ⟨5, _⟩ => ⟨S512x2048, .bf16⟩
  | .local _ .vmem, ⟨6, _⟩ => ⟨S512x5120, .fp8e4m3⟩
  | .local _ .vmem, ⟨7, _⟩ => ⟨S4096x1024, .fp8e4m3⟩
  | .local _ .vmem, ⟨8, _⟩ => ⟨S8x128, .f32⟩
  | .local _ .smem, ⟨0, _⟩ => ⟨S1x2, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 2 → Bool
  | ⟨0, _⟩ => false
  | ⟨1, _⟩ => true
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 2 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch1 : Ref sig .tc := ⟨.smem, 0, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_29 : BitVec 32) (c0_i32_31 : BitVec 32) : Fin 2 → Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : BitVec 32 := Scalar.addi v2 c1_i32_29
  let c8_i32_30 : BitVec 32 := 8#32
  let v33 : BitVec 32 := Scalar.remsi v32 c8_i32_30
  let c1024_i32 : BitVec 32 := 1024#32
  let v34 : BitVec 32 := Scalar.muli v33 c1024_i32
  let v35 : BitVec 32 := Scalar.addi v34 c0_i32_31
  ![0, v35.toNat]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_81 : BitVec 32 := 512#32
  let v101 : BitVec 32 := Scalar.muli v2 c512_i32_81
  let c0_i32_85 : BitVec 32 := 0#32
  ![v101.toNat, 0]
def k0_dev8 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_37 : BitVec 32 := 1#32
  let v41 : BitVec 32 := Scalar.addi v2 c1_i32_37
  let c8_i32_38 : BitVec 32 := 8#32
  let v42 : BitVec 32 := Scalar.remsi v41 c8_i32_38
  let c1_i32_83 : BitVec 32 := 1#32
  let v102 : BitVec 32 := Scalar.muli v42 c1_i32_83
  let v103 : BitVec 32 := Scalar.addi c0_i32_84 v102
  v103.toNat
def k0_dev9 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_88 : BitVec 32 := 2#32
  let v110 : BitVec 32 := Scalar.addi v2 c2_i32_88
  let c8_i32_89 : BitVec 32 := 8#32
  let v111 : BitVec 32 := Scalar.remsi v110 c8_i32_89
  let c1_i32_136 : BitVec 32 := 1#32
  let v171 : BitVec 32 := Scalar.muli v111 c1_i32_136
  let v172 : BitVec 32 := Scalar.addi c0_i32_137 v171
  v172.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v507 : Index := Scalar.indexCast v2
  let c0_400 : Index := 0#32
  ![v507.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_406 : BitVec 32 := 0#32
  ![v2.toNat, 0]
def k0_dev10 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_401 : BitVec 32 := 1#32
  let v511 : BitVec 32 := Scalar.addi v2 c1_i32_401
  let c8_i32_402 : BitVec 32 := 8#32
  let v512 : BitVec 32 := Scalar.remsi v511 c8_i32_402
  let c1_i32_404 : BitVec 32 := 1#32
  let v513 : BitVec 32 := Scalar.muli v512 c1_i32_404
  let v514 : BitVec 32 := Scalar.addi c0_i32_405 v513
  v514.toNat
def k0_dev11 (d0 : Dev nD) : Nat :=
  let c0_i32_412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_408 : BitVec 32 := 2#32
  let v521 : BitVec 32 := Scalar.addi v2 c2_i32_408
  let c8_i32_409 : BitVec 32 := 8#32
  let v522 : BitVec 32 := Scalar.remsi v521 c8_i32_409
  let c1_i32_411 : BitVec 32 := 1#32
  let v523 : BitVec 32 := Scalar.muli v522 c1_i32_411
  let v524 : BitVec 32 := Scalar.addi c0_i32_412 v523
  v524.toNat
def k0_dev12 (d0 : Dev nD) : Nat :=
  let c0_i32_419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_415 : BitVec 32 := 3#32
  let v531 : BitVec 32 := Scalar.addi v2 c3_i32_415
  let c8_i32_416 : BitVec 32 := 8#32
  let v532 : BitVec 32 := Scalar.remsi v531 c8_i32_416
  let c1_i32_418 : BitVec 32 := 1#32
  let v533 : BitVec 32 := Scalar.muli v532 c1_i32_418
  let v534 : BitVec 32 := Scalar.addi c0_i32_419 v533
  v534.toNat
def k0_dev13 (d0 : Dev nD) : Nat :=
  let c0_i32_426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_422 : BitVec 32 := 4#32
  let v541 : BitVec 32 := Scalar.addi v2 c4_i32_422
  let c8_i32_423 : BitVec 32 := 8#32
  let v542 : BitVec 32 := Scalar.remsi v541 c8_i32_423
  let c1_i32_425 : BitVec 32 := 1#32
  let v543 : BitVec 32 := Scalar.muli v542 c1_i32_425
  let v544 : BitVec 32 := Scalar.addi c0_i32_426 v543
  v544.toNat
def k0_dev14 (d0 : Dev nD) : Nat :=
  let c0_i32_433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_429 : BitVec 32 := 5#32
  let v551 : BitVec 32 := Scalar.addi v2 c5_i32_429
  let c8_i32_430 : BitVec 32 := 8#32
  let v552 : BitVec 32 := Scalar.remsi v551 c8_i32_430
  let c1_i32_432 : BitVec 32 := 1#32
  let v553 : BitVec 32 := Scalar.muli v552 c1_i32_432
  let v554 : BitVec 32 := Scalar.addi c0_i32_433 v553
  v554.toNat
def k0_dev15 (d0 : Dev nD) : Nat :=
  let c0_i32_440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_436 : BitVec 32 := 6#32
  let v561 : BitVec 32 := Scalar.addi v2 c6_i32_436
  let c8_i32_437 : BitVec 32 := 8#32
  let v562 : BitVec 32 := Scalar.remsi v561 c8_i32_437
  let c1_i32_439 : BitVec 32 := 1#32
  let v563 : BitVec 32 := Scalar.muli v562 c1_i32_439
  let v564 : BitVec 32 := Scalar.addi c0_i32_440 v563
  v564.toNat
def k0_dev16 (d0 : Dev nD) : Nat :=
  let c0_i32_447 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_443 : BitVec 32 := 7#32
  let v571 : BitVec 32 := Scalar.addi v2 c7_i32_443
  let c8_i32_444 : BitVec 32 := 8#32
  let v572 : BitVec 32 := Scalar.remsi v571 c8_i32_444
  let c1_i32_446 : BitVec 32 := 1#32
  let v573 : BitVec 32 := Scalar.muli v572 c1_i32_446
  let v574 : BitVec 32 := Scalar.addi c0_i32_447 v573
  v574.toNat
def k0_off6 (d0 : Dev nD) (c1_i32_451 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_450 : BitVec 32 := 8#32
  let v581 : BitVec 32 := Scalar.addi v2 c8_i32_450
  let v582 : BitVec 32 := Scalar.subi v581 c1_i32_451
  let c8_i32_452 : BitVec 32 := 8#32
  let v583 : BitVec 32 := Scalar.remsi v582 c8_i32_452
  ![v583.toNat]
def k0_off7 (d0 : Dev nD) (c1_i32_451 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_450 : BitVec 32 := 8#32
  let v581 : BitVec 32 := Scalar.addi v2 c8_i32_450
  let v582 : BitVec 32 := Scalar.subi v581 c1_i32_451
  let c8_i32_452 : BitVec 32 := 8#32
  let v583 : BitVec 32 := Scalar.remsi v582 c8_i32_452
  let c0_i32_456 : BitVec 32 := 0#32
  ![v583.toNat, 0]
def k0_dev17 (d0 : Dev nD) : Nat :=
  let c0_i32_524 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_515 : BitVec 32 := 3#32
  let v654 : BitVec 32 := Scalar.addi v2 c3_i32_515
  let c8_i32_516 : BitVec 32 := 8#32
  let v655 : BitVec 32 := Scalar.remsi v654 c8_i32_516
  let c1_i32_523 : BitVec 32 := 1#32
  let v664 : BitVec 32 := Scalar.muli v655 c1_i32_523
  let v665 : BitVec 32 := Scalar.addi c0_i32_524 v664
  v665.toNat
def k0_dev18 (d0 : Dev nD) : Nat :=
  let c0_i32_537 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_528 : BitVec 32 := 4#32
  let v672 : BitVec 32 := Scalar.addi v2 c4_i32_528
  let c8_i32_529 : BitVec 32 := 8#32
  let v673 : BitVec 32 := Scalar.remsi v672 c8_i32_529
  let c1_i32_536 : BitVec 32 := 1#32
  let v682 : BitVec 32 := Scalar.muli v673 c1_i32_536
  let v683 : BitVec 32 := Scalar.addi c0_i32_537 v682
  v683.toNat
def k0_dev19 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_541 : BitVec 32 := 5#32
  let v690 : BitVec 32 := Scalar.addi v2 c5_i32_541
  let c8_i32_542 : BitVec 32 := 8#32
  let v691 : BitVec 32 := Scalar.remsi v690 c8_i32_542
  let c1_i32_549 : BitVec 32 := 1#32
  let v700 : BitVec 32 := Scalar.muli v691 c1_i32_549
  let v701 : BitVec 32 := Scalar.addi c0_i32_550 v700
  v701.toNat
def k0_dev20 (d0 : Dev nD) : Nat :=
  let c0_i32_562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_553 : BitVec 32 := 6#32
  let v708 : BitVec 32 := Scalar.addi v2 c6_i32_553
  let c8_i32_554 : BitVec 32 := 8#32
  let v709 : BitVec 32 := Scalar.remsi v708 c8_i32_554
  let c1_i32_561 : BitVec 32 := 1#32
  let v718 : BitVec 32 := Scalar.muli v709 c1_i32_561
  let v719 : BitVec 32 := Scalar.addi c0_i32_562 v718
  v719.toNat
def k0_dev21 (d0 : Dev nD) : Nat :=
  let c0_i32_574 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_565 : BitVec 32 := 7#32
  let v726 : BitVec 32 := Scalar.addi v2 c7_i32_565
  let c8_i32_566 : BitVec 32 := 8#32
  let v727 : BitVec 32 := Scalar.remsi v726 c8_i32_566
  let c1_i32_573 : BitVec 32 := 1#32
  let v736 : BitVec 32 := Scalar.muli v727 c1_i32_573
  let v737 : BitVec 32 := Scalar.addi c0_i32_574 v736
  v737.toNat
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_579 : BitVec 32 := 512#32
  let v752 : BitVec 32 := Scalar.muli v2 c512_i32_579
  let v753 : Index := Scalar.indexCast v752
  let c0_580 : Index := 0#32
  ![v753.toNat, 0]
def k0_off9 (d0 : Dev nD) (c3_i32_582 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_581 : BitVec 32 := 8#32
  let v757 : BitVec 32 := Scalar.addi v2 c8_i32_581
  let v758 : BitVec 32 := Scalar.subi v757 c3_i32_582
  let c8_i32_583 : BitVec 32 := 8#32
  let v759 : BitVec 32 := Scalar.remsi v758 c8_i32_583
  let c512_i32_584 : BitVec 32 := 512#32
  let v760 : BitVec 32 := Scalar.muli v759 c512_i32_584
  let c0_i32_588 : BitVec 32 := 0#32
  ![v760.toNat, 0]
def k0_off10 (d0 : Dev nD) (c3_i32_582 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_581 : BitVec 32 := 8#32
  let v757 : BitVec 32 := Scalar.addi v2 c8_i32_581
  let v758 : BitVec 32 := Scalar.subi v757 c3_i32_582
  let c8_i32_583 : BitVec 32 := 8#32
  let v759 : BitVec 32 := Scalar.remsi v758 c8_i32_583
  let c512_i32_591 : BitVec 32 := 512#32
  let v767 : BitVec 32 := Scalar.muli v759 c512_i32_591
  let v768 : Index := Scalar.indexCast v767
  let c0_592 : Index := 0#32
  ![v768.toNat, 0]
def k0_dev22 (d0 : Dev nD) : Nat :=
  let c0_i32_748_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_744_r0 : BitVec 32 := 1#32
  let v959_r0 : BitVec 32 := Scalar.addi v2 c1_i32_744_r0
  let c8_i32_745_r0 : BitVec 32 := 8#32
  let v960_r0 : BitVec 32 := Scalar.remsi v959_r0 c8_i32_745_r0
  let c1_i32_747_r0 : BitVec 32 := 1#32
  let v961_r0 : BitVec 32 := Scalar.muli v960_r0 c1_i32_747_r0
  let v962_r0 : BitVec 32 := Scalar.addi c0_i32_748_r0 v961_r0
  v962_r0.toNat
def k0_dev23 (d0 : Dev nD) : Nat :=
  let c0_i32_753_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_749_r0 : BitVec 32 := 2#32
  let v963_r0 : BitVec 32 := Scalar.addi v2 c2_i32_749_r0
  let c8_i32_750_r0 : BitVec 32 := 8#32
  let v964_r0 : BitVec 32 := Scalar.remsi v963_r0 c8_i32_750_r0
  let c1_i32_752_r0 : BitVec 32 := 1#32
  let v965_r0 : BitVec 32 := Scalar.muli v964_r0 c1_i32_752_r0
  let v966_r0 : BitVec 32 := Scalar.addi c0_i32_753_r0 v965_r0
  v966_r0.toNat
def k0_dev24 (d0 : Dev nD) : Nat :=
  let c0_i32_758_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_754_r0 : BitVec 32 := 3#32
  let v967_r0 : BitVec 32 := Scalar.addi v2 c3_i32_754_r0
  let c8_i32_755_r0 : BitVec 32 := 8#32
  let v968_r0 : BitVec 32 := Scalar.remsi v967_r0 c8_i32_755_r0
  let c1_i32_757_r0 : BitVec 32 := 1#32
  let v969_r0 : BitVec 32 := Scalar.muli v968_r0 c1_i32_757_r0
  let v970_r0 : BitVec 32 := Scalar.addi c0_i32_758_r0 v969_r0
  v970_r0.toNat
def k0_dev25 (d0 : Dev nD) : Nat :=
  let c0_i32_763_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_759_r0 : BitVec 32 := 4#32
  let v971_r0 : BitVec 32 := Scalar.addi v2 c4_i32_759_r0
  let c8_i32_760_r0 : BitVec 32 := 8#32
  let v972_r0 : BitVec 32 := Scalar.remsi v971_r0 c8_i32_760_r0
  let c1_i32_762_r0 : BitVec 32 := 1#32
  let v973_r0 : BitVec 32 := Scalar.muli v972_r0 c1_i32_762_r0
  let v974_r0 : BitVec 32 := Scalar.addi c0_i32_763_r0 v973_r0
  v974_r0.toNat
def k0_dev26 (d0 : Dev nD) : Nat :=
  let c0_i32_768_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_764_r0 : BitVec 32 := 5#32
  let v975_r0 : BitVec 32 := Scalar.addi v2 c5_i32_764_r0
  let c8_i32_765_r0 : BitVec 32 := 8#32
  let v976_r0 : BitVec 32 := Scalar.remsi v975_r0 c8_i32_765_r0
  let c1_i32_767_r0 : BitVec 32 := 1#32
  let v977_r0 : BitVec 32 := Scalar.muli v976_r0 c1_i32_767_r0
  let v978_r0 : BitVec 32 := Scalar.addi c0_i32_768_r0 v977_r0
  v978_r0.toNat
def k0_dev27 (d0 : Dev nD) : Nat :=
  let c0_i32_773_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_769_r0 : BitVec 32 := 6#32
  let v979_r0 : BitVec 32 := Scalar.addi v2 c6_i32_769_r0
  let c8_i32_770_r0 : BitVec 32 := 8#32
  let v980_r0 : BitVec 32 := Scalar.remsi v979_r0 c8_i32_770_r0
  let c1_i32_772_r0 : BitVec 32 := 1#32
  let v981_r0 : BitVec 32 := Scalar.muli v980_r0 c1_i32_772_r0
  let v982_r0 : BitVec 32 := Scalar.addi c0_i32_773_r0 v981_r0
  v982_r0.toNat
def k0_dev28 (d0 : Dev nD) : Nat :=
  let c0_i32_778_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_774_r0 : BitVec 32 := 7#32
  let v983_r0 : BitVec 32 := Scalar.addi v2 c7_i32_774_r0
  let c8_i32_775_r0 : BitVec 32 := 8#32
  let v984_r0 : BitVec 32 := Scalar.remsi v983_r0 c8_i32_775_r0
  let c1_i32_777_r0 : BitVec 32 := 1#32
  let v985_r0 : BitVec 32 := Scalar.muli v984_r0 c1_i32_777_r0
  let v986_r0 : BitVec 32 := Scalar.addi c0_i32_778_r0 v985_r0
  v986_r0.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .local _ .vmem, ⟨0, _⟩ => ⟨S4096x4096, .f32⟩
  | .local _ .vmem, ⟨1, _⟩ => ⟨S4096x8192, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Parts.lean ====
/- The kernel's parts at the buffers the region passes them: abbreviations only. -/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Run

open Cert.KernelIdeal Cert.KernelIdeal.Gen
open Idealize.ShloMosaic
open Idealize.SL.Sem

variable {F : FTy → Type} [FloatOps F]

/-- Part 1 of the body. -/
abbrev q1 : Prog (TpuEff nD τ sig (Elt F) Λ₀ .tc) (Σ' (d0 : Dev nD) (v2 : BitVec 32) (v3 : Sems sig S_) (v24 : BitVec 32), BitVec 32) :=
  k0_part1 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0

/-- Part 2 of the body. -/
abbrev q2 (d0 : Dev nD) (v2 : BitVec 32) (v3 : Sems sig S_) (v24 : BitVec 32) (c8_i32_20 : BitVec 32) : Prog (TpuEff nD τ sig (Elt F) Λ₀ .tc) (BitVec 32) :=
  k0_part2 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v3 v24 c8_i32_20

/-- Part 3 of the body. -/
abbrev q3 (d0 : Dev nD) (v2 : BitVec 32) : Prog (TpuEff nD τ sig (Elt F) Λ₀ .tc) (F .f32) :=
  k0_part3 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2

/-- Part 4 of the body. -/
abbrev q4 (d0 : Dev nD) (v2 : BitVec 32) (v42 : BitVec 32) (v67 : F .f32) : Prog (TpuEff nD τ sig (Elt F) Λ₀ .tc) (Σ' (v96 : F .f32) (v111 : BitVec 32) (v113 : BitVec 32), BitVec 32) :=
  k0_part4 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v42 v67

/-- Part 5 of the body. -/
abbrev q5 (d0 : Dev nD) (v2 : BitVec 32) (v96 : F .f32) (v113 : BitVec 32) (c1024_i32_92 : BitVec 32) : Prog (TpuEff nD τ sig (Elt F) Λ₀ .tc) (F .f32) :=
  k0_part5 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v96 v113 c1024_i32_92

/-- Part 6 of the body. -/
abbrev q6 (d0 : Dev nD) (v2 : BitVec 32) (v111 : BitVec 32) (v136 : F .f32) : Prog (TpuEff nD τ sig (Elt F) Λ₀ .tc) (F .f32) :=
  k0_part6 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v111 v136

/-- Part 7 of the body. -/
abbrev q7 (d0 : Dev nD) (v2 : BitVec 32) (v165 : F .f32) : Prog (TpuEff nD τ sig (Elt F) Λ₀ .tc) (Σ' (v203 : F .f32), BitVec 32) :=
  k0_part7 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v165

/-- Part 8 of the body. -/
abbrev q8 (d0 : Dev nD) (v2 : BitVec 32) (v203 : F .f32) (v208 : BitVec 32) : Prog (TpuEff nD τ sig (Elt F) Λ₀ .tc) (F .f32) :=
  k0_part8 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v203 v208

/-- Part 9 of the body. -/
abbrev q9 (d0 : Dev nD) (v2 : BitVec 32) (v231 : F .f32) : Prog (TpuEff nD τ sig (Elt F) Λ₀ .tc) (F .f32) :=
  k0_part9 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v231

/-- Part 10 of the body. -/
abbrev q10 (d0 : Dev nD) (v2 : BitVec 32) (v259 : F .f32) : Prog (TpuEff nD τ sig (Elt F) Λ₀ .tc) (F .f32) :=
  k0_part10 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v259

/-- Part 11 of the body. -/
abbrev q11 (d0 : Dev nD) (v2 : BitVec 32) (v287 : F .f32) : Prog (TpuEff nD τ sig (Elt F) Λ₀ .tc) (F .f32) :=
  k0_part11 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v287

/-- Part 12 of the body. -/
abbrev q12 (d0 : Dev nD) (v2 : BitVec 32) (v315 : F .f32) : Prog (TpuEff nD τ sig (Elt F) Λ₀ .tc) (Σ' (v343 : F .f32), FVec F S512x4096 .f32) :=
  k0_part12 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v315

/-- Part 13 of the body. -/
abbrev q13 (d0 : Dev nD) (v2 : BitVec 32) (v343 : F .f32) (v362 : FVec F S512x4096 .f32) : Prog (TpuEff nD τ sig (Elt F) Λ₀ .tc) (Σ' (v371 : F .f32) (v390 : FVec F S512x4096 .f32) (v392 : FVec F S4096x512 .f32), FVec F S512x512 .f32) :=
  k0_part13 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v343 v362

/-- Part 14 of the body. -/
abbrev q14 (d0 : Dev nD) (v2 : BitVec 32) (v371 : F .f32) (v390 : FVec F S512x4096 .f32) (v392 : FVec F S4096x512 .f32) (cst_318 : FVec F S512x512 .f32) : Prog (TpuEff nD τ sig (Elt F) Λ₀ .tc) (Σ' (v399 : F .f32) (v421 : FVec F S512x512 .f32), FVec F S1x1x1 .f32) :=
  k0_part14 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v371 v390 v392 cst_318

/-- Part 15 of the body. -/
abbrev q15 (d0 : Dev nD) (v2 : BitVec 32) (v399 : F .f32) (v421 : FVec F S512x512 .f32) (v425 : FVec F S1x1x1 .f32) : Prog (TpuEff nD τ sig (Elt F) Λ₀ .tc) (Σ' (v449 : FVec F S512x512 .f32), F .f32) :=
  k0_part15 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v399 v421 v425

/-- Part 16 of the body. -/
abbrev q16 (d0 : Dev nD) (v2 : BitVec 32) (v449 : FVec F S512x512 .f32) (v455 : F .f32) : Prog (TpuEff nD τ sig (Elt F) Λ₀ .tc) (F .f32) :=
  k0_part16 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v449 v455

/-- Part 17 of the body. -/
abbrev q17 (d0 : Dev nD) (v2 : BitVec 32) (v483 : F .f32) : Prog (TpuEff nD τ sig (Elt F) Λ₀ .tc) (BitVec 32) :=
  k0_part17 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v483

/-- Part 18 of the body. -/
abbrev q18 (d0 : Dev nD) (v2 : BitVec 32) (v522 : BitVec 32) : Prog (TpuEff nD τ sig (Elt F) Λ₀ .tc) (PUnit) :=
  k0_part18 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v522

/-- Part 19 of the body. -/
abbrev q19 (d0 : Dev nD) (v2 : BitVec 32) : Prog (TpuEff nD τ sig (Elt F) Λ₀ .tc) (PUnit) :=
  k0_part19 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2

/-- Part 20 of the body. -/
abbrev q20 (d0 : Dev nD) (v2 : BitVec 32) : Prog (TpuEff nD τ sig (Elt F) Λ₀ .tc) (BitVec 32) :=
  k0_part20 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2

/-- Part 21 of the body. -/
abbrev q21 (d0 : Dev nD) (v2 : BitVec 32) (v618 : BitVec 32) : Prog (TpuEff nD τ sig (Elt F) Λ₀ .tc) (Σ' (v649 : F .f32), F .f32) :=
  k0_part21 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v618

/-- Part 22 of the body. -/
abbrev q22 (d0 : Dev nD) (v2 : BitVec 32) (v649 : F .f32) (cst_509 : F .f32) : Prog (TpuEff nD τ sig (Elt F) Λ₀ .tc) (Σ' (v650 : F .f32) (v651 : F .f32), BitVec 32) :=
  k0_part22 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v649 cst_509

/-- Part 23 of the body. -/
abbrev q23 (d0 : Dev nD) (v2 : BitVec 32) (v651 : F .f32) (v673 : BitVec 32) : Prog (TpuEff nD τ sig (Elt F) Λ₀ .tc) (Σ' (v709 : BitVec 32), FVec F S512x1024 .fp8e4m3) :=
  k0_part23 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v651 v673

/-- Part 24 of the body. -/
abbrev q24 (d0 : Dev nD) (v2 : BitVec 32) (v651 : F .f32) (v709 : BitVec 32) (v713 : FVec F S512x1024 .fp8e4m3) : Prog (TpuEff nD τ sig (Elt F) Λ₀ .tc) (Σ' (v744 : Vec F S512x1024 .f32), FVec F S512x1024 .f32) :=
  k0_part24 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v651 v709 v713

/-- Part 25 of the body. -/
abbrev q25 (d0 : Dev nD) (v2 : BitVec 32) (v650 : F .f32) (v744 : Vec F S512x1024 .f32) (v745 : FVec F S512x1024 .f32) : Prog (TpuEff nD τ sig (Elt F) Λ₀ .tc) (BitVec 32) :=
  k0_part25 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v650 v744 v745

/-- Part 26 of the body. -/
abbrev q26 (d0 : Dev nD) (v2 : BitVec 32) (v650 : F .f32) (v781 : BitVec 32) : Prog (TpuEff nD τ sig (Elt F) Λ₀ .tc) (Σ' (v803 : BitVec 32), FVec F S512x1024 .bf16) :=
  k0_part26 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v650 v781

/-- Part 27 of the body. -/
abbrev q27 (d0 : Dev nD) (v2 : BitVec 32) (v650 : F .f32) (v803 : BitVec 32) (v817 : FVec F S512x1024 .bf16) : Prog (TpuEff nD τ sig (Elt F) Λ₀ .tc) (BitVec 32) :=
  k0_part27 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v650 v803 v817

/-- Part 28 of the body. -/
abbrev q28 (d0 : Dev nD) (v2 : BitVec 32) (v650 : F .f32) (v847 : BitVec 32) : Prog (TpuEff nD τ sig (Elt F) Λ₀ .tc) (PUnit) :=
  k0_part28 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2 v650 v847

/-- Part 29 of the body. -/
abbrev q29 (d0 : Dev nD) : Prog (TpuEff nD τ sig (Elt F) Λ₀ .tc) (PUnit) :=
  k0_part29 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0

/-- Part 30 of the body. -/
abbrev q30 (d0 : Dev nD) : Prog (TpuEff nD τ sig (Elt F) Λ₀ .tc) (PUnit) :=
  k0_part30 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0

/-- Part 31 of the body. -/
abbrev q31 (d0 : Dev nD) (v2 : BitVec 32) : Prog (TpuEff nD τ sig (Elt F) Λ₀ .tc) (BitVec 32) :=
  k0_part31 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0 d0 v2

/-- The body. -/
abbrev body0 : Prog (TpuEff nD τ sig (Elt F) Λ₀ .tc) PUnit :=
  cc0__body (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scoped0

end Cert.KernelIdeal.Run
-- ==== Proof.Base.lean ====
/- Opens, resource algebra and names shared by the run of the kernel. -/
module

public import proofs.«01_k».proof.Proof.Parts
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The rounds library's algebra over this launch's cells; a duty is named by an offset round the mesh. -/
abbrev UB : Type := URounds (GSem nD τ sig) (Fin 8)
/-- The two libraries' algebras side by side: the pipeline's and the rounds'. -/
abbrev UU : Type := UR sig nD τ × (UB × Counters)

abbrev EP (F : FTy → Type) : Emb (UR sig nD τ) (MT nD τ sig Unit (Elt F) ℕ UU ℕ) := embL
abbrev ER (F : FTy → Type) : Emb UB (MT nD τ sig Unit (Elt F) ℕ UU ℕ) := (Emb.inl : Emb UB (UB × Counters)).trans embR

end Cert.KernelIdeal.Run
-- ==== Proof.Proto.lean ====
/- The protocol between the devices: who signals, copies and waits on what, and what each landing hands over.

On device `c`, with `fwd c k` the device `k` places on round the mesh and `bwd c k` the one `k` places back:
* barrier semaphore: device `bwd c k` signals 1 (k = 1 … 7), handing the windows on `bwd c k` that `c` will fill;
* `ax_recv[i]`: device `i` copies its row of maxima into row `i`;
* `bf_recv[i]` (i = bwd c 1, bwd c 2): device `i` copies a bf16 block into rows `512 i …` of the bf16 result;
* `recv[i]` (i = bwd c 3 … 7): device `i` copies an f8 block into rows `512 i …` of the f8 landing buffer;
* each send semaphore: the device's own copy returns its source;
* exit semaphore: device `bwd c k` signals 1 and hands nothing. -/
module

public import proofs.«01_k».proof.Proof.Base

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig Unit (Elt F) ℕ UU ℕ

/-! ## The mesh -/

def fwd (c : Dev nD) (k : ℕ) : Dev nD := ⟨(c.val + k) % 8, Nat.mod_lt _ (by decide)⟩
def bwd (c : Dev nD) (k : ℕ) : Dev nD := ⟨(c.val + 8 - k) % 8, Nat.mod_lt _ (by decide)⟩

/-! ## The windows -/

abbrev bfM : Memref sig .tc .vmem S4096x1024 .bf16 := Memref.whole cc0_scratch0
abbrev bsM : Memref sig .tc .vmem S512x2048 .bf16 := Memref.whole cc0_scratch4
abbrev qsM : Memref sig .tc .vmem S512x5120 .fp8e4m3 := Memref.whole cc0_scratch5
abbrev qrM : Memref sig .tc .vmem S4096x1024 .fp8e4m3 := Memref.whole cc0_scratch6
abbrev axM : Memref sig .tc .vmem S8x128 .f32 := Memref.whole cc0_scratch7

/-- Row `r` of the maxima. -/
abbrev axRow (r : Dev nD) : Memref sig .tc .vmem S1x128 .f32 :=
  axM.slice (Rect.unit (s := S8x128) (k0_off5 r) S1x128.size (k0_off5_inb r)) (fun _ => rfl)
/-- Rows `512 r …` of the bf16 result. -/
abbrev bfRow (r : Dev nD) : Memref sig .tc .vmem S512x1024 .bf16 :=
  bfM.slice (Rect.unit (s := S4096x1024) (k0_off3 r) S512x1024.size (k0_off3_inb r)) (fun _ => rfl)
/-- Rows `512 r …` of the f8 landing buffer. -/
abbrev qRow (r : Dev nD) : Memref sig .tc .vmem S512x1024 .fp8e4m3 :=
  qrM.slice (Rect.unit (s := S4096x1024) (k0_off3 r) S512x1024.size (k0_off3_inb r)) (fun _ => rfl)

abbrev bfC1 : Memref sig .tc .vmem S512x1024 .bf16 := bsM.slice (Rect.unit (s := S512x2048) ![0, 0] S512x1024.size inb_S512x2048_S512x1024_0_0) (fun _ => rfl)
abbrev bfC2 : Memref sig .tc .vmem S512x1024 .bf16 := bsM.slice (Rect.unit (s := S512x2048) ![0, 1024] S512x1024.size inb_S512x2048_S512x1024_0_1024) (fun _ => rfl)
abbrev qC3 : Memref sig .tc .vmem S512x1024 .fp8e4m3 := qsM.slice (Rect.unit (s := S512x5120) ![0, 0] S512x1024.size inb_S512x5120_S512x1024_0_0) (fun _ => rfl)
abbrev qC4 : Memref sig .tc .vmem S512x1024 .fp8e4m3 := qsM.slice (Rect.unit (s := S512x5120) ![0, 1024] S512x1024.size inb_S512x5120_S512x1024_0_1024) (fun _ => rfl)
abbrev qC5 : Memref sig .tc .vmem S512x1024 .fp8e4m3 := qsM.slice (Rect.unit (s := S512x5120) ![0, 2048] S512x1024.size inb_S512x5120_S512x1024_0_2048) (fun _ => rfl)
abbrev qC6 : Memref sig .tc .vmem S512x1024 .fp8e4m3 := qsM.slice (Rect.unit (s := S512x5120) ![0, 3072] S512x1024.size inb_S512x5120_S512x1024_0_3072) (fun _ => rfl)
abbrev qC7 : Memref sig .tc .vmem S512x1024 .fp8e4m3 := qsM.slice (Rect.unit (s := S512x5120) ![0, 4096] S512x1024.size inb_S512x5120_S512x1024_0_4096) (fun _ => rfl)

/-! ## The cells -/

/-- Copy semaphore `i` of group `g`: 0 `send`, 1 `recv`, 2 `bf_send`, 3 `bf_recv`, 4 `ax_send`, 5 `ax_recv`. -/
def dS (g : Fin 6) (i : Fin 8) : DmaSem sig := ⟨4 + 8 * g.val + i.val, by have := g.isLt; have := i.isLt; show _ < 52; omega⟩

/-- A device's semaphores of its own: exit, the two of the weight fetches, and the six groups. -/
abbrev OS : Type := Fin 3 ⊕ (Fin 6 × Fin 8)
abbrev osem : OS → SemLoc sig := fun
  | .inl i => if i = 0 then .reg ⟨1, by decide⟩ else if i = 1 then .dma ⟨2, by decide⟩ else .dma ⟨3, by decide⟩
  | .inr gi => .dma (dS gi.1 gi.2)
abbrev CS : Type := Unit ⊕ OS
abbrev csem : CS → SemLoc sig := fun
  | .inl _ => .reg ⟨0, by decide⟩
  | .inr o => osem o
abbrev kcell (ck : Dev nD × CS) : GSem nD τ sig := ((ck.1 : Thread nD τ), csem ck.2)

abbrev barC (c : Dev nD) : GSem nD τ sig := ((c : Thread nD τ), .reg ⟨0, by decide⟩)
abbrev exitC (c : Dev nD) : GSem nD τ sig := ((c : Thread nD τ), .reg ⟨1, by decide⟩)
abbrev dC (c : Dev nD) (g : Fin 6) (i : Fin 8) : GSem nD τ sig := ((c : Thread nD τ), .dma (dS g i))

/-- The group and the place of a copy semaphore. -/
def grp (n : DmaSem sig) : Fin 6 := ⟨(n.val - 4) / 8 % 6, Nat.mod_lt _ (by decide)⟩
def plc (n : DmaSem sig) : Fin 8 := ⟨(n.val - 4) % 8, Nat.mod_lt _ (by decide)⟩
theorem grp_dS (g : Fin 6) (i : Fin 8) : grp (dS g i) = g := by revert g i; decide
theorem plc_dS (g : Fin 6) (i : Fin 8) : plc (dS g i) = i := by revert g i; decide
theorem four_le_dS (g : Fin 6) (i : Fin 8) : 4 ≤ (dS g i).val := by show 4 ≤ 4 + 8 * g.val + i.val; omega

/-- How far back the device `i` lies from `c`. -/
def back (c : Dev nD) (i : Fin 8) : ℕ := (c.val + 8 - i.val) % 8

/-- The copy semaphores in use. -/
def live (c : Dev nD) (g i : ℕ) : Bool :=
  match g with
  | 0 => 3 ≤ i
  | 1 => 3 ≤ (c.val + 8 - i) % 8
  | 2 => i == 1 || i == 2
  | 3 => (c.val + 8 - i) % 8 == 1 || (c.val + 8 - i) % 8 == 2
  | 4 => 1 ≤ i
  | _ => 1 ≤ (c.val + 8 - i) % 8

/-- The units of a copy of each group. -/
def amtG (g : ℕ) : ℕ := if g < 2 then 16384 else if g < 4 then 32768 else 16
theorem amtG_pos (g : ℕ) : 0 < amtG g := by unfold amtG; (repeat' split) <;> decide

/-! ## Shares of the row of maxima: a reader's, and one for each copy in flight -/

/-- The part left after `n` copies have taken theirs. -/
def rst : ℕ → PosShare TreeShare
  | 0 => (fullShare : PosShare TreeShare).right
  | n + 1 => (rst n).right
/-- The share of copy `k` (1 … 7). -/
def shr (k : ℕ) : PosShare TreeShare := if k = 7 then rst 6 else (rst (k - 1)).left

/-! ## The schedule -/

section
variable (am : Dev nD → S1x128.Idx → Elt F .f32) (bv : Dev nD → ℕ → S512x1024.Idx → Elt F .bf16) (qv : Dev nD → ℕ → S512x1024.Idx → Elt F .fp8e4m3)

/-- The rows on `p` that `d` fills: its maxima and its block. -/
def lendAx (p d : Dev nD) : sProp 𝕄 := iprop(∃ v, owns (p : Thread nD τ) (axRow d) fullShare v)
def lendBf (p d : Dev nD) : sProp 𝕄 := iprop(∃ v, owns (p : Thread nD τ) (bfRow d) fullShare v)
def lendQ (p d : Dev nD) : sProp 𝕄 := iprop(∃ v, owns (p : Thread nD τ) (qRow d) fullShare v)

/-- What the barrier signal of the device `k` back hands over. -/
def barPay (d : Dev nD) (k : ℕ) : sProp 𝕄 :=
  iprop(lendAx (F := F) (bwd d k) d ∗ if 6 ≤ k then lendBf (F := F) (bwd d k) d else lendQ (F := F) (bwd d k) d)

/-- What a copy semaphore hands over. -/
def payG (c : Dev nD) (g i : Fin 8) : sProp 𝕄 :=
  if g = 0 then
    (if i = 3 then owns (c : Thread nD τ) qC3 fullShare (qv c 3) else if i = 4 then owns (c : Thread nD τ) qC4 fullShare (qv c 4)
      else if i = 5 then owns (c : Thread nD τ) qC5 fullShare (qv c 5) else if i = 6 then owns (c : Thread nD τ) qC6 fullShare (qv c 6)
      else owns (c : Thread nD τ) qC7 fullShare (qv c 7))
  else if g = 1 then owns (c : Thread nD τ) (qRow i) fullShare (qv i (back c i))
  else if g = 2 then (if i = 1 then owns (c : Thread nD τ) bfC1 fullShare (bv c 1) else owns (c : Thread nD τ) bfC2 fullShare (bv c 2))
  else if g = 3 then owns (c : Thread nD τ) (bfRow i) fullShare (bv i (back c i))
  else if g = 4 then owns (c : Thread nD τ) (axRow c) (shr i.val) (am c)
  else owns (c : Thread nD τ) (axRow i) fullShare (am i)

instance payG_storable (c : Dev nD) (g i : Fin 8) : BI.Storable (upEmb : UEmb _ 𝕄) (payG am bv qv c g i) := by
  unfold payG; (repeat' split) <;> infer_instance
instance barPay_storable (c : Dev nD) (k : ℕ) : BI.Storable (upEmb : UEmb _ 𝕄) (barPay (F := F) c k) := by
  unfold barPay lendAx lendBf lendQ; split <;> infer_instance

def Rd : Rounds.Schedule (GSem nD τ sig) (Fin 8) 𝕄 where
  duties g r := if r = 0 ∧ g.1.2 = .tc then
      (match g.2 with
      | .reg _ => Finset.univ.erase 0
      | .dma n => if 4 ≤ n.val ∧ live g.1.1 (grp n).val (plc n).val = true then {0} else ∅)
    else ∅
  unitless _ := False
  amount g _ _ := match g.2 with
    | .reg _ => 1
    | .dma n => amtG (grp n).val
  payload g _ d := match g.2 with
    | .reg n => if n.val = 0 then barPay (F := F) g.1.1 d.val else iprop(emp)
    | .dma n => payG am bv qv g.1.1 ((grp n).castLE (by decide)) (plc n)
  amount_pos g _ _ _ := by
    rcases g with ⟨t, s | n⟩
    · exact Nat.one_pos
    · exact amtG_pos _

instance Rd_payload_storable (g : GSem nD τ sig) (r : ℕ) (d : Fin 8) : BI.Storable (upEmb : UEmb _ 𝕄) ((Rd am bv qv).payload g r d) := by
  rcases g with ⟨t, s | n⟩
  · show BI.Storable upEmb (if s.val = 0 then barPay (F := F) t.1 d.val else iprop(emp))
    split <;> infer_instance
  · exact payG_storable am bv qv _ _ _

theorem duties_later (g : GSem nD τ sig) : ∀ r, 1 ≤ r → (Rd am bv qv).duties g r = ∅ :=
  fun r hr => by dsimp only [Rd]; exact if_neg fun h => by omega

theorem duties_reg (c : Dev nD) (s : Sem sig) : (Rd am bv qv).duties ((c : Thread nD τ), .reg s) 0 = Finset.univ.erase 0 := by
  dsimp only [Rd]; exact if_pos ⟨rfl, rfl⟩
theorem duties_dma (c : Dev nD) (g : Fin 6) (i : Fin 8) (h : live c g.val i.val = true) : (Rd am bv qv).duties (dC c g i) 0 = {0} := by
  dsimp only [Rd]; rw [if_pos ⟨rfl, rfl⟩, if_pos ⟨four_le_dS g i, by rw [grp_dS, plc_dS]; exact h⟩]
theorem duties_dead (c : Dev nD) (g : Fin 6) (i : Fin 8) (h : live c g.val i.val = false) : ∀ r, (Rd am bv qv).duties (dC c g i) r = ∅ := by
  intro r; dsimp only [Rd]; split
  · rw [if_neg]; rintro ⟨-, h'⟩; rw [grp_dS, plc_dS, h] at h'; cases h'
  · rfl
theorem duties_low (c : Dev nD) (n : DmaSem sig) (h : n.val < 4) : ∀ r, (Rd am bv qv).duties ((c : Thread nD τ), .dma n) r = ∅ := by
  intro r; dsimp only [Rd]; split
  · rw [if_neg]; rintro ⟨h', -⟩; omega
  · rfl

theorem amount_reg (c : Dev nD) (s : Sem sig) (d : Fin 8) : (Rd am bv qv).amount ((c : Thread nD τ), .reg s) 0 d = 1 := rfl
theorem amount_dma (c : Dev nD) (g : Fin 6) (i : Fin 8) (d : Fin 8) : (Rd am bv qv).amount (dC c g i) 0 d = amtG g.val := by
  show amtG (grp (dS g i)).val = _; rw [grp_dS]

theorem expect_reg (c : Dev nD) (s : Sem sig) : (Rd am bv qv).expect ((c : Thread nD τ), .reg s) 0 = 7 := by
  unfold Schedule.expect Schedule.amountOf; rw [duties_reg]; rfl
theorem expect_dma (c : Dev nD) (g : Fin 6) (i : Fin 8) (h : live c g.val i.val = true) : (Rd am bv qv).expect (dC c g i) 0 = amtG g.val := by
  unfold Schedule.expect Schedule.amountOf; rw [duties_dma am bv qv c g i h, Finset.sum_singleton, amount_dma]

theorem payload_bar (c : Dev nD) (d : Fin 8) : (Rd am bv qv).payload (barC c) 0 d = barPay (F := F) c d.val := rfl
theorem payload_exit (c : Dev nD) (d : Fin 8) : (Rd am bv qv).payload (exitC c) 0 d = iprop(emp) := rfl
theorem payload_dma (c : Dev nD) (g : Fin 6) (i : Fin 8) (d : Fin 8) : (Rd am bv qv).payload (dC c g i) 0 d = payG am bv qv c (g.castLE (by decide)) i := by
  show payG am bv qv c ((grp (dS g i)).castLE (by decide)) (plc (dS g i)) = _; rw [grp_dS, plc_dS]

theorem rest_dma (c : Dev nD) (g : Fin 6) (i : Fin 8) (h : live c g.val i.val = true) :
    bigSep ((Rd am bv qv).duties (dC c g i) 0 \ ∅) (fun d => (Rd am bv qv).payload (dC c g i) 0 d) = payG am bv qv c (g.castLE (by decide)) i := by
  rw [Finset.sdiff_empty, duties_dma am bv qv c g i h, bigSep_singleton, payload_dma]
theorem rest_bar (c : Dev nD) :
    bigSep ((Rd am bv qv).duties (barC c) 0 \ ∅) (fun d => (Rd am bv qv).payload (barC c) 0 d)
      = iprop(barPay (F := F) c 1 ∗ barPay (F := F) c 2 ∗ barPay (F := F) c 3 ∗ barPay (F := F) c 4 ∗ barPay (F := F) c 5 ∗ barPay (F := F) c 6 ∗ barPay (F := F) c 7) := by
  rw [Finset.sdiff_empty, duties_reg, show (Finset.univ.erase 0 : Finset (Fin 8)) = [1, 2, 3, 4, 5, 6, 7].toFinset from by decide]
  exact bigSep_eq_bigSepL [1, 2, 3, 4, 5, 6, 7] (by decide) fun d : Fin 8 => (Rd am bv qv).payload (barC c) 0 d
theorem rest_exit (c : Dev nD) :
    bigSep ((Rd am bv qv).duties (exitC c) 0 \ ∅) (fun d => (Rd am bv qv).payload (exitC c) 0 d) = iprop(emp) :=
  bigSep_emp_const _

end

/-! ## What a device owes, in the order in which it pays -/

/-- The cell of payment `n`: the barrier signals, the two bf16 blocks, the maxima, the f8 blocks, the exit signals. -/
def payC (c : Dev nD) (n : ℕ) : GSem nD τ sig :=
  if n < 7 then barC (fwd c (n + 1)) else if n < 9 then dC (fwd c (n - 6)) 3 c else if n < 16 then dC (fwd c (n - 8)) 5 c
  else if n < 21 then dC (fwd c (n - 13)) 1 c else exitC (fwd c (n - 20))
def payN (n : ℕ) : ℕ := if n < 7 then 1 else if n < 9 then 32768 else if n < 16 then 16 else if n < 21 then 16384 else 1

/-- Owed after `n` payments. -/
def owed (c : Dev nD) (n : ℕ) : CellTallies nD τ sig Unit := ∑ i ∈ Finset.Ico n 28, tallyAt (payC c i) () (payN i)

theorem owed_succ (c : Dev nD) {n : ℕ} (h : n < 28) : owed c n = owed c (n + 1) + tallyAt (payC c n) () (payN n) := by
  unfold owed
  rw [show Finset.Ico n 28 = insert n (Finset.Ico (n + 1) 28) from by ext i; simp only [Finset.mem_Ico, Finset.mem_insert]; omega,
    Finset.sum_insert (by simp), add_comm]
theorem owed_end (c : Dev nD) : owed c 28 = 0 := by unfold owed; rw [Finset.Ico_self, Finset.sum_empty]

def L (g : GSem nD τ sig) : Finset Unit := if g.1.2 = .tc then {()} else ∅
/-- The levels: a wait lies below everything still owed then. -/
def lvS (s : SemLoc sig) : ℕ := match s with
  | .reg n => if n.val = 0 then 1 else 4
  | .dma n => if n.val < 12 then 0 else if n.val < 20 then 3 else if n.val < 28 then 0 else if n.val < 36 then 3 else if n.val < 44 then 0 else 2
def lv (g : GSem nD τ sig) (_ : Unit) : ℕ := lvS g.2
theorem L_of_ne (g : GSem nD τ sig) (h : g.1.2 ≠ .tc) : L g = ∅ := if_neg h
theorem L_tc (c : Dev nD) (sm : SemLoc sig) : L ((c : Thread nD τ), sm) = {()} := if_pos rfl

/-- The level of payment `n`. -/
def payL (n : ℕ) : ℕ := if n < 7 then 1 else if n < 9 then 3 else if n < 16 then 2 else if n < 21 then 3 else 4
theorem lv_payC (c : Dev nD) (n : ℕ) : lvS (payC c n).2 = payL n := by
  have h (g : Fin 6) (l : ℕ) (hg : ∀ i : Fin 8, lvS (.dma (dS g i)) = l) (i : Fin 8) : lvS (.dma (dS g i)) = l := hg i
  unfold payC payL
  split; · rfl
  split; · exact h 3 3 (by decide) c
  split; · exact h 5 2 (by decide) c
  split; · exact h 1 3 (by decide) c
  rfl
theorem payC_tc (c : Dev nD) (n : ℕ) : (payC c n).1.2 = .tc := by
  unfold payC; (repeat' split) <;> rfl

theorem owed_pos {c : Dev nD} {n : ℕ} {g : GSem nD τ sig} {u : Unit} (h : 0 < owed c n g u) : ∃ i, n ≤ i ∧ i < 28 ∧ g = payC c i := by
  unfold owed at h
  rw [Finset.sum_apply, Finsupp.finset_sum_apply] at h
  obtain ⟨i, hi, hp⟩ := Finset.exists_ne_zero_of_sum_ne_zero h.ne'
  rw [Finset.mem_Ico] at hi
  refine ⟨i, hi.1, hi.2, ?_⟩
  rw [tallyAt_apply] at hp
  by_contra hn
  exact hp (if_neg fun h' => hn h'.1)

/-- A wait lies below all that is still owed. -/
theorem mayWait (c : Dev nD) (n : ℕ) (sm : SemLoc sig) (h : ∀ i, n ≤ i → i < 28 → lvS sm < payL i) :
    (levAts L lv : sProp 𝕄) ⊢ MayWait (c : Thread nD τ) sm () (owed c n) :=
  MayOwe.of_cut (L := L) (lev := lv) (lvS sm) (fun p hp => by rw [Finset.mem_singleton.mp hp, L_tc]; exact Finset.mem_singleton_self _)
    (fun g u hg => by obtain ⟨i, -, -, rfl⟩ := owed_pos hg; unfold L; rw [if_pos (payC_tc c i)]; exact Finset.mem_singleton_self _)
    (fun p hp => by rw [Finset.mem_singleton.mp hp]; exact le_refl _)
    (fun g u hg => by obtain ⟨i, h1, h2, rfl⟩ := owed_pos hg; show _ < lvS _; rw [lv_payC]; exact h i h1 h2)

end Cert.KernelIdeal.Run
-- ==== Proof.Steps.lean ====
/- One step of each kind the protocol takes: a signal, a copy to another device, a wait. -/
module

public import proofs.«01_k».proof.Proof.Proto

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (am : Dev nD → S1x128.Idx → Elt F .f32) (bv : Dev nD → ℕ → S512x1024.Idx → Elt F .bf16) (qv : Dev nD → ℕ → S512x1024.Idx → Elt F .fp8e4m3)

/-- Every cell's invariant and its first round, on every device; and the levels. -/
def records (K : Dev nD × CS → ℕ) : sProp 𝕄 :=
  iprop((bigSep Finset.univ fun ck : Dev nD × CS => cellInv (ER F) (Rd am bv qv) (K ck) (kcell ck))
    ∗ (bigSep Finset.univ fun ck : Dev nD × CS => reached (ER F) (kcell ck) 0) ∗ levAts L lv)
instance records_persistent (K : Dev nD × CS → ℕ) : BI.Persistent (records am bv qv K) := by unfold records; infer_instance

variable (K : Dev nD × CS → ℕ)

omit [FloatOps F] in
theorem records_inv (ck : Dev nD × CS) : records am bv qv K ⊢ cellInv (ER F) (Rd am bv qv) (K ck) (kcell ck) := by
  unfold records; iintro ⟨H, -, -⟩
  have h : (bigSep Finset.univ fun ck : Dev nD × CS => (cellInv (ER F) (Rd am bv qv) (K ck) (kcell ck) : sProp 𝕄)) ⊢ cellInv (ER F) (Rd am bv qv) (K ck) (kcell ck) := bigSep_elim (Finset.mem_univ ck)
  iapply h; iexact H
omit [FloatOps F] in
theorem records_reached (ck : Dev nD × CS) : records am bv qv K ⊢ reached (ER F) (kcell ck) 0 := by
  unfold records; iintro ⟨-, H, -⟩
  have h : (bigSep Finset.univ fun ck : Dev nD × CS => (reached (ER F) (kcell ck) 0 : sProp 𝕄)) ⊢ reached (ER F) (kcell ck) 0 := bigSep_elim (Finset.mem_univ ck)
  iapply h; iexact H
omit [FloatOps F] in
theorem records_lev : records am bv qv K ⊢ levAts L lv := by
  unfold records; iintro ⟨-, -, H⟩; iexact H

/-- Owed after `n` payments, whatever has been waited for. -/
def ow (c : Dev nD) (n : ℕ) : sProp 𝕄 := iprop(∃ W, owes (c : Thread nD τ) (owed c n) W)

omit [FloatOps F] in
theorem owns_of_read (c : Dev nD) {sp : Space} {s : Shape} {e : EltTy} (M : Memref sig .tc sp s e) (q : PosShare TreeShare)
    (f : M.view.ty.Contents (Elt F)) {v : s.Idx → Elt F e} (h : M.view.read (Elt F) f = v) :
    (M.view.loc (c : Thread nD τ) ↦[M.view.set]{q} f : sProp 𝕄) ⊢ owns (c : Thread nD τ) M q v := by
  subst h; exact owns_intro _ _ _ _

section
variable {α : Type} {Q : α → sProp (MT nD τ sig Unit (Elt F) ℕ UU ℕ)} {k : PUnit → Prog (TpuEff nD τ sig (Elt F) Λ₀ .tc) α}

/-- A barrier or exit signal. -/
theorem step_signal (c d : Dev nD) (s : Sem sig) (i : CS) (hi : csem i = .reg s) (j : Fin 8) (hj : j ≠ 0) (n : ℕ) (hn : n < 28)
    (hc : payC c n = ((d : Thread nD τ), .reg s)) (h1 : payN n = 1) {d' : Dev nD} (hd : d' = d) {sem : Sem sig} (hs : sem = s) :
    iprop(records am bv qv K ∗ ow c n ∗ dutyTok (ER F) ((d : Thread nD τ), .reg s) 0 j ∗ (Rd am bv qv).payload ((d : Thread nD τ), .reg s) 0 j)
      ⊢ iprop((ow c (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc d' : Thread nD τ) sem 1) k) Q) := by
  subst hd hs
  unfold ow
  iintro ⟨#HR, ⟨%W, HO⟩, Ht, Hp⟩ Hk
  ihave #HI := (records_inv am bv qv K (d', i)) $$ HR
  ihave #Hr := (records_reached am bv qv K (d', i)) $$ HR
  unfold kcell; rw [hi]
  iapply (Rounds.wp_signal 𝒱₀ (ER F) (Rd am bv qv) (c : Thread nD τ) none (dst := (d' : Thread nD τ)) (κ := K (d', i)) (r := 0) (d := j)
    (by rw [duties_reg]; exact Finset.mem_erase.mpr ⟨hj, Finset.mem_univ _⟩) (amount_reg am bv qv d' sem j) () (O₀ := owed c n) (owed c (n + 1))
    (by rw [owed_succ c hn, hc, h1])) $$ [HO Ht Hp]
  · isplitr; · iexact HI
    isplitl [HO]; · iexact HO
    isplitl [Ht]; · iexact Ht
    isplitl [Hp]; · iexact Hp
    iexact Hr
  iintro HO; iapply Hk; iexists W; iexact HO

/-- A copy to device `d`: the source comes back through the sender's semaphore, the landing goes to `d`'s. -/
theorem step_send (c d : Dev nD) (g₁ : Fin 6) (i₁ : Fin 8) (g₂ : Fin 6) (l₁ : live c g₁.val i₁.val = true) (l₂ : live d g₂.val c.val = true)
    (n : ℕ) (hn : n < 28) (hc : payC c n = dC d g₂ c) (hN : payN n = amtG g₂.val) (hg : amtG g₁.val = amtG g₂.val)
    {s : Shape} {e : EltTy} {src dst : Memref sig .tc .vmem s e} {q : PosShare TreeShare} {v : s.Idx → Elt F e}
    (hp₁ : payG am bv qv c (g₁.castLE (by decide)) i₁ = owns (c : Thread nD τ) src q v)
    (hp₂ : payG am bv qv d (g₂.castLE (by decide)) c = owns (d : Thread nD τ) dst fullShare v)
    {d' : Dev nD} (hd : d' = d) {sS sem : DmaSem sig} (hS : sS = dS g₁ i₁) (hs : sem = dS g₂ c) (ham : dst.view.dmaCredit = amtG g₂.val)
    {hsc : (dst : Memref sig (Dev.tc d' : Thread nD τ).2.kind .vmem s e).view.ref.isScScratch = false}
    {hsrc : src.view.WordExact} {hdst : dst.view.WordExact}
    {hsem : DmaTarget.Typed .vmem (.dma sem) (.remote (Dev.tc d' : Thread nD τ) dst (.dma sS) hsc)} :
    iprop(records am bv qv K ∗ ow c n ∗ owns (c : Thread nD τ) src q v ∗ (∃ v', owns (d : Thread nD τ) dst fullShare v')
        ∗ dutyTok (ER F) (dC c g₁ i₁) 0 0 ∗ dutyTok (ER F) (dC d g₂ c) 0 0)
      ⊢ iprop(((cred (tallyAt (dC c g₁ i₁) () (amtG g₁.val)) ∗ ow c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d' : Thread nD τ) dst (.dma sS) hsc) (.dma sem) hsrc hdst hsem) k) Q) := by
  subst hd hS hs
  unfold ow
  iintro ⟨#HR, ⟨%W, HO⟩, Hsrc, Hdst, Ht₁, Ht₂⟩ Hk
  ihave #HI₁ := (records_inv am bv qv K (c, .inr (.inr (g₁, i₁)))) $$ HR
  ihave #Hr₁ := (records_reached am bv qv K (c, .inr (.inr (g₁, i₁)))) $$ HR
  ihave #HI₂ := (records_inv am bv qv K (d', .inr (.inr (g₂, c)))) $$ HR
  ihave #Hr₂ := (records_reached am bv qv K (d', .inr (.inr (g₂, c)))) $$ HR
  unfold owns
  icases Hsrc with ⟨%fs, %hfs, Hsrc⟩
  icases Hdst with ⟨%v', %fd, %hfd, Hdst⟩
  iapply (Rounds.wp_send_pointsTo 𝒱₀ (ER F) (Rd am bv qv) (c : Thread nD τ) none (κ₁ := K (c, .inr (.inr (g₁, i₁)))) (κ₂ := K (d', .inr (.inr (g₂, c))))
    (r₁ := 0) (r₂ := 0) (d₁ := 0) (d₂ := 0) (fd := fd) (fs := fs)
    (by rw [duties_dma am bv qv c g₁ i₁ l₁]; exact Finset.mem_singleton_self _) (by rw [duties_dma am bv qv d' g₂ c l₂]; exact Finset.mem_singleton_self _)
    () () (amtG g₂.val) (show dst.view.amount (.dma (dS g₂ c)) = _ from ham) (by rw [amount_dma]; exact hg) (amount_dma am bv qv d' g₂ c 0) (O₀ := owed c n) (owed c (n + 1)) (by rw [owed_succ c hn, hc, hN]) (W := W)
    (by rw [payload_dma, hp₁]; exact owns_of_read c src q fs hfs)
    (by rw [payload_dma, hp₂]; exact owns_of_read d' dst fullShare _ ((View.read_write_univ _ _).trans hfs))) $$ [HO Hsrc Hdst Ht₁ Ht₂]
  · isplitr; · iexact HI₁
    isplitr; · iexact HI₂
    isplitl [Hsrc]; · iexact Hsrc
    isplitl [Hdst]; · iexact Hdst
    isplitl [HO]; · iexact HO
    isplitl [Ht₁]; · iexact Ht₁
    isplitr; · iexact Hr₁
    isplitl [Ht₂]; · iexact Ht₂
    iexact Hr₂
  rw [hg]
  iintro ⟨Hc, HO⟩; iapply Hk
  isplitl [Hc]; · iexact Hc
  iexists W; iexact HO

/-- A wait on a copy semaphore: its payload, and the semaphore closed at 0. -/
theorem step_wait (c : Dev nD) (g : Fin 6) (i : Fin 8) (l : live c g.val i.val = true) (n : ℕ) (hlev : ∀ j, n ≤ j → j < 28 → lvS (.dma (dS g i)) < payL j)
    {sem : DmaSem sig} (hs : sem = dS g i) {sp sp' : Space} {s s' : Shape} {e e' : EltTy} {src : Memref sig .tc sp' s' e'} {dst : Memref sig .tc sp s e}
    (ham : dst.view.dmaCredit = amtG g.val) {hsrc : src.view.WordExact} {hdst : dst.view.WordExact} :
    iprop(records am bv qv K ∗ ow c n ∗ cred (tallyAt (dC c g i) () (amtG g.val)) ∗ atPos (ER F) (dC c g i) 0 ∅ 0)
      ⊢ iprop(((ow c n ∗ semVal (dC c g i) 0 ∗ payG am bv qv c (g.castLE (by decide)) i) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hs
  unfold ow
  iintro ⟨#HR, ⟨%W, HO⟩, Hc, Hat⟩ Hk
  ihave #HI := (records_inv am bv qv K (c, .inr (.inr (g, i)))) $$ HR
  ihave #HL := (records_lev am bv qv K) $$ HR
  iapply (Rounds.wp_wait_rest_token 𝒱₀ (ER F) (Rd am bv qv) (c : Thread nD τ) none (κ := K (c, .inr (.inr (g, i))))
      (wpE_waitDma2_eq 𝒱₀ (c : Thread nD τ) none Set.univ) (Set.mem_univ _) () (O := owed c n) (W := W) (R := 0) (m := 0) (T := ∅)
      (by rw [Nat.zero_add, expect_dma am bv qv c g i l, ham])) $$ [Hc HO Hat]
  · isplitr; · iexact HI
    isplitl [Hc]; · rw [ham]; iexact Hc
    isplitl [HO]; · iexact HO
    isplitr; · iapply (mayWait (F := F) c n (.dma (dS g i)) hlev); iexact HL
    iexact Hat
  iintro ⟨HO, Hat, -, Hp⟩
  ihave Hp := (Entails.of_eq (rest_dma am bv qv c g i l)) $$ Hp
  imod (Rounds.cell_close (ER F) (Rd am bv qv) (Set.mem_univ (K (c, .inr (.inr (g, i))))) (fun h => h) (R := 0 + 1) (duties_later am bv qv (dC c g i))) $$ [Hat] with Hz
  · isplitr; · iexact HI
    iexact Hat
  iapply Hk
  isplitl [HO]; · iexists _; iexact HO
  isplitl [Hz]; · iexact Hz
  iexact Hp

/-- A wait for the seven signals on the barrier or the exit semaphore. -/
theorem step_semWait (c : Dev nD) (s : Sem sig) (i : CS) (hi : csem i = .reg s) (n : ℕ) (hlev : ∀ j, n ≤ j → j < 28 → lvS (.reg s) < payL j)
    {sem : Sem sig} (hs : sem = s) :
    iprop(records am bv qv K ∗ ow c n ∗ cred (tallyAt ((c : Thread nD τ), .reg s) () 7) ∗ atPos (ER F) ((c : Thread nD τ), .reg s) 0 ∅ 0)
      ⊢ iprop(((ow c n ∗ semVal ((c : Thread nD τ), .reg s) 0
              ∗ bigSep ((Rd am bv qv).duties ((c : Thread nD τ), .reg s) 0 \ ∅) (fun d => (Rd am bv qv).payload ((c : Thread nD τ), .reg s) 0 d))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem 7) k) Q) := by
  subst hs
  unfold ow
  iintro ⟨#HR, ⟨%W, HO⟩, Hc, Hat⟩ Hk
  ihave #HI := (records_inv am bv qv K (c, i)) $$ HR
  ihave #HL := (records_lev am bv qv K) $$ HR
  unfold kcell; rw [hi]
  iapply (Rounds.wp_wait_rest_token 𝒱₀ (ER F) (Rd am bv qv) (c : Thread nD τ) none (κ := K (c, i))
      (wpE_semWait_eq 𝒱₀ (c : Thread nD τ) none Set.univ) (Set.mem_univ _) () (O := owed c n) (W := W) (R := 0) (m := 0) (T := ∅)
      (by rw [Nat.zero_add, expect_reg])) $$ [Hc HO Hat]
  · isplitr; · iexact HI
    isplitl [Hc]; · iexact Hc
    isplitl [HO]; · iexact HO
    isplitr; · iapply (mayWait (F := F) c n (.reg sem) hlev); iexact HL
    iexact Hat
  iintro ⟨HO, Hat, -, Hp⟩
  imod (Rounds.cell_close (ER F) (Rd am bv qv) (Set.mem_univ (K (c, i))) (fun h => h) (R := 0 + 1) (duties_later am bv qv ((c : Thread nD τ), .reg sem))) $$ [Hat] with Hz
  · isplitr; · iexact HI
    iexact Hat
  iapply Hk
  isplitl [HO]; · iexists _; iexact HO
  isplitl [Hz]; · iexact Hz
  iexact Hp

end

omit [FloatOps F] in
/-- A semaphore the protocol does not use is closed where it stands. -/
theorem close_unused (c : Dev nD) (i : CS) (h : ∀ r, (Rd am bv qv).duties (kcell (c, i)) r = ∅) :
    iprop(records am bv qv K ∗ atPos (ER F) (kcell (c, i)) 0 ∅ 0) ⊢ |={Set.univ}=> semVal (kcell (c, i)) 0 := by
  iintro ⟨#HR, Hat⟩
  ihave #HI := (records_inv am bv qv K (c, i)) $$ HR
  iapply (Rounds.cell_close (ER F) (Rd am bv qv) (Set.mem_univ (K (c, i))) (fun h => h) (R := 0) (fun r _ => h r))
  isplitr; · iexact HI
  iexact Hat

end Cert.KernelIdeal.Run
-- ==== Proof.Win.lean ====
/- Windows of the weights, the two landing slots, and the values the product computes from them. -/
module

public import proofs.«01_k».proof.Proof.Steps
public import Idealize.ShloMosaic.Lib.Pipeline.Value
public import Idealize.ShloMosaic.Lib.ValueLayout

@[expose] public section
noncomputable section
namespace Cert.KernelIdeal.Run
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
abbrev slot0 : Memref sig .tc .vmem S4096x512 .f32 := (((Memref.whole cc0_scratch2).slice (Rect.unit (s := S2x4096x512) ![0, 0, 0] S1x4096x512.size inb_S2x4096x512_S1x4096x512_0_0_0) (fun _ => rfl)).squeeze S4096x512 squeezes_S1x4096x512_S4096x512)
abbrev slot1 : Memref sig .tc .vmem S4096x512 .f32 := (((Memref.whole cc0_scratch2).slice (Rect.unit (s := S2x4096x512) ![1, 0, 0] S1x4096x512.size inb_S2x4096x512_S1x4096x512_1_0_0) (fun _ => rfl)).squeeze S4096x512 squeezes_S1x4096x512_S4096x512)
theorem slice_disj {κ : Kind} {sp : Space} {s : Shape} {e : EltTy} (M : Memref sig κ sp s e) {r r' : Rect s} {h : ∀ a, r.stride a = 1} {h' : ∀ a, r'.stride a = 1}
    (hd : Disjoint r.set r'.set) : Disjoint (M.slice r h).view.set (M.slice r' h').view.set := by
  show Disjoint (M.view.slice r).set (M.view.slice r').set
  rw [View.set_slice, View.set_slice]
  exact (Finset.disjoint_map _).mpr hd
theorem w_disj {o o' : Fin 2 → ℕ} {inb : ∀ a, o a + S4096x512.size a ≤ S4096x8192.size a} {inb' : ∀ a, o' a + S4096x512.size a ≤ S4096x8192.size a} {n n' : ℕ} (h : o = ![0, n]) (h' : o' = ![0, n']) (hn : n + 512 ≤ n' ∨ n' + 512 ≤ n) :
    Disjoint ((Memref.whole main_arg1 : Memref sig .tc .hbm S4096x8192 .f32).slice (Rect.unit (s := S4096x8192) o S4096x512.size inb) (fun _ => rfl)).view.set
      ((Memref.whole main_arg1 : Memref sig .tc .hbm S4096x8192 .f32).slice (Rect.unit (s := S4096x8192) o' S4096x512.size inb') (fun _ => rfl)).view.set :=
  slice_disj _ (Rect.unit_disjoint 1 (by subst h h'; exact hn))
/-- Two weight windows in a row do not meet. -/
theorem w_next (c : Dev nD) (r r' : Fin 8) (s s' : Fin 2) (h : 1024 * ((c.val + r.val + 1) % 8) + 512 * s.val + 512 ≤ 1024 * ((c.val + r'.val + 1) % 8) + 512 * s'.val
      ∨ 1024 * ((c.val + r'.val + 1) % 8) + 512 * s'.val + 512 ≤ 1024 * ((c.val + r.val + 1) % 8) + 512 * s.val) :
    Disjoint ((Memref.whole main_arg1 : Memref sig .tc .hbm S4096x8192 .f32).slice (Rect.unit (s := S4096x8192) (k0_off1 c (BitVec.ofNat 32 (1 + r.val)) (BitVec.ofNat 32 (512 * s.val))) S4096x512.size (k0_off1_inb c r s)) (fun _ => rfl)).view.set
      ((Memref.whole main_arg1 : Memref sig .tc .hbm S4096x8192 .f32).slice (Rect.unit (s := S4096x8192) (k0_off1 c (BitVec.ofNat 32 (1 + r'.val)) (BitVec.ofNat 32 (512 * s'.val))) S4096x512.size (k0_off1_inb c r' s')) (fun _ => rfl)).view.set :=
  w_disj (k0_off1_eq c r s) (k0_off1_eq c r' s') h
theorem readX (X : S512x4096.Idx → Elt F .f32) : View.readAt (Elt F) (Memref.whole cc0_stg0_0).view (Rect.unit ![0, 0] S512x4096.size inb_S512x4096_S512x4096_0_0).toLoadRect X = X :=
  Memref.readAt_unit_zero _ _ (by funext a; fin_cases a <;> rfl) _ _
theorem readSlot (M : Memref sig .tc .vmem S2x4096x512 .f32) (r : Rect S2x4096x512) (hr : ∀ a, r.stride a = 1) (hq : r.shape.Squeezes S4096x512) (hc : r.shape.ShapeCasts S4096x512) (hc' : S4096x512.ShapeCasts r.shape) (f) (u : S4096x512.Idx → Elt F .f32) (L) :
    View.readAt (Elt F) M.view r.toLoadRect (((M.slice r hr).squeeze S4096x512 hq).view.writes (Elt F) f (⟨Rect.whole S4096x512, u⟩ :: L)) = shapeCast r.shape u hc' := by
  have h := Memref.read_squeeze_slice M r hr hq hc (((M.slice r hr).squeeze S4096x512 hq).view.writes (Elt F) f (⟨Rect.whole S4096x512, u⟩ :: L))
  rw [show (((M.slice r hr).squeeze S4096x512 hq).view.read (Elt F) (((M.slice r hr).squeeze S4096x512 hq).view.writes (Elt F) f (⟨Rect.whole S4096x512, u⟩ :: L))) = u from by
    rw [View.writes_cons]; exact View.read_writes_whole _ _ _] at h
  exact ((congrArg (fun x => shapeCast r.shape x hc') h).trans (shapeCast_shapeCast _ _ _)).symm
theorem slot0_load (u : S4096x512.Idx → Elt F .f32) (f) (L) : View.readAt (Elt F) (Memref.whole cc0_scratch2).view (Rect.unit (s := S2x4096x512) ![0, 0, 0] S1x4096x512.size inb_S2x4096x512_S1x4096x512_0_0_0).toLoadRect
    (slot0.view.writes (Elt F) f (⟨Rect.whole S4096x512, u⟩ :: L)) = shapeCast S1x4096x512 u (by decide) := readSlot _ _ _ _ (by decide) (by decide) _ _ _
theorem slot1_load (u : S4096x512.Idx → Elt F .f32) (f) (L) : View.readAt (Elt F) (Memref.whole cc0_scratch2).view (Rect.unit (s := S2x4096x512) ![1, 0, 0] S1x4096x512.size inb_S2x4096x512_S1x4096x512_1_0_0).toLoadRect
    (slot1.view.writes (Elt F) f (⟨Rect.whole S4096x512, u⟩ :: L)) = shapeCast S1x4096x512 u (by decide) := readSlot _ _ _ _ (by decide) (by decide) _ _ _

/-! ## Values -/

/-- The window of `w` for the destination `r + 1` places on, its half `s`. -/
abbrev wwin (c : Dev nD) (r : Fin 8) (s : Fin 2) : Memref sig .tc .hbm S4096x512 .f32 :=
  (Memref.whole main_arg1).slice (Rect.unit (s := S4096x8192) (k0_off1 c (BitVec.ofNat 32 (1 + r.val)) (BitVec.ofNat 32 (512 * s.val))) S4096x512.size (k0_off1_inb c r s)) (fun _ => rfl)
/-- Its contents as a landing slot is read. -/
def wc (c : Dev nD) (Wt : S4096x8192.Idx → Elt F .f32) (r : Fin 8) (s : Fin 2) : Vec F S1x4096x512 .f32 :=
  shapeCast S1x4096x512 ((wwin c r s).view.read (Elt F) Wt) (by decide)
theorem slot0_val (c : Dev nD) (Wt : S4096x8192.Idx → Elt F .f32) (r : Fin 8) (s : Fin 2) (f) (L) : View.readAt (Elt F) (Memref.whole cc0_scratch2).view (Rect.unit (s := S2x4096x512) ![0, 0, 0] S1x4096x512.size inb_S2x4096x512_S1x4096x512_0_0_0).toLoadRect
    (slot0.view.writes (Elt F) f (⟨Rect.whole S4096x512, (wwin c r s).view.read (Elt F) Wt⟩ :: L)) = wc c Wt r s := slot0_load _ _ _
theorem slot1_val (c : Dev nD) (Wt : S4096x8192.Idx → Elt F .f32) (r : Fin 8) (s : Fin 2) (f) (L) : View.readAt (Elt F) (Memref.whole cc0_scratch2).view (Rect.unit (s := S2x4096x512) ![1, 0, 0] S1x4096x512.size inb_S2x4096x512_S1x4096x512_1_0_0).toLoadRect
    (slot1.view.writes (Elt F) f (⟨Rect.whole S4096x512, (wwin c r s).view.read (Elt F) Wt⟩ :: L)) = wc c Wt r s := slot1_load _ _ _

open Idealize.ShloMosaic.ValueIdx in
/-- Blocks of 512 columns side by side. -/
def cat512 {α : Type} {n : ℕ} (u : ℕ → S512x512.Idx → α) : (⟨2, ![512, n]⟩ : Shape).Idx → α :=
  fun i => u ((i 1).val / 512) (ix2 (i 0) ⟨(i 1).val % 512, Nat.mod_lt _ (by decide)⟩)

/-- Chunk `t` of the weights in the order the kernel takes them. -/
def wcn (c : Dev nD) (Wt : S4096x8192.Idx → Elt F .f32) (t : ℕ) : Vec F S1x4096x512 .f32 := wc c Wt (Fin.ofNat 8 (t / 2)) (Fin.ofNat 2 t)
/-- The running maximum after `t` chunks. -/
def amx (c : Dev nD) (X : S512x4096.Idx → Elt F .f32) (Wt : S4096x8192.Idx → Elt F .f32) : ℕ → F .f32
  | 0 => Scalar.ofBits .f32 0x00000000#32
  | t + 1 => k0_pay6 (amx c X Wt t) X (wcn c Wt t)
/-- The row of maxima device `c` sends. -/
def amRow (c : Dev nD) (X : S512x4096.Idx → Elt F .f32) (Wt : S4096x8192.Idx → Elt F .f32) : FVec F S1x128 .f32 := k0_pay52 (amx c X Wt 15) X (wcn c Wt 15)
/-- The bf16 block for the device `b` places on. -/
def bfVal (c : Dev nD) (X : S512x4096.Idx → Elt F .f32) (Wt : S4096x8192.Idx → Elt F .f32) (b : ℕ) : Vec F S512x1024 .bf16 :=
  cat512 fun h => k0_pay4 X (wcn c Wt (2 * (b - 1) + h))
/-- The f32 blocks kept for later: destinations 3 … 8 places on. -/
def parVal (c : Dev nD) (X : S512x4096.Idx → Elt F .f32) (Wt : S4096x8192.Idx → Elt F .f32) : S512x6144.Idx → Elt F .f32 :=
  cat512 fun h => k0_pay16 X (wcn c Wt (4 + h))

end Cert.KernelIdeal.Run
-- ==== Proof.Cells.lean ====
/- The semaphores, devices and payloads the body's words name, in the protocol's terms. -/
module

public import proofs.«01_k».proof.Proof.Win

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem sem_cons {n base : ℕ} (h : base + S8.numel ≤ n) (o : Fin 1 → ℕ) (inb : ∀ a, o a + S1.size a ≤ S8.size a) (i : Fin 8) (ho : o = ![i.val]) (sq : (Rect.unit (s := S8) o S1.size inb).shape.Squeezes S_) :
    ((((SemArray.consecutive base S8 h).slice (Rect.unit (s := S8) o S1.size inb)).squeeze S_ sq).sem : Fin n).val = base + i.val := by
  subst ho
  show base + (S8.rowMajor ((Rect.unit (s := S8) ![i.val] S1.size inb).emb (Shape.reshapeEquiv _ fun a => a.elim0))).val = base + i.val
  rw [Shape.rowMajor_val_one]
  generalize Shape.reshapeEquiv _ _ = j
  show base + (i.val + 1 * (j 0).val) = _
  have : (j 0).val < 1 := (j 0).isLt
  omega

theorem sem_dS (g : Fin 6) {base : ℕ} (hb : base = 4 + 8 * g.val) (h : base + S8.numel ≤ 52) (o : Fin 1 → ℕ) (inb : ∀ a, o a + S1.size a ≤ S8.size a) (i : Fin 8) (ho : o = ![i.val]) (sq : (Rect.unit (s := S8) o S1.size inb).shape.Squeezes S_) :
    ((((SemArray.consecutive base S8 h).slice (Rect.unit (s := S8) o S1.size inb)).squeeze S_ sq).sem : DmaSem sig) = dS g i :=
  Fin.ext ((sem_cons h o inb i ho sq).trans (by subst hb; rfl))

theorem bwd_fwd (c : Dev nD) : ∀ k : Fin 8, bwd (fwd c k.val) k.val = c := by revert c; decide
theorem back_fwd (c : Dev nD) : ∀ k : Fin 8, back (fwd c k.val) c = k.val := by revert c; decide
theorem live_bf_send (c : Dev nD) : ∀ k : Fin 8, 1 ≤ k.val → k.val ≤ 2 → live c 2 k.val = true := by revert c; decide
theorem live_bf_recv (c : Dev nD) : ∀ k : Fin 8, 1 ≤ k.val → k.val ≤ 2 → live (fwd c k.val) 3 c.val = true := by revert c; decide
theorem live_q_send (c : Dev nD) : ∀ k : Fin 8, 3 ≤ k.val → live c 0 k.val = true := by revert c; decide
theorem live_q_recv (c : Dev nD) : ∀ k : Fin 8, 3 ≤ k.val → live (fwd c k.val) 1 c.val = true := by revert c; decide
theorem live_ax_send (c : Dev nD) : ∀ k : Fin 8, 1 ≤ k.val → live c 4 k.val = true := by revert c; decide
theorem live_ax_recv (c : Dev nD) : ∀ k : Fin 8, 1 ≤ k.val → live (fwd c k.val) 5 c.val = true := by revert c; decide

variable (am : Dev nD → S1x128.Idx → Elt F .f32) (bv : Dev nD → ℕ → S512x1024.Idx → Elt F .bf16) (qv : Dev nD → ℕ → S512x1024.Idx → Elt F .fp8e4m3)

theorem payG_bf (c : Dev nD) (k : Fin 8) : payG am bv qv (fwd c k.val) ((3 : Fin 6).castLE (by decide)) c = owns (fwd c k.val : Thread nD τ) (bfRow c) fullShare (bv c k.val) := by
  show owns (fwd c k.val : Thread nD τ) (bfRow c) fullShare (bv c (back (fwd c k.val) c)) = _
  rw [back_fwd]
theorem payG_q (c : Dev nD) (k : Fin 8) : payG am bv qv (fwd c k.val) ((1 : Fin 6).castLE (by decide)) c = owns (fwd c k.val : Thread nD τ) (qRow c) fullShare (qv c k.val) := by
  show owns (fwd c k.val : Thread nD τ) (qRow c) fullShare (qv c (back (fwd c k.val) c)) = _
  rw [back_fwd]
theorem payG_ax (d c : Dev nD) : payG am bv qv d ((5 : Fin 6).castLE (by decide)) c = owns (d : Thread nD τ) (axRow c) fullShare (am c) := rfl

end Cert.KernelIdeal.Run
-- ==== Proof.Ops.lean ====
/- Loads and stores of owned windows, and windows cut and rejoined. -/
module

public import proofs.«01_k».proof.Proof.Cells
public import Idealize.ShloMosaic.Lib.MemrefSat

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable {α : Type} {Q : α → sProp (MT nD τ sig Unit (Elt F) ℕ UU ℕ)}

/-- A load of a rectangle of an owned buffer. -/
theorem step_load (c : Dev nD) {sp : CoreSpace} {s : Shape} {e : EltTy} (M : Memref sig .tc sp s e) (r : Rect s) (hl : M.view.LoadsAt r.toLoadRect)
    (q : PosShare TreeShare) (v : s.Idx → Elt F e) {k : (r.shape.Idx → Elt F e) → Prog (TpuEff nD τ sig (Elt F) Λ₀ .tc) α} :
    (owns (c : Thread nD τ) M q v : sProp 𝕄)
      ⊢ iprop((owns (c : Thread nD τ) M q v -∗ wp frame (wpE (defs₀ (F := F)) 𝒱₀ (c : Thread nD τ) none) Set.univ (k fun j => v (r.emb j)) Q)
          -∗ wp frame (wpE (defs₀ (F := F)) 𝒱₀ (c : Thread nD τ) none) Set.univ (.op (.load M r.toLoadRect hl) k) Q) := by
  iintro H Hk
  ihave H' := (show owns (c : Thread nD τ) M q v ⊢ iprop(∃ g, ⌜M.view.read (Elt F) g = v⌝ ∗ M.view.loc (c : Thread nD τ) ↦[M.view.set]{q} g) from .rfl) $$ H
  icases H' with ⟨%g, %hg, H⟩
  subst hg
  iapply (wp_load_rect 𝒱₀ (c : Thread nD τ) none Set.univ (m := M) (r := r) (View.set_slice_subset M.view r)) $$ H
  iintro H
  ihave H := (owns_intro (c : Thread nD τ) M q g) $$ H
  iapply Hk $$ H

/-- A load of an owned window. -/
theorem step_loadS (c : Dev nD) {sp : CoreSpace} {s : Shape} {e : EltTy} (M : Memref sig .tc sp s e) (r : Rect s) (hs : ∀ a, r.stride a = 1) {hl : M.view.LoadsAt r.toLoadRect}
    {q : PosShare TreeShare} {v : r.shape.Idx → Elt F e} {k : (r.shape.Idx → Elt F e) → Prog (TpuEff nD τ sig (Elt F) Λ₀ .tc) α} :
    (owns (c : Thread nD τ) (M.slice r hs) q v : sProp 𝕄)
      ⊢ iprop((owns (c : Thread nD τ) (M.slice r hs) q v -∗ wp frame (wpE (defs₀ (F := F)) 𝒱₀ (c : Thread nD τ) none) Set.univ (k v) Q)
          -∗ wp frame (wpE (defs₀ (F := F)) 𝒱₀ (c : Thread nD τ) none) Set.univ (.op (.load M r.toLoadRect hl) k) Q) := by
  iintro H Hk
  ihave H' := (show owns (c : Thread nD τ) (M.slice r hs) q v ⊢ iprop(∃ g, ⌜(M.slice r hs).view.read (Elt F) g = v⌝ ∗ (M.slice r hs).view.loc (c : Thread nD τ) ↦[(M.slice r hs).view.set]{q} g) from .rfl) $$ H
  icases H' with ⟨%g, %hg, H⟩
  subst hg
  iapply (wp_load_rect 𝒱₀ (c : Thread nD τ) none Set.univ (m := M) (r := r) (Finset.Subset.refl _)) $$ H
  iintro H
  ihave H := (owns_intro (c : Thread nD τ) (M.slice r hs) q g) $$ H
  iapply Hk $$ H

/-- A store to an owned window. -/
theorem step_storeS (c : Dev nD) {sp : CoreSpace} {s : Shape} {e : EltTy} (M : Memref sig .tc sp s e) (r : Rect s) (hs : ∀ a, r.stride a = 1)
    {v w : r.shape.Idx → Elt F e} {hx : (M.access r).Stores Finset.univ} {hm : Finset.univ = Finset.univ ∨ ∀ a, r.stride a = 1} {k : PUnit → Prog (TpuEff nD τ sig (Elt F) Λ₀ .tc) α} :
    (owns (c : Thread nD τ) (M.slice r hs) fullShare v : sProp 𝕄)
      ⊢ iprop((owns (c : Thread nD τ) (M.slice r hs) fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  iintro H Hk
  ihave H' := (show owns (c : Thread nD τ) (M.slice r hs) fullShare v ⊢ iprop(∃ g, ⌜(M.slice r hs).view.read (Elt F) g = v⌝ ∗ (M.slice r hs).view.loc (c : Thread nD τ) ↦[(M.slice r hs).view.set]{fullShare} g) from .rfl) $$ H
  icases H' with ⟨%g, %hg, H⟩
  iapply (wp_store 𝒱₀ (c : Thread nD τ) none Set.univ (m := M) (r := r) (w := w) (Mk := Finset.univ) (hx := hx) (hm := hm) (S := (M.slice r hs).view.set) (f := g) (Finset.Subset.refl _)) $$ H
  iintro H
  ihave H := (owns_of_read c (M.slice r hs) fullShare ((M.access r).write (Elt F) g w Finset.univ) (View.read_write_univ (v := M.access r) g w)) $$ H
  iapply Hk $$ H
end

/-- A window named by an equal offset is the same window. -/
theorem owns_off (c : Dev nD) {sp : Space} {s : Shape} {e : EltTy} (M : Memref sig .tc sp s e) {o o' : Fin s.rank → ℕ} {z : Fin s.rank → ℕ} (h : o = o') (i : ∀ a, o a + z a ≤ s.size a) (i' : ∀ a, o' a + z a ≤ s.size a)
    (q : PosShare TreeShare) (v : (⟨s.rank, z⟩ : Shape).Idx → Elt F e) :
    (owns (c : Thread nD τ) (M.slice (Rect.unit (s := s) o z i) (fun _ => rfl)) q v : sProp 𝕄) = owns (c : Thread nD τ) (M.slice (Rect.unit (s := s) o' z i') (fun _ => rfl)) q v := by
  subst h; rfl

section
variable (c : Dev nD) {sp : Space} {s : Shape} {e : EltTy} (M : Memref sig .tc sp s e) (q : PosShare TreeShare)
  {T : Type} [Fintype T] [DecidableEq T] (r : T → Rect s) (hr : ∀ t a, (r t).stride a = 1)
  (hd : ∀ t t', t ≠ t' → Disjoint (r t).set (r t').set) (hcov : (Finset.univ : Finset T).biUnion (fun t => (r t).set) = Finset.univ)
include hd hcov

/-- Parts of disjoint covering windows, as one array. -/
theorem parts_glue (v : ∀ t, (r t).shape.Idx → Elt F e) : ∃ X : s.Idx → Elt F e, ∀ t j, X ((r t).emb j) = v t j := by
  classical
  have h (x : s.Idx) : ∃ t j, (r t).emb j = x := by
    have hx : x ∈ (Finset.univ : Finset T).biUnion (fun t => (r t).set) := hcov ▸ Finset.mem_univ x
    obtain ⟨t, -, ht⟩ := Finset.mem_biUnion.mp hx
    obtain ⟨j, hj⟩ := (r t).exists_idx_of_mem ht
    exact ⟨t, j, hj⟩
  choose tt jj hj using h
  refine ⟨fun x => v (tt x) (jj x), fun t j => ?_⟩
  have key : ∀ (t' : T) (j' : (r t').shape.Idx), (r t').emb j' = (r t).emb j → v t' j' = v t j := by
    intro t' j' e1
    have htt : t' = t := by
      by_contra hne
      refine Finset.disjoint_left.mp (hd t' t hne) (?_ : (r t).emb j ∈ _) ?_
      · rw [← e1]; exact (r t').toLoadRect.idx_mem j'
      · exact (r t).toLoadRect.idx_mem j
    subst htt
    rw [(r t').emb.injective e1]
  exact key _ _ (hj _)

/-- Disjoint covering windows owned at anything: the buffer owned at something. -/
theorem owns_any_of_rects : (bigSep Finset.univ (fun t => iprop(∃ v, owns (c : Thread nD τ) (M.slice (r t) (hr t)) q v)) : sProp 𝕄) ⊢ iprop(∃ v, owns (c : Thread nD τ) M q v) := by
  refine (bigSep_exists_pi Finset.univ fun t v => owns (c : Thread nD τ) (M.slice (r t) (hr t)) q v).trans ?_
  iintro ⟨%v, H⟩
  obtain ⟨X, hX⟩ := parts_glue (F := F) r hd hcov v
  iexists X
  have h : (bigSep Finset.univ (fun t => owns (c : Thread nD τ) (M.slice (r t) (hr t)) q (v t)) : sProp 𝕄) ⊢ owns (c : Thread nD τ) M q X := by
    rw [bigSep_congr (fun t _ => congrArg (owns (c : Thread nD τ) (M.slice (r t) (hr t)) q) (funext fun j => (hX t j).symm))]
    exact owns_of_rects (c : Thread nD τ) M q r hr hd hcov X
  iapply h; iexact H

/-- A buffer owned at something: disjoint covering windows, each owned at something. -/
theorem rects_of_owns_any : (iprop(∃ v, owns (c : Thread nD τ) M q v) : sProp 𝕄) ⊢ bigSep Finset.univ (fun t => iprop(∃ v, owns (c : Thread nD τ) (M.slice (r t) (hr t)) q v)) := by
  iintro ⟨%v, H⟩
  have h : (owns (c : Thread nD τ) M q v : sProp 𝕄) ⊢ bigSep Finset.univ (fun t => iprop(∃ v, owns (c : Thread nD τ) (M.slice (r t) (hr t)) q v)) :=
    (owns_rects (c : Thread nD τ) M q r hr hd hcov v).trans (bigSep_mono fun t _ => exists_intro (Φ := fun v => owns (c : Thread nD τ) (M.slice (r t) (hr t)) q v) _)
  iapply h; iexact H
end

/-! ## The windows of the buffers -/

abbrev axR (t : Dev nD) : Rect S8x128 := Rect.unit (s := S8x128) (k0_off5 t) S1x128.size (k0_off5_inb t)
abbrev rowR (t : Dev nD) : Rect S4096x1024 := Rect.unit (s := S4096x1024) (k0_off3 t) S512x1024.size (k0_off3_inb t)
theorem qinb (t : Fin 5) : ∀ a, (![0, 1024 * t.val] : Fin 2 → ℕ) a + S512x1024.size a ≤ S512x5120.size a := by revert t; decide
abbrev qR (t : Fin 5) : Rect S512x5120 := Rect.unit (s := S512x5120) ![0, 1024 * t.val] S512x1024.size (qinb t)
theorem binb (t : Fin 2) : ∀ a, (![0, 1024 * t.val] : Fin 2 → ℕ) a + S512x1024.size a ≤ S512x2048.size a := by revert t; decide
abbrev bR (t : Fin 2) : Rect S512x2048 := Rect.unit (s := S512x2048) ![0, 1024 * t.val] S512x1024.size (binb t)
theorem sinb (t : Fin 2) : ∀ a, (![0, t.val] : Fin 2 → ℕ) a + S1x1.size a ≤ S1x2.size a := by revert t; decide
abbrev sR (t : Fin 2) : Rect S1x2 := Rect.unit (s := S1x2) ![0, t.val] S1x1.size (sinb t)

/-- Windows given by a step along one axis are disjoint, and cover. -/
theorem unit_disj {s : Shape} {T : Type} (o : T → Fin s.rank → ℕ) (z : Fin s.rank → ℕ) (i : ∀ t a, o t a + z a ≤ s.size a) (a : Fin s.rank)
    (h : ∀ t t', t ≠ t' → o t a + z a ≤ o t' a ∨ o t' a + z a ≤ o t a) (t t' : T) (ht : t ≠ t') : Disjoint (Rect.unit (s := s) (o t) z (i t)).set (Rect.unit (s := s) (o t') z (i t')).set :=
  Rect.unit_disjoint a (h t t' ht)
theorem unit_cov {s : Shape} {T : Type} [Fintype T] (o : T → Fin s.rank → ℕ) (z : Fin s.rank → ℕ) (i : ∀ t a, o t a + z a ≤ s.size a)
    (h : ∀ x : s.Idx, ∃ t, ∀ a, o t a ≤ (x a).val ∧ (x a).val < o t a + z a) : (Finset.univ : Finset T).biUnion (fun t => (Rect.unit (s := s) (o t) z (i t)).set) = Finset.univ := by
  ext x
  simp only [Finset.mem_biUnion, Finset.mem_univ, true_and, iff_true]
  obtain ⟨t, ht⟩ := h x
  exact ⟨t, Rect.mem_set_unit.mpr ht⟩

theorem axR_disj : ∀ t t' : Dev nD, t ≠ t' → Disjoint (axR t).set (axR t').set :=
  unit_disj (s := S8x128) _ _ _ 0 fun t t' h => by
    have : t.val ≠ t'.val := fun h' => h (Fin.ext h')
    rw [k0_off5_eq, k0_off5_eq]
    show t.val + 1 ≤ t'.val ∨ t'.val + 1 ≤ t.val
    omega
theorem axR_cov : (Finset.univ : Finset (Dev nD)).biUnion (fun t => (axR t).set) = Finset.univ :=
  unit_cov (s := S8x128) _ _ _ fun x => ⟨(⟨(x 0).val, (x 0).isLt⟩ : Dev nD), fun a => by
    rw [k0_off5_eq]
    have h1 : (x 1).val < 128 := (x 1).isLt
    fin_cases a
    · show (x 0).val ≤ (x 0).val ∧ (x 0).val < (x 0).val + 1; omega
    · show 0 ≤ (x 1).val ∧ (x 1).val < 0 + 128; omega⟩
theorem rowR_disj : ∀ t t' : Dev nD, t ≠ t' → Disjoint (rowR t).set (rowR t').set :=
  unit_disj (s := S4096x1024) _ _ _ 0 fun t t' h => by
    have : t.val ≠ t'.val := fun h' => h (Fin.ext h')
    rw [k0_off3_eq, k0_off3_eq]
    show 512 * t.val + 512 ≤ 512 * t'.val ∨ 512 * t'.val + 512 ≤ 512 * t.val
    omega
theorem rowR_cov : (Finset.univ : Finset (Dev nD)).biUnion (fun t => (rowR t).set) = Finset.univ :=
  unit_cov (s := S4096x1024) _ _ _ fun x => ⟨⟨(x 0).val / 512, by have h0 : (x 0).val < 4096 := (x 0).isLt; show _ < 8; omega⟩, fun a => by
    rw [k0_off3_eq]
    have h0 : (x 0).val < 4096 := (x 0).isLt
    have h1 : (x 1).val < 1024 := (x 1).isLt
    fin_cases a
    · show 512 * ((x 0).val / 512) ≤ (x 0).val ∧ (x 0).val < 512 * ((x 0).val / 512) + 512; omega
    · show 0 ≤ (x 1).val ∧ (x 1).val < 0 + 1024; omega⟩
theorem qR_disj : ∀ t t' : Fin 5, t ≠ t' → Disjoint (qR t).set (qR t').set :=
  unit_disj (s := S512x5120) _ _ _ 1 fun t t' h => by
    have : t.val ≠ t'.val := fun h' => h (Fin.ext h')
    show 1024 * t.val + 1024 ≤ 1024 * t'.val ∨ 1024 * t'.val + 1024 ≤ 1024 * t.val
    omega
theorem qR_cov : (Finset.univ : Finset (Fin 5)).biUnion (fun t => (qR t).set) = Finset.univ :=
  unit_cov (s := S512x5120) _ _ _ fun x => ⟨⟨(x 1).val / 1024, by have h1 : (x 1).val < 5120 := (x 1).isLt; omega⟩, fun a => by
    have h0 : (x 0).val < 512 := (x 0).isLt
    have h1 : (x 1).val < 5120 := (x 1).isLt
    fin_cases a
    · show 0 ≤ (x 0).val ∧ (x 0).val < 0 + 512; omega
    · show 1024 * ((x 1).val / 1024) ≤ (x 1).val ∧ (x 1).val < 1024 * ((x 1).val / 1024) + 1024; omega⟩
theorem bR_disj : ∀ t t' : Fin 2, t ≠ t' → Disjoint (bR t).set (bR t').set :=
  unit_disj (s := S512x2048) _ _ _ 1 fun t t' h => by
    have : t.val ≠ t'.val := fun h' => h (Fin.ext h')
    show 1024 * t.val + 1024 ≤ 1024 * t'.val ∨ 1024 * t'.val + 1024 ≤ 1024 * t.val
    omega
theorem bR_cov : (Finset.univ : Finset (Fin 2)).biUnion (fun t => (bR t).set) = Finset.univ :=
  unit_cov (s := S512x2048) _ _ _ fun x => ⟨⟨(x 1).val / 1024, by have h1 : (x 1).val < 2048 := (x 1).isLt; omega⟩, fun a => by
    have h0 : (x 0).val < 512 := (x 0).isLt
    have h1 : (x 1).val < 2048 := (x 1).isLt
    fin_cases a
    · show 0 ≤ (x 0).val ∧ (x 0).val < 0 + 512; omega
    · show 1024 * ((x 1).val / 1024) ≤ (x 1).val ∧ (x 1).val < 1024 * ((x 1).val / 1024) + 1024; omega⟩
theorem sR_disj : ∀ t t' : Fin 2, t ≠ t' → Disjoint (sR t).set (sR t').set :=
  unit_disj (s := S1x2) _ _ _ 1 fun t t' h => by
    have : t.val ≠ t'.val := fun h' => h (Fin.ext h')
    show t.val + 1 ≤ t'.val ∨ t'.val + 1 ≤ t.val
    omega
theorem sR_cov : (Finset.univ : Finset (Fin 2)).biUnion (fun t => (sR t).set) = Finset.univ :=
  unit_cov (s := S1x2) _ _ _ fun x => ⟨⟨(x 1).val / 1, by have h1 : (x 1).val < 2 := (x 1).isLt; omega⟩, fun a => by
    have h0 : (x 0).val < 1 := (x 0).isLt
    have h1 : (x 1).val < 2 := (x 1).isLt
    fin_cases a
    · show 0 ≤ (x 0).val ∧ (x 0).val < 0 + 1; omega
    · show ((x 1).val / 1) ≤ (x 1).val ∧ (x 1).val < ((x 1).val / 1) + 1; omega⟩

/-! ## What the semaphores a device waits on hand over -/

theorem fwd_bwd (c : Dev nD) : ∀ k : Fin 8, fwd (bwd c k.val) k.val = c := by revert c; decide
theorem back_bwd (c : Dev nD) : ∀ k : Fin 8, back c (bwd c k.val) = k.val := by revert c; decide
theorem fwd_eq_bwd (c : Dev nD) : ∀ k : Fin 8, 1 ≤ k.val → fwd c k.val = bwd c (8 - k.val) := by revert c; decide
theorem off6_bwd (c : Dev nD) : ∀ r : Fin 7, k0_off6 c (BitVec.ofNat 32 (1 + r.val)) = ![(bwd c (r.val + 1)).val] := fun r => by
  rw [k0_off6_eq]; congr 1; show _ = (c.val + 8 - (r.val + 1)) % 8; congr 1; omega
theorem off10_bwd (c : Dev nD) : ∀ r : Fin 5, k0_off10 c (BitVec.ofNat 32 (3 + r.val)) = k0_off3 (bwd c (r.val + 3)) := fun r => by
  rw [k0_off10_eq, k0_off3_eq]; have : (bwd c (r.val + 3)).val = (c.val + 5 - r.val) % 8 := by (show (c.val + 8 - (r.val + 3)) % 8 = _; congr 1; omega)
  rw [this]
theorem live_ax_wait (c : Dev nD) : ∀ k : Fin 8, 1 ≤ k.val → live c 5 (bwd c k.val).val = true := by revert c; decide
theorem live_q_wait (c : Dev nD) : ∀ k : Fin 8, 3 ≤ k.val → live c 1 (bwd c k.val).val = true := by revert c; decide
theorem live_bf_wait (c : Dev nD) : ∀ k : Fin 8, 1 ≤ k.val → k.val ≤ 2 → live c 3 (bwd c k.val).val = true := by revert c; decide

end Cert.KernelIdeal.Run
-- ==== Proof.Ring.lean ====
/- Rows taken round the mesh, and the rows of maxima read as one array. -/
module

public import proofs.«01_k».proof.Proof.Ops

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The devices, counted back from `c`. -/
def bwdE (c : Dev nD) : Fin 8 ≃ Dev nD where
  toFun k := bwd c k.val
  invFun t := ⟨back c t, Nat.mod_lt _ (by decide)⟩
  left_inv k := Fin.ext (back_bwd c k)
  right_inv t := by revert c t; decide

theorem bwd_zero (c : Dev nD) : bwd c 0 = c := by revert c; decide
/-- A separating product over the devices, counted back from `c`. -/
theorem ring_sep (c : Dev nD) (Φ : Dev nD → sProp 𝕄) :
    bigSep Finset.univ Φ = iprop(Φ c ∗ Φ (bwd c 1) ∗ Φ (bwd c 2) ∗ Φ (bwd c 3) ∗ Φ (bwd c 4) ∗ Φ (bwd c 5) ∗ Φ (bwd c 6) ∗ Φ (bwd c 7)) := by
  rw [bigSep_univ_equiv (bwdE c) Φ]
  have h := bigSep_univ_eq_bigSepL [(0 : Fin 8), 1, 2, 3, 4, 5, 6, 7] (by decide) (by decide) (fun k => Φ (bwdE c k))
  rw [h]
  show iprop(Φ (bwd c 0) ∗ _) = _
  rw [bwd_zero]
  rfl

open Idealize.ShloMosaic.ValueIdx

/-- The rows of maxima of all devices, one under the other. -/
def axAll (am : Dev nD → S1x128.Idx → Elt F .f32) : S8x128.Idx → Elt F .f32 := fun x => am ⟨(x 0).val, (x 0).isLt⟩ (ix2 ⟨0, by decide⟩ (x 1))
theorem axAll_row (am : Dev nD → S1x128.Idx → Elt F .f32) (t : Dev nD) : (fun j => axAll am ((axR t).emb j)) = am t := by
  funext j
  have h0 : (j 0).val = 0 := by have : (j 0).val < 1 := (j 0).isLt; omega
  have e0 : (((axR t).emb j) 0).val = t.val := by
    show k0_off5 t 0 + 1 * (j 0).val = _
    rw [k0_off5_eq, h0]; rfl
  have e1 : (((axR t).emb j) 1).val = (j 1).val := by
    show k0_off5 t 1 + 1 * (j 1).val = _
    rw [k0_off5_eq]; show 0 + 1 * (j 1).val = _; omega
  unfold axAll
  congr 1
  · exact Fin.ext e0
  · funext a; fin_cases a
    · exact Fin.ext h0.symm
    · exact Fin.ext e1
/-- The rows of maxima as one array. -/
theorem ax_join (am : Dev nD → S1x128.Idx → Elt F .f32) (c : Dev nD) (q : PosShare TreeShare) :
    (iprop(owns (c : Thread nD τ) (axRow c) q (am c) ∗ owns (c : Thread nD τ) (axRow (bwd c 1)) q (am (bwd c 1)) ∗ owns (c : Thread nD τ) (axRow (bwd c 2)) q (am (bwd c 2)) ∗ owns (c : Thread nD τ) (axRow (bwd c 3)) q (am (bwd c 3)) ∗ owns (c : Thread nD τ) (axRow (bwd c 4)) q (am (bwd c 4)) ∗ owns (c : Thread nD τ) (axRow (bwd c 5)) q (am (bwd c 5)) ∗ owns (c : Thread nD τ) (axRow (bwd c 6)) q (am (bwd c 6)) ∗ owns (c : Thread nD τ) (axRow (bwd c 7)) q (am (bwd c 7))) : sProp 𝕄)
      ⊢ owns (c : Thread nD τ) axM q (axAll am) := by
  have h : (bigSep Finset.univ (fun t => owns (c : Thread nD τ) (axRow t) q (fun j => axAll am ((axR t).emb j))) : sProp 𝕄) ⊢ owns (c : Thread nD τ) axM q (axAll am) :=
    owns_of_rects (c : Thread nD τ) axM q axR (fun _ _ => rfl) axR_disj axR_cov (axAll (F := F) am)
  have e : (bigSep Finset.univ (fun t => owns (c : Thread nD τ) (axRow t) q (am t)) : sProp 𝕄) = bigSep Finset.univ (fun t => owns (c : Thread nD τ) (axRow t) q (fun j => axAll am ((axR t).emb j))) :=
    bigSep_congr (fun t _ => congrArg (owns (c : Thread nD τ) (axRow t) q) (axAll_row am t).symm)
  rw [ring_sep c] at e
  exact (Entails.of_eq e).trans h

theorem fst_mk {α : Type} {β : Type} (a : α) (b : β) : (PSigma.mk (β := fun _ => β) a b).fst = a := rfl
theorem snd_mk {α : Type} {β : Type} (a : α) (b : β) : (PSigma.mk (β := fun _ => β) a b).snd = b := rfl

end Cert.KernelIdeal.Run
-- ==== Proof.StageC.lean ====
/- The maxima sent round, and the largest taken. -/
module

public import proofs.«01_k».proof.Proof.Ring

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (am : Dev nD → S1x128.Idx → Elt F .f32) (bv : Dev nD → ℕ → S512x1024.Idx → Elt F .bf16) (qv : Dev nD → ℕ → S512x1024.Idx → Elt F .fp8e4m3)
variable (K : Dev nD × CS → ℕ)

local notation "𝕄" => MT nD τ sig Unit (Elt F) ℕ UU ℕ

theorem lv_dS (g : Fin 6) (i : Fin 8) : lvS (.dma (dS g i)) = if g.val = 1 ∨ g.val = 3 then 3 else if g.val = 5 then 2 else 0 := by revert g i; decide
/-- Rows cut in halves. -/
theorem half (c : Dev nD) {s : Shape} {e : EltTy} (M : Memref sig .tc .vmem s e) (q : PosShare TreeShare) (v : s.Idx → Elt F e) :
    (owns (c : Thread nD τ) M q v : sProp 𝕄) ⊢ iprop(owns (c : Thread nD τ) M q.left v ∗ owns (c : Thread nD τ) M q.right v) := (owns_halves (c : Thread nD τ) M q v).1
/-- The largest of all devices' maxima. -/
def gmax (am : Dev nD → S1x128.Idx → Elt F .f32) : F .f32 :=
  k0_pay53 fun j : S8x1.Idx => axAll am ((Rect.unit (s := S8x128) ![0, 0] S8x1.size inb_S8x128_S8x1_0_0).emb j)

set_option maxHeartbeats 4000000 in
theorem stageC (c : Dev nD) (v2 v522 : BitVec 32) {Q : PUnit → sProp (MT nD τ sig Unit (Elt F) ℕ UU ℕ)} (k : F .f32 → F .f32 → Prog (TpuEff nD τ sig (Elt F) Λ₀ .tc) PUnit) :
    iprop(records am bv qv K ∗ ow c 10 ∗ owns (c : Thread nD τ) (axRow c) (fullShare : PosShare TreeShare).left (am c) ∗ owns (c : Thread nD τ) (axRow c) (rst 1) (am c) ∗ (lendAx (F := F) (fwd c 2) c ∗ dutyTok (ER F) (dC c 4 2) 0 0 ∗ dutyTok (ER F) (dC (fwd c 2) 5 c) 0 0 ∗ lendAx (F := F) (fwd c 3) c ∗ dutyTok (ER F) (dC c 4 3) 0 0 ∗ dutyTok (ER F) (dC (fwd c 3) 5 c) 0 0 ∗ lendAx (F := F) (fwd c 4) c ∗ dutyTok (ER F) (dC c 4 4) 0 0 ∗ dutyTok (ER F) (dC (fwd c 4) 5 c) 0 0 ∗ lendAx (F := F) (fwd c 5) c ∗ dutyTok (ER F) (dC c 4 5) 0 0 ∗ dutyTok (ER F) (dC (fwd c 5) 5 c) 0 0 ∗ lendAx (F := F) (fwd c 6) c ∗ dutyTok (ER F) (dC c 4 6) 0 0 ∗ dutyTok (ER F) (dC (fwd c 6) 5 c) 0 0 ∗ lendAx (F := F) (fwd c 7) c ∗ dutyTok (ER F) (dC c 4 7) 0 0 ∗ dutyTok (ER F) (dC (fwd c 7) 5 c) 0 0) ∗ cred (tallyAt (dC c 5 (bwd c 1)) () 16) ∗ atPos (ER F) (dC c 5 (bwd c 1)) 0 ∅ 0 ∗ cred (tallyAt (dC c 5 (bwd c 2)) () 16) ∗ atPos (ER F) (dC c 5 (bwd c 2)) 0 ∅ 0 ∗ cred (tallyAt (dC c 5 (bwd c 3)) () 16) ∗ atPos (ER F) (dC c 5 (bwd c 3)) 0 ∅ 0 ∗ cred (tallyAt (dC c 5 (bwd c 4)) () 16) ∗ atPos (ER F) (dC c 5 (bwd c 4)) 0 ∅ 0 ∗ cred (tallyAt (dC c 5 (bwd c 5)) () 16) ∗ atPos (ER F) (dC c 5 (bwd c 5)) 0 ∅ 0 ∗ cred (tallyAt (dC c 5 (bwd c 6)) () 16) ∗ atPos (ER F) (dC c 5 (bwd c 6)) 0 ∅ 0 ∗ cred (tallyAt (dC c 5 (bwd c 7)) () 16) ∗ atPos (ER F) (dC c 5 (bwd c 7)) 0 ∅ 0)
    ⊢ iprop(((ow c 16 ∗ owns (c : Thread nD τ) axM (fullShare : PosShare TreeShare).left (axAll am) ∗ (bigSep Finset.univ fun k : Fin 7 => owns (c : Thread nD τ) (axRow (bwd c (k.val + 1))) (fullShare : PosShare TreeShare).right (am (bwd c (k.val + 1)))) ∗ (cred (tallyAt (dC c 4 2) () 16) ∗ cred (tallyAt (dC c 4 3) () 16) ∗ cred (tallyAt (dC c 4 4) () 16) ∗ cred (tallyAt (dC c 4 5) () 16) ∗ cred (tallyAt (dC c 4 6) () 16) ∗ cred (tallyAt (dC c 4 7) () 16)) ∗ semVal (dC c 5 (bwd c 1)) 0 ∗ semVal (dC c 5 (bwd c 2)) 0 ∗ semVal (dC c 5 (bwd c 3)) 0 ∗ semVal (dC c 5 (bwd c 4)) 0 ∗ semVal (dC c 5 (bwd c 5)) 0 ∗ semVal (dC c 5 (bwd c 6)) 0 ∗ semVal (dC c 5 (bwd c 7)) 0) -∗ wp frame (wpE (defs₀ (F := F)) 𝒱₀ (c : Thread nD τ) none) Set.univ (k (gmax am) (Scalar.ofBits .f32 0x43E00000#32)) Q) -∗
      wp frame (wpE (defs₀ (F := F)) 𝒱₀ (c : Thread nD τ) none) Set.univ (do
        let _ ← q18 c v2 v522
        let _ ← q19 c v2
        let v618 ← q20 c v2
        let ⟨v649, cst_509⟩ ← q21 c v2 v618
        k v649 cst_509) Q) := by
  iintro ⟨#HR, HO, HA, HA', ⟨Hl2, Ht2, Hr2, Hl3, Ht3, Hr3, Hl4, Ht4, Hr4, Hl5, Ht5, Hr5, Hl6, Ht6, Hr6, Hl7, Ht7, Hr7⟩, Hc1, Hp1, Hc2, Hp2, Hc3, Hp3, Hc4, Hp4, Hc5, Hp5, Hc6, Hp6, Hc7, Hp7⟩ HQ
  simp -proj only [q18, q19, q20, q21, k0_part18_eq_skeleton, k0_part19_eq_skeleton, k0_part20_eq_skeleton, k0_part21_eq_skeleton]
  unfold k0_part18_skel k0_part19_skel k0_part20_skel k0_part21_skel
  simp -proj only [Prog.lift, Prog.bind_op, Prog.bind_ret, Prog.pure_eq_ret]
  unfold lendAx
  have hs2 : (owns (c : Thread nD τ) (axRow c) (rst 1) (am c) : sProp 𝕄) ⊢ iprop(owns (c : Thread nD τ) (axRow c) (shr 2) (am c) ∗ owns (c : Thread nD τ) (axRow c) (rst 2) (am c)) := half c (axRow c) _ (am c)
  ihave HA' := hs2 $$ HA'
  icases HA' with ⟨HS, HA'⟩
  iapply (step_send am bv qv K c (fwd c 2) 4 2 5 (live_ax_send c 2 (by decide)) (live_ax_recv c 2 (by decide)) 10 (by decide) rfl rfl rfl rfl
    (payG_ax am bv qv (fwd c 2) c)
    (d' := ⟨k0_dev11 c, k0_dev11_lt c⟩) (Fin.ext (k0_dev11_eq c)) (sem_dS 4 rfl _ ![2] inb_S8_S1_2 2 rfl _) (sem_dS 5 rfl _ (k0_off2 c) (k0_off2_inb c) c (k0_off2_eq c) _) rfl) $$ [HO HS Hl2 Ht2 Hr2]
  · iframe HO HS Hl2 Ht2 Hr2
    iexact HR
  iintro ⟨Hx2, HO⟩
  have hs3 : (owns (c : Thread nD τ) (axRow c) (rst 2) (am c) : sProp 𝕄) ⊢ iprop(owns (c : Thread nD τ) (axRow c) (shr 3) (am c) ∗ owns (c : Thread nD τ) (axRow c) (rst 3) (am c)) := half c (axRow c) _ (am c)
  ihave HA' := hs3 $$ HA'
  icases HA' with ⟨HS, HA'⟩
  iapply (step_send am bv qv K c (fwd c 3) 4 3 5 (live_ax_send c 3 (by decide)) (live_ax_recv c 3 (by decide)) 11 (by decide) rfl rfl rfl rfl
    (payG_ax am bv qv (fwd c 3) c)
    (d' := ⟨k0_dev12 c, k0_dev12_lt c⟩) (Fin.ext (k0_dev12_eq c)) (sem_dS 4 rfl _ ![3] inb_S8_S1_3 3 rfl _) (sem_dS 5 rfl _ (k0_off2 c) (k0_off2_inb c) c (k0_off2_eq c) _) rfl) $$ [HO HS Hl3 Ht3 Hr3]
  · iframe HO HS Hl3 Ht3 Hr3
    iexact HR
  iintro ⟨Hx3, HO⟩
  have hs4 : (owns (c : Thread nD τ) (axRow c) (rst 3) (am c) : sProp 𝕄) ⊢ iprop(owns (c : Thread nD τ) (axRow c) (shr 4) (am c) ∗ owns (c : Thread nD τ) (axRow c) (rst 4) (am c)) := half c (axRow c) _ (am c)
  ihave HA' := hs4 $$ HA'
  icases HA' with ⟨HS, HA'⟩
  iapply (step_send am bv qv K c (fwd c 4) 4 4 5 (live_ax_send c 4 (by decide)) (live_ax_recv c 4 (by decide)) 12 (by decide) rfl rfl rfl rfl
    (payG_ax am bv qv (fwd c 4) c)
    (d' := ⟨k0_dev13 c, k0_dev13_lt c⟩) (Fin.ext (k0_dev13_eq c)) (sem_dS 4 rfl _ ![4] inb_S8_S1_4 4 rfl _) (sem_dS 5 rfl _ (k0_off2 c) (k0_off2_inb c) c (k0_off2_eq c) _) rfl) $$ [HO HS Hl4 Ht4 Hr4]
  · iframe HO HS Hl4 Ht4 Hr4
    iexact HR
  iintro ⟨Hx4, HO⟩
  have hs5 : (owns (c : Thread nD τ) (axRow c) (rst 4) (am c) : sProp 𝕄) ⊢ iprop(owns (c : Thread nD τ) (axRow c) (shr 5) (am c) ∗ owns (c : Thread nD τ) (axRow c) (rst 5) (am c)) := half c (axRow c) _ (am c)
  ihave HA' := hs5 $$ HA'
  icases HA' with ⟨HS, HA'⟩
  iapply (step_send am bv qv K c (fwd c 5) 4 5 5 (live_ax_send c 5 (by decide)) (live_ax_recv c 5 (by decide)) 13 (by decide) rfl rfl rfl rfl
    (payG_ax am bv qv (fwd c 5) c)
    (d' := ⟨k0_dev14 c, k0_dev14_lt c⟩) (Fin.ext (k0_dev14_eq c)) (sem_dS 4 rfl _ ![5] inb_S8_S1_5 5 rfl _) (sem_dS 5 rfl _ (k0_off2 c) (k0_off2_inb c) c (k0_off2_eq c) _) rfl) $$ [HO HS Hl5 Ht5 Hr5]
  · iframe HO HS Hl5 Ht5 Hr5
    iexact HR
  iintro ⟨Hx5, HO⟩
  have hs6 : (owns (c : Thread nD τ) (axRow c) (rst 5) (am c) : sProp 𝕄) ⊢ iprop(owns (c : Thread nD τ) (axRow c) (shr 6) (am c) ∗ owns (c : Thread nD τ) (axRow c) (rst 6) (am c)) := half c (axRow c) _ (am c)
  ihave HA' := hs6 $$ HA'
  icases HA' with ⟨HS, HA'⟩
  iapply (step_send am bv qv K c (fwd c 6) 4 6 5 (live_ax_send c 6 (by decide)) (live_ax_recv c 6 (by decide)) 14 (by decide) rfl rfl rfl rfl
    (payG_ax am bv qv (fwd c 6) c)
    (d' := ⟨k0_dev15 c, k0_dev15_lt c⟩) (Fin.ext (k0_dev15_eq c)) (sem_dS 4 rfl _ ![6] inb_S8_S1_6 6 rfl _) (sem_dS 5 rfl _ (k0_off2 c) (k0_off2_inb c) c (k0_off2_eq c) _) rfl) $$ [HO HS Hl6 Ht6 Hr6]
  · iframe HO HS Hl6 Ht6 Hr6
    iexact HR
  iintro ⟨Hx6, HO⟩
  have hs7 : (owns (c : Thread nD τ) (axRow c) (rst 6) (am c) : sProp 𝕄) ⊢ owns (c : Thread nD τ) (axRow c) (shr 7) (am c) := .rfl
  ihave HS := hs7 $$ HA'
  iapply (step_send am bv qv K c (fwd c 7) 4 7 5 (live_ax_send c 7 (by decide)) (live_ax_recv c 7 (by decide)) 15 (by decide) rfl rfl rfl rfl
    (payG_ax am bv qv (fwd c 7) c)
    (d' := ⟨k0_dev16 c, k0_dev16_lt c⟩) (Fin.ext (k0_dev16_eq c)) (sem_dS 4 rfl _ ![7] inb_S8_S1_7 7 rfl _) (sem_dS 5 rfl _ (k0_off2 c) (k0_off2_inb c) c (k0_off2_eq c) _) rfl) $$ [HO HS Hl7 Ht7 Hr7]
  · iframe HO HS Hl7 Ht7 Hr7
    iexact HR
  iintro ⟨Hx7, HO⟩
  iapply (step_wait am bv qv K c 5 (bwd c 1) (live_ax_wait c 1 (by decide)) 16 (by intro j h1 h2; rw [lv_dS]; interval_cases j <;> decide)
    (sem_dS 5 rfl _ (k0_off6 c 1#32) (k0_off6_inb c 0) (bwd c 1) (off6_bwd c 0) _) rfl) $$ [HO Hc1 Hp1]
  · iframe HO Hc1 Hp1
    iexact HR
  iintro ⟨HO, Hz1, Hw1⟩
  have hw1 : (payG am bv qv c ((5 : Fin 6).castLE (by decide)) (bwd c 1) : sProp 𝕄) ⊢ iprop(owns (c : Thread nD τ) (axRow (bwd c 1)) (fullShare : PosShare TreeShare).left (am (bwd c 1)) ∗ owns (c : Thread nD τ) (axRow (bwd c 1)) (fullShare : PosShare TreeShare).right (am (bwd c 1))) := half c (axRow (bwd c 1)) fullShare (am (bwd c 1))
  ihave Hw1 := hw1 $$ Hw1
  icases Hw1 with ⟨Hw1, Hy1⟩
  iapply (step_wait am bv qv K c 5 (bwd c 2) (live_ax_wait c 2 (by decide)) 16 (by intro j h1 h2; rw [lv_dS]; interval_cases j <;> decide)
    (sem_dS 5 rfl _ (k0_off6 c 2#32) (k0_off6_inb c 1) (bwd c 2) (off6_bwd c 1) _) rfl) $$ [HO Hc2 Hp2]
  · iframe HO Hc2 Hp2
    iexact HR
  iintro ⟨HO, Hz2, Hw2⟩
  have hw2 : (payG am bv qv c ((5 : Fin 6).castLE (by decide)) (bwd c 2) : sProp 𝕄) ⊢ iprop(owns (c : Thread nD τ) (axRow (bwd c 2)) (fullShare : PosShare TreeShare).left (am (bwd c 2)) ∗ owns (c : Thread nD τ) (axRow (bwd c 2)) (fullShare : PosShare TreeShare).right (am (bwd c 2))) := half c (axRow (bwd c 2)) fullShare (am (bwd c 2))
  ihave Hw2 := hw2 $$ Hw2
  icases Hw2 with ⟨Hw2, Hy2⟩
  iapply (step_wait am bv qv K c 5 (bwd c 3) (live_ax_wait c 3 (by decide)) 16 (by intro j h1 h2; rw [lv_dS]; interval_cases j <;> decide)
    (sem_dS 5 rfl _ (k0_off6 c 3#32) (k0_off6_inb c 2) (bwd c 3) (off6_bwd c 2) _) rfl) $$ [HO Hc3 Hp3]
  · iframe HO Hc3 Hp3
    iexact HR
  iintro ⟨HO, Hz3, Hw3⟩
  have hw3 : (payG am bv qv c ((5 : Fin 6).castLE (by decide)) (bwd c 3) : sProp 𝕄) ⊢ iprop(owns (c : Thread nD τ) (axRow (bwd c 3)) (fullShare : PosShare TreeShare).left (am (bwd c 3)) ∗ owns (c : Thread nD τ) (axRow (bwd c 3)) (fullShare : PosShare TreeShare).right (am (bwd c 3))) := half c (axRow (bwd c 3)) fullShare (am (bwd c 3))
  ihave Hw3 := hw3 $$ Hw3
  icases Hw3 with ⟨Hw3, Hy3⟩
  iapply (step_wait am bv qv K c 5 (bwd c 4) (live_ax_wait c 4 (by decide)) 16 (by intro j h1 h2; rw [lv_dS]; interval_cases j <;> decide)
    (sem_dS 5 rfl _ (k0_off6 c 4#32) (k0_off6_inb c 3) (bwd c 4) (off6_bwd c 3) _) rfl) $$ [HO Hc4 Hp4]
  · iframe HO Hc4 Hp4
    iexact HR
  iintro ⟨HO, Hz4, Hw4⟩
  have hw4 : (payG am bv qv c ((5 : Fin 6).castLE (by decide)) (bwd c 4) : sProp 𝕄) ⊢ iprop(owns (c : Thread nD τ) (axRow (bwd c 4)) (fullShare : PosShare TreeShare).left (am (bwd c 4)) ∗ owns (c : Thread nD τ) (axRow (bwd c 4)) (fullShare : PosShare TreeShare).right (am (bwd c 4))) := half c (axRow (bwd c 4)) fullShare (am (bwd c 4))
  ihave Hw4 := hw4 $$ Hw4
  icases Hw4 with ⟨Hw4, Hy4⟩
  iapply (step_wait am bv qv K c 5 (bwd c 5) (live_ax_wait c 5 (by decide)) 16 (by intro j h1 h2; rw [lv_dS]; interval_cases j <;> decide)
    (sem_dS 5 rfl _ (k0_off6 c 5#32) (k0_off6_inb c 4) (bwd c 5) (off6_bwd c 4) _) rfl) $$ [HO Hc5 Hp5]
  · iframe HO Hc5 Hp5
    iexact HR
  iintro ⟨HO, Hz5, Hw5⟩
  have hw5 : (payG am bv qv c ((5 : Fin 6).castLE (by decide)) (bwd c 5) : sProp 𝕄) ⊢ iprop(owns (c : Thread nD τ) (axRow (bwd c 5)) (fullShare : PosShare TreeShare).left (am (bwd c 5)) ∗ owns (c : Thread nD τ) (axRow (bwd c 5)) (fullShare : PosShare TreeShare).right (am (bwd c 5))) := half c (axRow (bwd c 5)) fullShare (am (bwd c 5))
  ihave Hw5 := hw5 $$ Hw5
  icases Hw5 with ⟨Hw5, Hy5⟩
  iapply (step_wait am bv qv K c 5 (bwd c 6) (live_ax_wait c 6 (by decide)) 16 (by intro j h1 h2; rw [lv_dS]; interval_cases j <;> decide)
    (sem_dS 5 rfl _ (k0_off6 c 6#32) (k0_off6_inb c 5) (bwd c 6) (off6_bwd c 5) _) rfl) $$ [HO Hc6 Hp6]
  · iframe HO Hc6 Hp6
    iexact HR
  iintro ⟨HO, Hz6, Hw6⟩
  have hw6 : (payG am bv qv c ((5 : Fin 6).castLE (by decide)) (bwd c 6) : sProp 𝕄) ⊢ iprop(owns (c : Thread nD τ) (axRow (bwd c 6)) (fullShare : PosShare TreeShare).left (am (bwd c 6)) ∗ owns (c : Thread nD τ) (axRow (bwd c 6)) (fullShare : PosShare TreeShare).right (am (bwd c 6))) := half c (axRow (bwd c 6)) fullShare (am (bwd c 6))
  ihave Hw6 := hw6 $$ Hw6
  icases Hw6 with ⟨Hw6, Hy6⟩
  iapply (step_wait am bv qv K c 5 (bwd c 7) (live_ax_wait c 7 (by decide)) 16 (by intro j h1 h2; rw [lv_dS]; interval_cases j <;> decide)
    (sem_dS 5 rfl _ (k0_off6 c 7#32) (k0_off6_inb c 6) (bwd c 7) (off6_bwd c 6) _) rfl) $$ [HO Hc7 Hp7]
  · iframe HO Hc7 Hp7
    iexact HR
  iintro ⟨HO, Hz7, Hw7⟩
  have hw7 : (payG am bv qv c ((5 : Fin 6).castLE (by decide)) (bwd c 7) : sProp 𝕄) ⊢ iprop(owns (c : Thread nD τ) (axRow (bwd c 7)) (fullShare : PosShare TreeShare).left (am (bwd c 7)) ∗ owns (c : Thread nD τ) (axRow (bwd c 7)) (fullShare : PosShare TreeShare).right (am (bwd c 7))) := half c (axRow (bwd c 7)) fullShare (am (bwd c 7))
  ihave Hw7 := hw7 $$ Hw7
  icases Hw7 with ⟨Hw7, Hy7⟩
  ihave HA := (ax_join am c (fullShare : PosShare TreeShare).left) $$ [HA Hw1 Hw2 Hw3 Hw4 Hw5 Hw6 Hw7]
  · iframe HA Hw1 Hw2 Hw3 Hw4 Hw5 Hw6 Hw7
  iapply (step_load c axM (Rect.unit (s := S8x128) ![0, 0] S8x1.size inb_S8x128_S8x1_0_0) (View.loadsAt_vmem h_S8x1) (fullShare : PosShare TreeShare).left (axAll am)) $$ HA
  iintro HA
  simp -proj only [fst_mk, snd_mk, Prog.pure_eq_ret, Prog.bind_ret]
  have hy := bigSep_univ_eq_bigSepL [(0 : Fin 7), 1, 2, 3, 4, 5, 6] (by decide) (by decide) (fun k : Fin 7 => (owns (c : Thread nD τ) (axRow (bwd c (k.val + 1))) (fullShare : PosShare TreeShare).right (am (bwd c (k.val + 1))) : sProp 𝕄))
  have hy' : (iprop(owns (c : Thread nD τ) (axRow (bwd c 1)) (fullShare : PosShare TreeShare).right (am (bwd c 1)) ∗ owns (c : Thread nD τ) (axRow (bwd c 2)) (fullShare : PosShare TreeShare).right (am (bwd c 2)) ∗ owns (c : Thread nD τ) (axRow (bwd c 3)) (fullShare : PosShare TreeShare).right (am (bwd c 3)) ∗ owns (c : Thread nD τ) (axRow (bwd c 4)) (fullShare : PosShare TreeShare).right (am (bwd c 4)) ∗ owns (c : Thread nD τ) (axRow (bwd c 5)) (fullShare : PosShare TreeShare).right (am (bwd c 5)) ∗ owns (c : Thread nD τ) (axRow (bwd c 6)) (fullShare : PosShare TreeShare).right (am (bwd c 6)) ∗ owns (c : Thread nD τ) (axRow (bwd c 7)) (fullShare : PosShare TreeShare).right (am (bwd c 7))) : sProp 𝕄) ⊢ bigSep Finset.univ fun k : Fin 7 => owns (c : Thread nD τ) (axRow (bwd c (k.val + 1))) (fullShare : PosShare TreeShare).right (am (bwd c (k.val + 1))) := by rw [hy]; exact .rfl
  ihave HY := hy' $$ [Hy1 Hy2 Hy3 Hy4 Hy5 Hy6 Hy7]
  · iframe Hy1 Hy2 Hy3 Hy4 Hy5 Hy6 Hy7
  iapply HQ
  iframe HO HA HY Hx2 Hx3 Hx4 Hx5 Hx6 Hx7 Hz1 Hz2 Hz3 Hz4 Hz5 Hz6 Hz7

end Cert.KernelIdeal.Run
-- ==== Proof.StageD.lean ====
/- The blocks quantised and sent. -/
module

public import proofs.«01_k».proof.Proof.StageC

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (am : Dev nD → S1x128.Idx → Elt F .f32) (bv : Dev nD → ℕ → S512x1024.Idx → Elt F .bf16) (qv : Dev nD → ℕ → S512x1024.Idx → Elt F .fp8e4m3)
variable (K : Dev nD × CS → ℕ)

local notation "𝕄" => MT nD τ sig Unit (Elt F) ℕ UU ℕ

abbrev scM : Memref sig .tc .smem S1x2 .f32 := Memref.whole cc0_scratch1
abbrev sc0 : Memref sig .tc .smem S1x1 .f32 := scM.slice (Rect.unit (s := S1x2) ![0, 0] S1x1.size inb_S1x2_S1x1_0_0) (fun _ => rfl)
abbrev sc1 : Memref sig .tc .smem S1x1 .f32 := scM.slice (Rect.unit (s := S1x2) ![0, 1] S1x1.size inb_S1x2_S1x1_0_1) (fun _ => rfl)
abbrev paM : Memref sig .tc .vmem S512x6144 .f32 := Memref.whole cc0_scratch3

/-- Columns 0 … of the kept blocks. -/
abbrev pcol3 (P : S512x6144.Idx → Elt F .f32) : Vec F S512x1024 .f32 := fun j => P ((Rect.unit (s := S512x6144) ![0, 0] S512x1024.size inb_S512x6144_S512x1024_0_0).emb j)
/-- Columns 1024 … of the kept blocks. -/
abbrev pcol4 (P : S512x6144.Idx → Elt F .f32) : Vec F S512x1024 .f32 := fun j => P ((Rect.unit (s := S512x6144) ![0, 1024] S512x1024.size inb_S512x6144_S512x1024_0_1024).emb j)
/-- Columns 2048 … of the kept blocks. -/
abbrev pcol5 (P : S512x6144.Idx → Elt F .f32) : Vec F S512x1024 .f32 := fun j => P ((Rect.unit (s := S512x6144) ![0, 2048] S512x1024.size inb_S512x6144_S512x1024_0_2048).emb j)
/-- Columns 3072 … of the kept blocks. -/
abbrev pcol6 (P : S512x6144.Idx → Elt F .f32) : Vec F S512x1024 .f32 := fun j => P ((Rect.unit (s := S512x6144) ![0, 3072] S512x1024.size inb_S512x6144_S512x1024_0_3072).emb j)
/-- Columns 4096 … of the kept blocks. -/
abbrev pcol7 (P : S512x6144.Idx → Elt F .f32) : Vec F S512x1024 .f32 := fun j => P ((Rect.unit (s := S512x6144) ![0, 4096] S512x1024.size inb_S512x6144_S512x1024_0_4096).emb j)
/-- Columns 5120 … of the kept blocks. -/
abbrev pcol8 (P : S512x6144.Idx → Elt F .f32) : Vec F S512x1024 .f32 := fun j => P ((Rect.unit (s := S512x6144) ![0, 5120] S512x1024.size inb_S512x6144_S512x1024_0_5120).emb j)

set_option maxHeartbeats 4000000 in
theorem stageD (c : Dev nD) (v2 : BitVec 32) (g : F .f32) (P : S512x6144.Idx → Elt F .f32) (h3 : qv c 3 = k0_pay56 g (pcol3 P)) (h4 : qv c 4 = k0_pay56 g (pcol4 P)) (h5 : qv c 5 = k0_pay56 g (pcol5 P)) (h6 : qv c 6 = k0_pay56 g (pcol6 P)) (h7 : qv c 7 = k0_pay56 g (pcol7 P)) (s0 s1 : S1x1.Idx → Elt F .f32)
    {Q : PUnit → sProp (MT nD τ sig Unit (Elt F) ℕ UU ℕ)} (k : F .f32 → Vec F S512x1024 .f32 → FVec F S512x1024 .f32 → Prog (TpuEff nD τ sig (Elt F) Λ₀ .tc) PUnit) :
    iprop(records am bv qv K ∗ ow c 16 ∗ owns (c : Thread nD τ) paM fullShare P ∗ owns (c : Thread nD τ) sc0 fullShare s0 ∗ owns (c : Thread nD τ) sc1 fullShare s1 ∗ (∃ v, owns (c : Thread nD τ) qC3 fullShare v) ∗ lendQ (F := F) (fwd c 3) c ∗ dutyTok (ER F) (dC c 0 3) 0 0 ∗ dutyTok (ER F) (dC (fwd c 3) 1 c) 0 0 ∗ (∃ v, owns (c : Thread nD τ) qC4 fullShare v) ∗ lendQ (F := F) (fwd c 4) c ∗ dutyTok (ER F) (dC c 0 4) 0 0 ∗ dutyTok (ER F) (dC (fwd c 4) 1 c) 0 0 ∗ (∃ v, owns (c : Thread nD τ) qC5 fullShare v) ∗ lendQ (F := F) (fwd c 5) c ∗ dutyTok (ER F) (dC c 0 5) 0 0 ∗ dutyTok (ER F) (dC (fwd c 5) 1 c) 0 0 ∗ (∃ v, owns (c : Thread nD τ) qC6 fullShare v) ∗ lendQ (F := F) (fwd c 6) c ∗ dutyTok (ER F) (dC c 0 6) 0 0 ∗ dutyTok (ER F) (dC (fwd c 6) 1 c) 0 0 ∗ (∃ v, owns (c : Thread nD τ) qC7 fullShare v) ∗ lendQ (F := F) (fwd c 7) c ∗ dutyTok (ER F) (dC c 0 7) 0 0 ∗ dutyTok (ER F) (dC (fwd c 7) 1 c) 0 0)
    ⊢ iprop(((ow c 21 ∗ owns (c : Thread nD τ) paM fullShare P ∗ owns (c : Thread nD τ) sc0 fullShare (fun _ => k0_pay54 g (Scalar.ofBits .f32 0x43E00000#32)) ∗ owns (c : Thread nD τ) sc1 fullShare (fun _ => k0_pay55 g) ∗ cred (tallyAt (dC c 0 3) () 16384) ∗ cred (tallyAt (dC c 0 4) () 16384) ∗ cred (tallyAt (dC c 0 5) () 16384) ∗ cred (tallyAt (dC c 0 6) () 16384) ∗ cred (tallyAt (dC c 0 7) () 16384)) -∗ wp frame (wpE (defs₀ (F := F)) 𝒱₀ (c : Thread nD τ) none) Set.univ (k (k0_pay54 g (Scalar.ofBits .f32 0x43E00000#32)) (pcol8 P) (k0_pay62 (k0_pay55 g))) Q) -∗
      wp frame (wpE (defs₀ (F := F)) 𝒱₀ (c : Thread nD τ) none) Set.univ (do
        let ⟨v650, v651, v673⟩ ← q22 c v2 g (Scalar.ofBits .f32 0x43E00000#32)
        let ⟨v709, v713⟩ ← q23 c v2 v651 v673
        let ⟨v744, v745⟩ ← q24 c v2 v651 v709 v713
        k v650 v744 v745) Q) := by
  iintro ⟨#HR, HO, HP, H0, H1, ⟨%u3, Hq3⟩, Hl3, Ht3, Hr3, ⟨%u4, Hq4⟩, Hl4, Ht4, Hr4, ⟨%u5, Hq5⟩, Hl5, Ht5, Hr5, ⟨%u6, Hq6⟩, Hl6, Ht6, Hr6, ⟨%u7, Hq7⟩, Hl7, Ht7, Hr7⟩ HQ
  simp -proj only [q22, q23, q24, k0_part22_eq_skeleton, k0_part23_eq_skeleton, k0_part24_eq_skeleton]
  unfold k0_part22_skel k0_part23_skel k0_part24_skel
  simp -proj only [smemLoad, smemLoadElt, Prog.lift, Prog.bind_op, Prog.bind_ret, Prog.pure_eq_ret]
  unfold lendQ
  iapply (step_loadS c scM (Rect.unit (s := S1x2) ![0, 0] S1x1.size inb_S1x2_S1x1_0_0) (fun _ => rfl)) $$ H0
  iintro H0
  try simp -proj only [Prog.pure_eq_ret, Prog.bind_op, Prog.bind_ret, fst_mk, snd_mk]
  iapply (step_storeS c scM (Rect.unit (s := S1x2) ![0, 0] S1x1.size inb_S1x2_S1x1_0_0) (fun _ => rfl)) $$ H0
  iintro H0
  iapply (step_loadS c scM (Rect.unit (s := S1x2) ![0, 1] S1x1.size inb_S1x2_S1x1_0_1) (fun _ => rfl)) $$ H1
  iintro H1
  try simp -proj only [Prog.pure_eq_ret, Prog.bind_op, Prog.bind_ret, fst_mk, snd_mk]
  iapply (step_storeS c scM (Rect.unit (s := S1x2) ![0, 1] S1x1.size inb_S1x2_S1x1_0_1) (fun _ => rfl)) $$ H1
  iintro H1
  iapply (step_load c paM (Rect.unit (s := S512x6144) ![0, 0] S512x1024.size inb_S512x6144_S512x1024_0_0) (View.loadsAt_vmem h_S512x1024) fullShare P) $$ HP
  iintro HP
  iapply (step_loadS c qsM (Rect.unit (s := S512x5120) ![0, 0] S512x1024.size inb_S512x5120_S512x1024_0_0) (fun _ => rfl)) $$ Hq3
  iintro Hq3
  iapply (step_storeS c qsM (Rect.unit (s := S512x5120) ![0, 0] S512x1024.size inb_S512x5120_S512x1024_0_0) (fun _ => rfl)) $$ Hq3
  iintro Hq3
  have e3 : (owns (c : Thread nD τ) (qsM.slice (Rect.unit (s := S512x5120) ![0, 0] S512x1024.size inb_S512x5120_S512x1024_0_0) (fun _ => rfl)) fullShare (k0_pay56 g (fun j : (Rect.unit (s := S512x6144) ![0, 0] S512x1024.size inb_S512x6144_S512x1024_0_0).shape.Idx => P ((Rect.unit (s := S512x6144) ![0, 0] S512x1024.size inb_S512x6144_S512x1024_0_0).emb j))) : sProp 𝕄) ⊢ owns (c : Thread nD τ) qC3 fullShare (qv c 3) :=
    Entails.of_eq (congrArg (owns (c : Thread nD τ) qC3 fullShare) h3.symm)
  ihave Hq3 := e3 $$ Hq3
  try simp -proj only [Prog.pure_eq_ret, Prog.bind_op, Prog.bind_ret, fst_mk, snd_mk]
  iapply (step_send am bv qv K c (fwd c 3) 0 3 1 (live_q_send c 3 (by decide)) (live_q_recv c 3 (by decide)) 16 (by decide) rfl rfl rfl rfl
    (payG_q am bv qv c 3)
    (d' := ⟨k0_dev17 c, k0_dev17_lt c⟩) (Fin.ext (k0_dev17_eq c)) (sem_dS 0 rfl _ ![3] inb_S8_S1_3 3 rfl _) (sem_dS 1 rfl _ (k0_off2 c) (k0_off2_inb c) c (k0_off2_eq c) _) rfl) $$ [HO Hq3 Hl3 Ht3 Hr3]
  · iframe HO Hq3 Hl3 Ht3 Hr3
    iexact HR
  iintro ⟨Hx3, HO⟩
  iapply (step_load c paM (Rect.unit (s := S512x6144) ![0, 1024] S512x1024.size inb_S512x6144_S512x1024_0_1024) (View.loadsAt_vmem h_S512x1024) fullShare P) $$ HP
  iintro HP
  iapply (step_loadS c qsM (Rect.unit (s := S512x5120) ![0, 1024] S512x1024.size inb_S512x5120_S512x1024_0_1024) (fun _ => rfl)) $$ Hq4
  iintro Hq4
  iapply (step_storeS c qsM (Rect.unit (s := S512x5120) ![0, 1024] S512x1024.size inb_S512x5120_S512x1024_0_1024) (fun _ => rfl)) $$ Hq4
  iintro Hq4
  have e4 : (owns (c : Thread nD τ) (qsM.slice (Rect.unit (s := S512x5120) ![0, 1024] S512x1024.size inb_S512x5120_S512x1024_0_1024) (fun _ => rfl)) fullShare (k0_pay57 g (fun j : (Rect.unit (s := S512x6144) ![0, 1024] S512x1024.size inb_S512x6144_S512x1024_0_1024).shape.Idx => P ((Rect.unit (s := S512x6144) ![0, 1024] S512x1024.size inb_S512x6144_S512x1024_0_1024).emb j))) : sProp 𝕄) ⊢ owns (c : Thread nD τ) qC4 fullShare (qv c 4) :=
    Entails.of_eq (congrArg (owns (c : Thread nD τ) qC4 fullShare) h4.symm)
  ihave Hq4 := e4 $$ Hq4
  try simp -proj only [Prog.pure_eq_ret, Prog.bind_op, Prog.bind_ret, fst_mk, snd_mk]
  iapply (step_send am bv qv K c (fwd c 4) 0 4 1 (live_q_send c 4 (by decide)) (live_q_recv c 4 (by decide)) 17 (by decide) rfl rfl rfl rfl
    (payG_q am bv qv c 4)
    (d' := ⟨k0_dev18 c, k0_dev18_lt c⟩) (Fin.ext (k0_dev18_eq c)) (sem_dS 0 rfl _ ![4] inb_S8_S1_4 4 rfl _) (sem_dS 1 rfl _ (k0_off2 c) (k0_off2_inb c) c (k0_off2_eq c) _) rfl) $$ [HO Hq4 Hl4 Ht4 Hr4]
  · iframe HO Hq4 Hl4 Ht4 Hr4
    iexact HR
  iintro ⟨Hx4, HO⟩
  iapply (step_load c paM (Rect.unit (s := S512x6144) ![0, 2048] S512x1024.size inb_S512x6144_S512x1024_0_2048) (View.loadsAt_vmem h_S512x1024) fullShare P) $$ HP
  iintro HP
  iapply (step_loadS c qsM (Rect.unit (s := S512x5120) ![0, 2048] S512x1024.size inb_S512x5120_S512x1024_0_2048) (fun _ => rfl)) $$ Hq5
  iintro Hq5
  iapply (step_storeS c qsM (Rect.unit (s := S512x5120) ![0, 2048] S512x1024.size inb_S512x5120_S512x1024_0_2048) (fun _ => rfl)) $$ Hq5
  iintro Hq5
  have e5 : (owns (c : Thread nD τ) (qsM.slice (Rect.unit (s := S512x5120) ![0, 2048] S512x1024.size inb_S512x5120_S512x1024_0_2048) (fun _ => rfl)) fullShare (k0_pay58 (k0_pay55 g) (fun j : (Rect.unit (s := S512x6144) ![0, 2048] S512x1024.size inb_S512x6144_S512x1024_0_2048).shape.Idx => P ((Rect.unit (s := S512x6144) ![0, 2048] S512x1024.size inb_S512x6144_S512x1024_0_2048).emb j))) : sProp 𝕄) ⊢ owns (c : Thread nD τ) qC5 fullShare (qv c 5) :=
    Entails.of_eq (congrArg (owns (c : Thread nD τ) qC5 fullShare) h5.symm)
  ihave Hq5 := e5 $$ Hq5
  try simp -proj only [Prog.pure_eq_ret, Prog.bind_op, Prog.bind_ret, fst_mk, snd_mk]
  iapply (step_send am bv qv K c (fwd c 5) 0 5 1 (live_q_send c 5 (by decide)) (live_q_recv c 5 (by decide)) 18 (by decide) rfl rfl rfl rfl
    (payG_q am bv qv c 5)
    (d' := ⟨k0_dev19 c, k0_dev19_lt c⟩) (Fin.ext (k0_dev19_eq c)) (sem_dS 0 rfl _ ![5] inb_S8_S1_5 5 rfl _) (sem_dS 1 rfl _ (k0_off2 c) (k0_off2_inb c) c (k0_off2_eq c) _) rfl) $$ [HO Hq5 Hl5 Ht5 Hr5]
  · iframe HO Hq5 Hl5 Ht5 Hr5
    iexact HR
  iintro ⟨Hx5, HO⟩
  iapply (step_load c paM (Rect.unit (s := S512x6144) ![0, 3072] S512x1024.size inb_S512x6144_S512x1024_0_3072) (View.loadsAt_vmem h_S512x1024) fullShare P) $$ HP
  iintro HP
  try simp -proj only [Prog.pure_eq_ret, Prog.bind_op, Prog.bind_ret, fst_mk, snd_mk]
  iapply (step_loadS c qsM (Rect.unit (s := S512x5120) ![0, 3072] S512x1024.size inb_S512x5120_S512x1024_0_3072) (fun _ => rfl)) $$ Hq6
  iintro Hq6
  iapply (step_storeS c qsM (Rect.unit (s := S512x5120) ![0, 3072] S512x1024.size inb_S512x5120_S512x1024_0_3072) (fun _ => rfl)) $$ Hq6
  iintro Hq6
  have e6 : (owns (c : Thread nD τ) (qsM.slice (Rect.unit (s := S512x5120) ![0, 3072] S512x1024.size inb_S512x5120_S512x1024_0_3072) (fun _ => rfl)) fullShare (k0_pay60 (k0_pay59 (k0_pay55 g) (fun j : (Rect.unit (s := S512x6144) ![0, 3072] S512x1024.size inb_S512x6144_S512x1024_0_3072).shape.Idx => P ((Rect.unit (s := S512x6144) ![0, 3072] S512x1024.size inb_S512x6144_S512x1024_0_3072).emb j)))) : sProp 𝕄) ⊢ owns (c : Thread nD τ) qC6 fullShare (qv c 6) :=
    Entails.of_eq (congrArg (owns (c : Thread nD τ) qC6 fullShare) h6.symm)
  ihave Hq6 := e6 $$ Hq6
  try simp -proj only [Prog.pure_eq_ret, Prog.bind_op, Prog.bind_ret, fst_mk, snd_mk]
  iapply (step_send am bv qv K c (fwd c 6) 0 6 1 (live_q_send c 6 (by decide)) (live_q_recv c 6 (by decide)) 19 (by decide) rfl rfl rfl rfl
    (payG_q am bv qv c 6)
    (d' := ⟨k0_dev20 c, k0_dev20_lt c⟩) (Fin.ext (k0_dev20_eq c)) (sem_dS 0 rfl _ ![6] inb_S8_S1_6 6 rfl _) (sem_dS 1 rfl _ (k0_off2 c) (k0_off2_inb c) c (k0_off2_eq c) _) rfl) $$ [HO Hq6 Hl6 Ht6 Hr6]
  · iframe HO Hq6 Hl6 Ht6 Hr6
    iexact HR
  iintro ⟨Hx6, HO⟩
  iapply (step_load c paM (Rect.unit (s := S512x6144) ![0, 4096] S512x1024.size inb_S512x6144_S512x1024_0_4096) (View.loadsAt_vmem h_S512x1024) fullShare P) $$ HP
  iintro HP
  iapply (step_loadS c qsM (Rect.unit (s := S512x5120) ![0, 4096] S512x1024.size inb_S512x5120_S512x1024_0_4096) (fun _ => rfl)) $$ Hq7
  iintro Hq7
  iapply (step_storeS c qsM (Rect.unit (s := S512x5120) ![0, 4096] S512x1024.size inb_S512x5120_S512x1024_0_4096) (fun _ => rfl)) $$ Hq7
  iintro Hq7
  have e7 : (owns (c : Thread nD τ) (qsM.slice (Rect.unit (s := S512x5120) ![0, 4096] S512x1024.size inb_S512x5120_S512x1024_0_4096) (fun _ => rfl)) fullShare (k0_pay61 (k0_pay55 g) (fun j : (Rect.unit (s := S512x6144) ![0, 4096] S512x1024.size inb_S512x6144_S512x1024_0_4096).shape.Idx => P ((Rect.unit (s := S512x6144) ![0, 4096] S512x1024.size inb_S512x6144_S512x1024_0_4096).emb j))) : sProp 𝕄) ⊢ owns (c : Thread nD τ) qC7 fullShare (qv c 7) :=
    Entails.of_eq (congrArg (owns (c : Thread nD τ) qC7 fullShare) h7.symm)
  ihave Hq7 := e7 $$ Hq7
  try simp -proj only [Prog.pure_eq_ret, Prog.bind_op, Prog.bind_ret, fst_mk, snd_mk]
  iapply (step_send am bv qv K c (fwd c 7) 0 7 1 (live_q_send c 7 (by decide)) (live_q_recv c 7 (by decide)) 20 (by decide) rfl rfl rfl rfl
    (payG_q am bv qv c 7)
    (d' := ⟨k0_dev21 c, k0_dev21_lt c⟩) (Fin.ext (k0_dev21_eq c)) (sem_dS 0 rfl _ ![7] inb_S8_S1_7 7 rfl _) (sem_dS 1 rfl _ (k0_off2 c) (k0_off2_inb c) c (k0_off2_eq c) _) rfl) $$ [HO Hq7 Hl7 Ht7 Hr7]
  · iframe HO Hq7 Hl7 Ht7 Hr7
    iexact HR
  iintro ⟨Hx7, HO⟩
  iapply (step_load c paM (Rect.unit (s := S512x6144) ![0, 5120] S512x1024.size inb_S512x6144_S512x1024_0_5120) (View.loadsAt_vmem h_S512x1024) fullShare P) $$ HP
  iintro HP
  try simp -proj only [fst_mk, snd_mk, Prog.pure_eq_ret, Prog.bind_ret]
  iapply HQ
  iframe HO HP H0 H1 Hx3 Hx4 Hx5 Hx6 Hx7

end Cert.KernelIdeal.Run
-- ==== Proof.StageE.lean ====
/- The landed blocks, dequantised into the bf16 result. -/
module

public import proofs.«01_k».proof.Proof.StageD

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (am : Dev nD → S1x128.Idx → Elt F .f32) (bv : Dev nD → ℕ → S512x1024.Idx → Elt F .bf16) (qv : Dev nD → ℕ → S512x1024.Idx → Elt F .fp8e4m3)
variable (K : Dev nD × CS → ℕ)

local notation "𝕄" => MT nD τ sig Unit (Elt F) ℕ UU ℕ

theorem off8_eq3 (c : Dev nD) : k0_off3 c = k0_off8 c := (k0_off3_eq c).trans (k0_off8_eq c).symm
theorem bf_own (c : Dev nD) (v : S512x1024.Idx → Elt F .bf16) :
    (owns (c : Thread nD τ) (bfRow c) fullShare v : sProp 𝕄) = owns (c : Thread nD τ) (bfM.slice (Rect.unit (s := S4096x1024) (k0_off8 c) S512x1024.size (k0_off8_inb c)) (fun _ => rfl)) fullShare v :=
  owns_off c bfM (off8_eq3 c) _ _ fullShare v
theorem bf_row3 (c : Dev nD) (v : S512x1024.Idx → Elt F .bf16) :
    (owns (c : Thread nD τ) (bfRow (bwd c 3)) fullShare v : sProp 𝕄) = owns (c : Thread nD τ) (bfM.slice (Rect.unit (s := S4096x1024) (k0_off10 c 3#32) S512x1024.size (k0_off10_inb c 0)) (fun _ => rfl)) fullShare v :=
  owns_off c bfM (off10_bwd c 0).symm _ _ fullShare v
theorem q_row3 (c : Dev nD) (v : S512x1024.Idx → Elt F .fp8e4m3) :
    (owns (c : Thread nD τ) (qRow (bwd c 3)) fullShare v : sProp 𝕄) = owns (c : Thread nD τ) (qrM.slice (Rect.unit (s := S4096x1024) (k0_off10 c 3#32) S512x1024.size (k0_off10_inb c 0)) (fun _ => rfl)) fullShare v :=
  owns_off c qrM (off10_bwd c 0).symm _ _ fullShare v
theorem bf_row4 (c : Dev nD) (v : S512x1024.Idx → Elt F .bf16) :
    (owns (c : Thread nD τ) (bfRow (bwd c 4)) fullShare v : sProp 𝕄) = owns (c : Thread nD τ) (bfM.slice (Rect.unit (s := S4096x1024) (k0_off10 c 4#32) S512x1024.size (k0_off10_inb c 1)) (fun _ => rfl)) fullShare v :=
  owns_off c bfM (off10_bwd c 1).symm _ _ fullShare v
theorem q_row4 (c : Dev nD) (v : S512x1024.Idx → Elt F .fp8e4m3) :
    (owns (c : Thread nD τ) (qRow (bwd c 4)) fullShare v : sProp 𝕄) = owns (c : Thread nD τ) (qrM.slice (Rect.unit (s := S4096x1024) (k0_off10 c 4#32) S512x1024.size (k0_off10_inb c 1)) (fun _ => rfl)) fullShare v :=
  owns_off c qrM (off10_bwd c 1).symm _ _ fullShare v
theorem bf_row5 (c : Dev nD) (v : S512x1024.Idx → Elt F .bf16) :
    (owns (c : Thread nD τ) (bfRow (bwd c 5)) fullShare v : sProp 𝕄) = owns (c : Thread nD τ) (bfM.slice (Rect.unit (s := S4096x1024) (k0_off10 c 5#32) S512x1024.size (k0_off10_inb c 2)) (fun _ => rfl)) fullShare v :=
  owns_off c bfM (off10_bwd c 2).symm _ _ fullShare v
theorem q_row5 (c : Dev nD) (v : S512x1024.Idx → Elt F .fp8e4m3) :
    (owns (c : Thread nD τ) (qRow (bwd c 5)) fullShare v : sProp 𝕄) = owns (c : Thread nD τ) (qrM.slice (Rect.unit (s := S4096x1024) (k0_off10 c 5#32) S512x1024.size (k0_off10_inb c 2)) (fun _ => rfl)) fullShare v :=
  owns_off c qrM (off10_bwd c 2).symm _ _ fullShare v
theorem bf_row6 (c : Dev nD) (v : S512x1024.Idx → Elt F .bf16) :
    (owns (c : Thread nD τ) (bfRow (bwd c 6)) fullShare v : sProp 𝕄) = owns (c : Thread nD τ) (bfM.slice (Rect.unit (s := S4096x1024) (k0_off10 c 6#32) S512x1024.size (k0_off10_inb c 3)) (fun _ => rfl)) fullShare v :=
  owns_off c bfM (off10_bwd c 3).symm _ _ fullShare v
theorem q_row6 (c : Dev nD) (v : S512x1024.Idx → Elt F .fp8e4m3) :
    (owns (c : Thread nD τ) (qRow (bwd c 6)) fullShare v : sProp 𝕄) = owns (c : Thread nD τ) (qrM.slice (Rect.unit (s := S4096x1024) (k0_off10 c 6#32) S512x1024.size (k0_off10_inb c 3)) (fun _ => rfl)) fullShare v :=
  owns_off c qrM (off10_bwd c 3).symm _ _ fullShare v
theorem bf_row7 (c : Dev nD) (v : S512x1024.Idx → Elt F .bf16) :
    (owns (c : Thread nD τ) (bfRow (bwd c 7)) fullShare v : sProp 𝕄) = owns (c : Thread nD τ) (bfM.slice (Rect.unit (s := S4096x1024) (k0_off10 c 7#32) S512x1024.size (k0_off10_inb c 4)) (fun _ => rfl)) fullShare v :=
  owns_off c bfM (off10_bwd c 4).symm _ _ fullShare v
theorem q_row7 (c : Dev nD) (v : S512x1024.Idx → Elt F .fp8e4m3) :
    (owns (c : Thread nD τ) (qRow (bwd c 7)) fullShare v : sProp 𝕄) = owns (c : Thread nD τ) (qrM.slice (Rect.unit (s := S4096x1024) (k0_off10 c 7#32) S512x1024.size (k0_off10_inb c 4)) (fun _ => rfl)) fullShare v :=
  owns_off c qrM (off10_bwd c 4).symm _ _ fullShare v

set_option maxHeartbeats 4000000 in
theorem stageE (c : Dev nD) (v2 : BitVec 32) (sc : F .f32) (y : Vec F S512x1024 .f32) (u : FVec F S512x1024 .f32)
    {Q : PUnit → sProp (MT nD τ sig Unit (Elt F) ℕ UU ℕ)} (k : Prog (TpuEff nD τ sig (Elt F) Λ₀ .tc) PUnit) :
    iprop(records am bv qv K ∗ ow c 21 ∗ (∃ v, owns (c : Thread nD τ) (bfRow c) fullShare v) ∗ ((∃ v, owns (c : Thread nD τ) (bfRow (bwd c 3)) fullShare v) ∗ cred (tallyAt (dC c 1 (bwd c 3)) () 16384) ∗ atPos (ER F) (dC c 1 (bwd c 3)) 0 ∅ 0 ∗ (∃ v, owns (c : Thread nD τ) (bfRow (bwd c 4)) fullShare v) ∗ cred (tallyAt (dC c 1 (bwd c 4)) () 16384) ∗ atPos (ER F) (dC c 1 (bwd c 4)) 0 ∅ 0 ∗ (∃ v, owns (c : Thread nD τ) (bfRow (bwd c 5)) fullShare v) ∗ cred (tallyAt (dC c 1 (bwd c 5)) () 16384) ∗ atPos (ER F) (dC c 1 (bwd c 5)) 0 ∅ 0 ∗ (∃ v, owns (c : Thread nD τ) (bfRow (bwd c 6)) fullShare v) ∗ cred (tallyAt (dC c 1 (bwd c 6)) () 16384) ∗ atPos (ER F) (dC c 1 (bwd c 6)) 0 ∅ 0 ∗ (∃ v, owns (c : Thread nD τ) (bfRow (bwd c 7)) fullShare v) ∗ cred (tallyAt (dC c 1 (bwd c 7)) () 16384) ∗ atPos (ER F) (dC c 1 (bwd c 7)) 0 ∅ 0) ∗ cred (tallyAt (dC c 3 (bwd c 1)) () 32768) ∗ atPos (ER F) (dC c 3 (bwd c 1)) 0 ∅ 0)
    ⊢ iprop(((ow c 21 ∗ owns (c : Thread nD τ) (bfRow c) fullShare (k0_pay63 sc y u) ∗ (owns (c : Thread nD τ) (bfRow (bwd c 3)) fullShare (k0_pay64 sc (qv (bwd c 3) 3)) ∗ (∃ v, owns (c : Thread nD τ) (qRow (bwd c 3)) fullShare v) ∗ semVal (dC c 1 (bwd c 3)) 0 ∗ owns (c : Thread nD τ) (bfRow (bwd c 4)) fullShare (k0_pay64 sc (qv (bwd c 4) 4)) ∗ (∃ v, owns (c : Thread nD τ) (qRow (bwd c 4)) fullShare v) ∗ semVal (dC c 1 (bwd c 4)) 0 ∗ owns (c : Thread nD τ) (bfRow (bwd c 5)) fullShare (k0_pay64 sc (qv (bwd c 5) 5)) ∗ (∃ v, owns (c : Thread nD τ) (qRow (bwd c 5)) fullShare v) ∗ semVal (dC c 1 (bwd c 5)) 0 ∗ owns (c : Thread nD τ) (bfRow (bwd c 6)) fullShare (k0_pay64 sc (qv (bwd c 6) 6)) ∗ (∃ v, owns (c : Thread nD τ) (qRow (bwd c 6)) fullShare v) ∗ semVal (dC c 1 (bwd c 6)) 0 ∗ owns (c : Thread nD τ) (bfRow (bwd c 7)) fullShare (k0_pay64 sc (qv (bwd c 7) 7)) ∗ (∃ v, owns (c : Thread nD τ) (qRow (bwd c 7)) fullShare v) ∗ semVal (dC c 1 (bwd c 7)) 0) ∗ owns (c : Thread nD τ) (bfRow (bwd c 1)) fullShare (bv (bwd c 1) 1) ∗ semVal (dC c 3 (bwd c 1)) 0) -∗ wp frame (wpE (defs₀ (F := F)) 𝒱₀ (c : Thread nD τ) none) Set.univ k Q) -∗
      wp frame (wpE (defs₀ (F := F)) 𝒱₀ (c : Thread nD τ) none) Set.univ (do
        let v781 ← q25 c v2 sc y u
        let ⟨v803, v817⟩ ← q26 c v2 sc v781
        let v847 ← q27 c v2 sc v803 v817
        let _ ← q28 c v2 sc v847
        k) Q) := by
  iintro ⟨#HR, HO, ⟨%u0, H0⟩, ⟨⟨%u3, Hb3⟩, Hc3, Hp3, ⟨%u4, Hb4⟩, Hc4, Hp4, ⟨%u5, Hb5⟩, Hc5, Hp5, ⟨%u6, Hb6⟩, Hc6, Hp6, ⟨%u7, Hb7⟩, Hc7, Hp7⟩, Hc1, Hp1⟩ HQ
  simp -proj only [q25, q26, q27, q28, k0_part25_eq_skeleton, k0_part26_eq_skeleton, k0_part27_eq_skeleton, k0_part28_eq_skeleton]
  unfold k0_part25_skel k0_part26_skel k0_part27_skel k0_part28_skel
  simp -proj only [Prog.lift, Prog.bind_op, Prog.bind_ret, Prog.pure_eq_ret]
  ihave H0 := (Entails.of_eq (bf_own c u0)) $$ H0
  iapply (step_loadS c bfM (Rect.unit (s := S4096x1024) (k0_off8 c) S512x1024.size (k0_off8_inb c)) (fun _ => rfl)) $$ H0
  iintro H0
  iapply (step_storeS c bfM (Rect.unit (s := S4096x1024) (k0_off8 c) S512x1024.size (k0_off8_inb c)) (fun _ => rfl)) $$ H0
  iintro H0
  ihave H0 := (Entails.of_eq (bf_own c (k0_pay63 sc y u)).symm) $$ H0
  iapply (step_wait am bv qv K c 1 (bwd c 3) (live_q_wait c 3 (by decide)) 21 (by intro j h1 h2; rw [lv_dS]; interval_cases j <;> decide)
    (sem_dS 1 rfl _ (k0_off6 c 3#32) (k0_off6_inb c 2) (bwd c 3) (off6_bwd c 2) _) rfl) $$ [HO Hc3 Hp3]
  · iframe HO Hc3 Hp3
    iexact HR
  iintro ⟨HO, Hz3, Hw3⟩
  have hw3 : (payG am bv qv c ((1 : Fin 6).castLE (by decide)) (bwd c 3) : sProp 𝕄) ⊢ owns (c : Thread nD τ) (qrM.slice (Rect.unit (s := S4096x1024) (k0_off10 c 3#32) S512x1024.size (k0_off10_inb c 0)) (fun _ => rfl)) fullShare (qv (bwd c 3) 3) :=
    (show (payG am bv qv c ((1 : Fin 6).castLE (by decide)) (bwd c 3) : sProp 𝕄) ⊢ owns (c : Thread nD τ) (qRow (bwd c 3)) fullShare (qv (bwd c 3) 3) from Entails.of_eq (by
      show owns (c : Thread nD τ) (qRow (bwd c 3)) fullShare (qv (bwd c 3) (back c (bwd c 3))) = _
      rw [show back c (bwd c 3) = 3 from back_bwd c 3])).trans (Entails.of_eq (q_row3 c _))
  ihave Hw3 := hw3 $$ Hw3
  iapply (step_loadS c qrM (Rect.unit (s := S4096x1024) (k0_off10 c 3#32) S512x1024.size (k0_off10_inb c 0)) (fun _ => rfl)) $$ Hw3
  iintro Hw3
  try simp -proj only [fst_mk, snd_mk, Prog.bind_op, Prog.pure_eq_ret, Prog.bind_ret]
  ihave Hb3 := (Entails.of_eq (bf_row3 c u3)) $$ Hb3
  iapply (step_loadS c bfM (Rect.unit (s := S4096x1024) (k0_off10 c 3#32) S512x1024.size (k0_off10_inb c 0)) (fun _ => rfl)) $$ Hb3
  iintro Hb3
  iapply (step_storeS c bfM (Rect.unit (s := S4096x1024) (k0_off10 c 3#32) S512x1024.size (k0_off10_inb c 0)) (fun _ => rfl)) $$ Hb3
  iintro Hb3
  try simp -proj only [fst_mk, snd_mk, Prog.bind_op, Prog.pure_eq_ret, Prog.bind_ret]
  have hb3 : (owns (c : Thread nD τ) (bfM.slice (Rect.unit (s := S4096x1024) (k0_off10 c 3#32) S512x1024.size (k0_off10_inb c 0)) (fun _ => rfl)) fullShare (k0_pay64 sc (qv (bwd c 3) 3)) : sProp 𝕄) ⊢ owns (c : Thread nD τ) (bfRow (bwd c 3)) fullShare (k0_pay64 sc (qv (bwd c 3) 3)) :=
    Entails.of_eq (bf_row3 c (k0_pay64 sc (qv (bwd c 3) 3))).symm
  ihave Hb3 := hb3 $$ Hb3
  ihave Hw3 := (Entails.of_eq (q_row3 c (qv (bwd c 3) 3)).symm) $$ Hw3
  iapply (step_wait am bv qv K c 1 (bwd c 4) (live_q_wait c 4 (by decide)) 21 (by intro j h1 h2; rw [lv_dS]; interval_cases j <;> decide)
    (sem_dS 1 rfl _ (k0_off6 c 4#32) (k0_off6_inb c 3) (bwd c 4) (off6_bwd c 3) _) rfl) $$ [HO Hc4 Hp4]
  · iframe HO Hc4 Hp4
    iexact HR
  iintro ⟨HO, Hz4, Hw4⟩
  have hw4 : (payG am bv qv c ((1 : Fin 6).castLE (by decide)) (bwd c 4) : sProp 𝕄) ⊢ owns (c : Thread nD τ) (qrM.slice (Rect.unit (s := S4096x1024) (k0_off10 c 4#32) S512x1024.size (k0_off10_inb c 1)) (fun _ => rfl)) fullShare (qv (bwd c 4) 4) :=
    (show (payG am bv qv c ((1 : Fin 6).castLE (by decide)) (bwd c 4) : sProp 𝕄) ⊢ owns (c : Thread nD τ) (qRow (bwd c 4)) fullShare (qv (bwd c 4) 4) from Entails.of_eq (by
      show owns (c : Thread nD τ) (qRow (bwd c 4)) fullShare (qv (bwd c 4) (back c (bwd c 4))) = _
      rw [show back c (bwd c 4) = 4 from back_bwd c 4])).trans (Entails.of_eq (q_row4 c _))
  ihave Hw4 := hw4 $$ Hw4
  iapply (step_loadS c qrM (Rect.unit (s := S4096x1024) (k0_off10 c 4#32) S512x1024.size (k0_off10_inb c 1)) (fun _ => rfl)) $$ Hw4
  iintro Hw4
  try simp -proj only [fst_mk, snd_mk, Prog.bind_op, Prog.pure_eq_ret, Prog.bind_ret]
  ihave Hb4 := (Entails.of_eq (bf_row4 c u4)) $$ Hb4
  iapply (step_loadS c bfM (Rect.unit (s := S4096x1024) (k0_off10 c 4#32) S512x1024.size (k0_off10_inb c 1)) (fun _ => rfl)) $$ Hb4
  iintro Hb4
  iapply (step_storeS c bfM (Rect.unit (s := S4096x1024) (k0_off10 c 4#32) S512x1024.size (k0_off10_inb c 1)) (fun _ => rfl)) $$ Hb4
  iintro Hb4
  try simp -proj only [fst_mk, snd_mk, Prog.bind_op, Prog.pure_eq_ret, Prog.bind_ret]
  have hb4 : (owns (c : Thread nD τ) (bfM.slice (Rect.unit (s := S4096x1024) (k0_off10 c 4#32) S512x1024.size (k0_off10_inb c 1)) (fun _ => rfl)) fullShare (k0_pay65 sc (qv (bwd c 4) 4)) : sProp 𝕄) ⊢ owns (c : Thread nD τ) (bfRow (bwd c 4)) fullShare (k0_pay64 sc (qv (bwd c 4) 4)) :=
    Entails.of_eq (bf_row4 c (k0_pay64 sc (qv (bwd c 4) 4))).symm
  ihave Hb4 := hb4 $$ Hb4
  ihave Hw4 := (Entails.of_eq (q_row4 c (qv (bwd c 4) 4)).symm) $$ Hw4
  iapply (step_wait am bv qv K c 1 (bwd c 5) (live_q_wait c 5 (by decide)) 21 (by intro j h1 h2; rw [lv_dS]; interval_cases j <;> decide)
    (sem_dS 1 rfl _ (k0_off6 c 5#32) (k0_off6_inb c 4) (bwd c 5) (off6_bwd c 4) _) rfl) $$ [HO Hc5 Hp5]
  · iframe HO Hc5 Hp5
    iexact HR
  iintro ⟨HO, Hz5, Hw5⟩
  have hw5 : (payG am bv qv c ((1 : Fin 6).castLE (by decide)) (bwd c 5) : sProp 𝕄) ⊢ owns (c : Thread nD τ) (qrM.slice (Rect.unit (s := S4096x1024) (k0_off10 c 5#32) S512x1024.size (k0_off10_inb c 2)) (fun _ => rfl)) fullShare (qv (bwd c 5) 5) :=
    (show (payG am bv qv c ((1 : Fin 6).castLE (by decide)) (bwd c 5) : sProp 𝕄) ⊢ owns (c : Thread nD τ) (qRow (bwd c 5)) fullShare (qv (bwd c 5) 5) from Entails.of_eq (by
      show owns (c : Thread nD τ) (qRow (bwd c 5)) fullShare (qv (bwd c 5) (back c (bwd c 5))) = _
      rw [show back c (bwd c 5) = 5 from back_bwd c 5])).trans (Entails.of_eq (q_row5 c _))
  ihave Hw5 := hw5 $$ Hw5
  iapply (step_loadS c qrM (Rect.unit (s := S4096x1024) (k0_off10 c 5#32) S512x1024.size (k0_off10_inb c 2)) (fun _ => rfl)) $$ Hw5
  iintro Hw5
  try simp -proj only [fst_mk, snd_mk, Prog.bind_op, Prog.pure_eq_ret, Prog.bind_ret]
  ihave Hb5 := (Entails.of_eq (bf_row5 c u5)) $$ Hb5
  iapply (step_loadS c bfM (Rect.unit (s := S4096x1024) (k0_off10 c 5#32) S512x1024.size (k0_off10_inb c 2)) (fun _ => rfl)) $$ Hb5
  iintro Hb5
  iapply (step_storeS c bfM (Rect.unit (s := S4096x1024) (k0_off10 c 5#32) S512x1024.size (k0_off10_inb c 2)) (fun _ => rfl)) $$ Hb5
  iintro Hb5
  try simp -proj only [fst_mk, snd_mk, Prog.bind_op, Prog.pure_eq_ret, Prog.bind_ret]
  have hb5 : (owns (c : Thread nD τ) (bfM.slice (Rect.unit (s := S4096x1024) (k0_off10 c 5#32) S512x1024.size (k0_off10_inb c 2)) (fun _ => rfl)) fullShare (k0_pay67 (k0_pay66 sc (qv (bwd c 5) 5))) : sProp 𝕄) ⊢ owns (c : Thread nD τ) (bfRow (bwd c 5)) fullShare (k0_pay64 sc (qv (bwd c 5) 5)) :=
    Entails.of_eq (bf_row5 c (k0_pay64 sc (qv (bwd c 5) 5))).symm
  ihave Hb5 := hb5 $$ Hb5
  ihave Hw5 := (Entails.of_eq (q_row5 c (qv (bwd c 5) 5)).symm) $$ Hw5
  iapply (step_wait am bv qv K c 1 (bwd c 6) (live_q_wait c 6 (by decide)) 21 (by intro j h1 h2; rw [lv_dS]; interval_cases j <;> decide)
    (sem_dS 1 rfl _ (k0_off6 c 6#32) (k0_off6_inb c 5) (bwd c 6) (off6_bwd c 5) _) rfl) $$ [HO Hc6 Hp6]
  · iframe HO Hc6 Hp6
    iexact HR
  iintro ⟨HO, Hz6, Hw6⟩
  have hw6 : (payG am bv qv c ((1 : Fin 6).castLE (by decide)) (bwd c 6) : sProp 𝕄) ⊢ owns (c : Thread nD τ) (qrM.slice (Rect.unit (s := S4096x1024) (k0_off10 c 6#32) S512x1024.size (k0_off10_inb c 3)) (fun _ => rfl)) fullShare (qv (bwd c 6) 6) :=
    (show (payG am bv qv c ((1 : Fin 6).castLE (by decide)) (bwd c 6) : sProp 𝕄) ⊢ owns (c : Thread nD τ) (qRow (bwd c 6)) fullShare (qv (bwd c 6) 6) from Entails.of_eq (by
      show owns (c : Thread nD τ) (qRow (bwd c 6)) fullShare (qv (bwd c 6) (back c (bwd c 6))) = _
      rw [show back c (bwd c 6) = 6 from back_bwd c 6])).trans (Entails.of_eq (q_row6 c _))
  ihave Hw6 := hw6 $$ Hw6
  iapply (step_loadS c qrM (Rect.unit (s := S4096x1024) (k0_off10 c 6#32) S512x1024.size (k0_off10_inb c 3)) (fun _ => rfl)) $$ Hw6
  iintro Hw6
  try simp -proj only [fst_mk, snd_mk, Prog.bind_op, Prog.pure_eq_ret, Prog.bind_ret]
  ihave Hb6 := (Entails.of_eq (bf_row6 c u6)) $$ Hb6
  iapply (step_loadS c bfM (Rect.unit (s := S4096x1024) (k0_off10 c 6#32) S512x1024.size (k0_off10_inb c 3)) (fun _ => rfl)) $$ Hb6
  iintro Hb6
  iapply (step_storeS c bfM (Rect.unit (s := S4096x1024) (k0_off10 c 6#32) S512x1024.size (k0_off10_inb c 3)) (fun _ => rfl)) $$ Hb6
  iintro Hb6
  try simp -proj only [fst_mk, snd_mk, Prog.bind_op, Prog.pure_eq_ret, Prog.bind_ret]
  have hb6 : (owns (c : Thread nD τ) (bfM.slice (Rect.unit (s := S4096x1024) (k0_off10 c 6#32) S512x1024.size (k0_off10_inb c 3)) (fun _ => rfl)) fullShare (k0_pay68 sc (qv (bwd c 6) 6)) : sProp 𝕄) ⊢ owns (c : Thread nD τ) (bfRow (bwd c 6)) fullShare (k0_pay64 sc (qv (bwd c 6) 6)) :=
    Entails.of_eq (bf_row6 c (k0_pay64 sc (qv (bwd c 6) 6))).symm
  ihave Hb6 := hb6 $$ Hb6
  ihave Hw6 := (Entails.of_eq (q_row6 c (qv (bwd c 6) 6)).symm) $$ Hw6
  iapply (step_wait am bv qv K c 1 (bwd c 7) (live_q_wait c 7 (by decide)) 21 (by intro j h1 h2; rw [lv_dS]; interval_cases j <;> decide)
    (sem_dS 1 rfl _ (k0_off6 c 7#32) (k0_off6_inb c 6) (bwd c 7) (off6_bwd c 6) _) rfl) $$ [HO Hc7 Hp7]
  · iframe HO Hc7 Hp7
    iexact HR
  iintro ⟨HO, Hz7, Hw7⟩
  have hw7 : (payG am bv qv c ((1 : Fin 6).castLE (by decide)) (bwd c 7) : sProp 𝕄) ⊢ owns (c : Thread nD τ) (qrM.slice (Rect.unit (s := S4096x1024) (k0_off10 c 7#32) S512x1024.size (k0_off10_inb c 4)) (fun _ => rfl)) fullShare (qv (bwd c 7) 7) :=
    (show (payG am bv qv c ((1 : Fin 6).castLE (by decide)) (bwd c 7) : sProp 𝕄) ⊢ owns (c : Thread nD τ) (qRow (bwd c 7)) fullShare (qv (bwd c 7) 7) from Entails.of_eq (by
      show owns (c : Thread nD τ) (qRow (bwd c 7)) fullShare (qv (bwd c 7) (back c (bwd c 7))) = _
      rw [show back c (bwd c 7) = 7 from back_bwd c 7])).trans (Entails.of_eq (q_row7 c _))
  ihave Hw7 := hw7 $$ Hw7
  iapply (step_loadS c qrM (Rect.unit (s := S4096x1024) (k0_off10 c 7#32) S512x1024.size (k0_off10_inb c 4)) (fun _ => rfl)) $$ Hw7
  iintro Hw7
  try simp -proj only [fst_mk, snd_mk, Prog.bind_op, Prog.pure_eq_ret, Prog.bind_ret]
  ihave Hb7 := (Entails.of_eq (bf_row7 c u7)) $$ Hb7
  iapply (step_loadS c bfM (Rect.unit (s := S4096x1024) (k0_off10 c 7#32) S512x1024.size (k0_off10_inb c 4)) (fun _ => rfl)) $$ Hb7
  iintro Hb7
  iapply (step_storeS c bfM (Rect.unit (s := S4096x1024) (k0_off10 c 7#32) S512x1024.size (k0_off10_inb c 4)) (fun _ => rfl)) $$ Hb7
  iintro Hb7
  try simp -proj only [fst_mk, snd_mk, Prog.bind_op, Prog.pure_eq_ret, Prog.bind_ret]
  have hb7 : (owns (c : Thread nD τ) (bfM.slice (Rect.unit (s := S4096x1024) (k0_off10 c 7#32) S512x1024.size (k0_off10_inb c 4)) (fun _ => rfl)) fullShare (k0_pay69 sc (qv (bwd c 7) 7)) : sProp 𝕄) ⊢ owns (c : Thread nD τ) (bfRow (bwd c 7)) fullShare (k0_pay64 sc (qv (bwd c 7) 7)) :=
    Entails.of_eq (bf_row7 c (k0_pay64 sc (qv (bwd c 7) 7))).symm
  ihave Hb7 := hb7 $$ Hb7
  ihave Hw7 := (Entails.of_eq (q_row7 c (qv (bwd c 7) 7)).symm) $$ Hw7
  iapply (step_wait am bv qv K c 3 (bwd c 1) (live_bf_wait c 1 (by decide) (by decide)) 21 (by intro j h1 h2; rw [lv_dS]; interval_cases j <;> decide)
    (sem_dS 3 rfl _ (k0_off6 c 1#32) (k0_off6_inb c 0) (bwd c 1) (off6_bwd c 0) _) rfl) $$ [HO Hc1 Hp1]
  · iframe HO Hc1 Hp1
    iexact HR
  iintro ⟨HO, Hz1, Hw1⟩
  have hw1 : (payG am bv qv c ((3 : Fin 6).castLE (by decide)) (bwd c 1) : sProp 𝕄) ⊢ owns (c : Thread nD τ) (bfRow (bwd c 1)) fullShare (bv (bwd c 1) 1) := Entails.of_eq (by
      show owns (c : Thread nD τ) (bfRow (bwd c 1)) fullShare (bv (bwd c 1) (back c (bwd c 1))) = _
      rw [show back c (bwd c 1) = 1 from back_bwd c 1])
  ihave Hw1 := hw1 $$ Hw1
  try simp -proj only [fst_mk, snd_mk, Prog.bind_op, Prog.pure_eq_ret, Prog.bind_ret]
  iapply HQ
  iframe HO H0 Hb3 Hz3 Hb4 Hz4 Hb5 Hz5 Hb6 Hz6 Hb7 Hz7 Hw1 Hz1
  isplitl [Hw3]; · iexists _; iexact Hw3
  isplitl [Hw4]; · iexists _; iexact Hw4
  isplitl [Hw5]; · iexists _; iexact Hw5
  isplitl [Hw6]; · iexists _; iexact Hw6
  iexists _; iexact Hw7

end Cert.KernelIdeal.Run
-- ==== Proof.StageF.lean ====
/- The sources of the copies taken back. -/
module

public import proofs.«01_k».proof.Proof.StageE

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (am : Dev nD → S1x128.Idx → Elt F .f32) (bv : Dev nD → ℕ → S512x1024.Idx → Elt F .bf16) (qv : Dev nD → ℕ → S512x1024.Idx → Elt F .fp8e4m3)
variable (K : Dev nD × CS → ℕ)

local notation "𝕄" => MT nD τ sig Unit (Elt F) ℕ UU ℕ

/-- Halves put together. -/
theorem unhalf (c : Dev nD) {s : Shape} {e : EltTy} (M : Memref sig .tc .vmem s e) (q : PosShare TreeShare) (v : s.Idx → Elt F e) :
    iprop(owns (c : Thread nD τ) M q.left v ∗ owns (c : Thread nD τ) M q.right v) ⊢ (owns (c : Thread nD τ) M q v : sProp 𝕄) := (owns_halves (c : Thread nD τ) M q v).2

set_option maxHeartbeats 4000000 in
theorem stageF (c : Dev nD) (v2 : BitVec 32)
    {Q : PUnit → sProp (MT nD τ sig Unit (Elt F) ℕ UU ℕ)} (k : Prog (TpuEff nD τ sig (Elt F) Λ₀ .tc) PUnit) :
    iprop(records am bv qv K ∗ ow c 21 ∗ owns (c : Thread nD τ) axM (fullShare : PosShare TreeShare).left (axAll am) ∗ (bigSep Finset.univ fun k : Fin 7 => owns (c : Thread nD τ) (axRow (bwd c (k.val + 1))) (fullShare : PosShare TreeShare).right (am (bwd c (k.val + 1))))
      ∗ cred (tallyAt (dC c 3 (bwd c 2)) () 32768) ∗ atPos (ER F) (dC c 3 (bwd c 2)) 0 ∅ 0 ∗ (dutyTok (ER F) (exitC (fwd c 1)) 0 (1 : Fin 8) ∗ dutyTok (ER F) (exitC (fwd c 2)) 0 (2 : Fin 8) ∗ dutyTok (ER F) (exitC (fwd c 3)) 0 (3 : Fin 8) ∗ dutyTok (ER F) (exitC (fwd c 4)) 0 (4 : Fin 8)) ∗ cred (tallyAt (dC c 4 1) () 16) ∗ atPos (ER F) (dC c 4 1) 0 ∅ 0 ∗ cred (tallyAt (dC c 4 2) () 16) ∗ atPos (ER F) (dC c 4 2) 0 ∅ 0 ∗ cred (tallyAt (dC c 4 3) () 16) ∗ atPos (ER F) (dC c 4 3) 0 ∅ 0 ∗ cred (tallyAt (dC c 4 4) () 16) ∗ atPos (ER F) (dC c 4 4) 0 ∅ 0 ∗ cred (tallyAt (dC c 4 5) () 16) ∗ atPos (ER F) (dC c 4 5) 0 ∅ 0 ∗ cred (tallyAt (dC c 4 6) () 16) ∗ atPos (ER F) (dC c 4 6) 0 ∅ 0 ∗ cred (tallyAt (dC c 4 7) () 16) ∗ atPos (ER F) (dC c 4 7) 0 ∅ 0 ∗ cred (tallyAt (dC c 2 1) () 32768) ∗ atPos (ER F) (dC c 2 1) 0 ∅ 0 ∗ cred (tallyAt (dC c 2 2) () 32768) ∗ atPos (ER F) (dC c 2 2) 0 ∅ 0 ∗ cred (tallyAt (dC c 0 3) () 16384) ∗ atPos (ER F) (dC c 0 3) 0 ∅ 0 ∗ cred (tallyAt (dC c 0 4) () 16384) ∗ atPos (ER F) (dC c 0 4) 0 ∅ 0 ∗ cred (tallyAt (dC c 0 5) () 16384) ∗ atPos (ER F) (dC c 0 5) 0 ∅ 0 ∗ cred (tallyAt (dC c 0 6) () 16384) ∗ atPos (ER F) (dC c 0 6) 0 ∅ 0 ∗ cred (tallyAt (dC c 0 7) () 16384) ∗ atPos (ER F) (dC c 0 7) 0 ∅ 0)
    ⊢ iprop(((ow c 25 ∗ owns (c : Thread nD τ) axM fullShare (axAll am) ∗ owns (c : Thread nD τ) (bfRow (bwd c 2)) fullShare (bv (bwd c 2) 2) ∗ semVal (dC c 3 (bwd c 2)) 0 ∗ ((∃ v, owns (c : Thread nD τ) bfC1 fullShare v) ∗ (∃ v, owns (c : Thread nD τ) bfC2 fullShare v) ∗ (∃ v, owns (c : Thread nD τ) qC3 fullShare v) ∗ (∃ v, owns (c : Thread nD τ) qC4 fullShare v) ∗ (∃ v, owns (c : Thread nD τ) qC5 fullShare v) ∗ (∃ v, owns (c : Thread nD τ) qC6 fullShare v) ∗ (∃ v, owns (c : Thread nD τ) qC7 fullShare v)) ∗ semVal (dC c 4 1) 0 ∗ semVal (dC c 4 2) 0 ∗ semVal (dC c 4 3) 0 ∗ semVal (dC c 4 4) 0 ∗ semVal (dC c 4 5) 0 ∗ semVal (dC c 4 6) 0 ∗ semVal (dC c 4 7) 0 ∗ semVal (dC c 2 1) 0 ∗ semVal (dC c 2 2) 0 ∗ semVal (dC c 0 3) 0 ∗ semVal (dC c 0 4) 0 ∗ semVal (dC c 0 5) 0 ∗ semVal (dC c 0 6) 0 ∗ semVal (dC c 0 7) 0) -∗ wp frame (wpE (defs₀ (F := F)) 𝒱₀ (c : Thread nD τ) none) Set.univ k Q) -∗
      wp frame (wpE (defs₀ (F := F)) 𝒱₀ (c : Thread nD τ) none) Set.univ (do
        let _ ← q29 c
        let _ ← q30 c
        let _ ← q31 c v2
        k) Q) := by
  iintro ⟨#HR, HO, HA, HY, Hc0, Hp0, ⟨Ht1, Ht2, Ht3, Ht4⟩, Hc41, Hp41, Hc42, Hp42, Hc43, Hp43, Hc44, Hp44, Hc45, Hp45, Hc46, Hp46, Hc47, Hp47, Hc21, Hp21, Hc22, Hp22, Hc03, Hp03, Hc04, Hp04, Hc05, Hp05, Hc06, Hp06, Hc07, Hp07⟩ HQ
  simp -proj only [q29, q30, q31, k0_part29_eq_skeleton, k0_part30_eq_skeleton, k0_part31_eq_skeleton]
  unfold k0_part29_skel k0_part30_skel k0_part31_skel
  simp -proj only [semSignalWord, Prog.lift, Prog.bind_op, Prog.bind_ret, Prog.pure_eq_ret]
  iapply (step_wait am bv qv K c 3 (bwd c 2) (live_bf_wait c 2 (by decide) (by decide)) 21 (by intro j h1 h2; rw [lv_dS]; interval_cases j <;> decide)
    (sem_dS 3 rfl _ (k0_off6 c 2#32) (k0_off6_inb c 1) (bwd c 2) (off6_bwd c 1) _) rfl) $$ [HO Hc0 Hp0]
  · iframe HO Hc0 Hp0
    iexact HR
  iintro ⟨HO, Hz0, Hw0⟩
  have hw0 : (payG am bv qv c ((3 : Fin 6).castLE (by decide)) (bwd c 2) : sProp 𝕄) ⊢ owns (c : Thread nD τ) (bfRow (bwd c 2)) fullShare (bv (bwd c 2) 2) := Entails.of_eq (by
      show owns (c : Thread nD τ) (bfRow (bwd c 2)) fullShare (bv (bwd c 2) (back c (bwd c 2))) = _
      rw [show back c (bwd c 2) = 2 from back_bwd c 2])
  ihave Hw0 := hw0 $$ Hw0
  iapply (step_wait am bv qv K c 4 1 (live_ax_send c 1 (by decide)) 21 (by intro j h1 h2; rw [lv_dS]; interval_cases j <;> decide)
    (sem_dS 4 rfl _ ![1] inb_S8_S1_1 1 rfl _) rfl) $$ [HO Hc41 Hp41]
  · iframe HO Hc41 Hp41
    iexact HR
  iintro ⟨HO, Hz41, Hw41⟩
  have hw41 : (payG am bv qv c ((4 : Fin 6).castLE (by decide)) 1 : sProp 𝕄) ⊢ owns (c : Thread nD τ) (axRow c) (shr 1) (am c) := .rfl
  ihave Hw41 := hw41 $$ Hw41
  iapply (step_wait am bv qv K c 4 2 (live_ax_send c 2 (by decide)) 21 (by intro j h1 h2; rw [lv_dS]; interval_cases j <;> decide)
    (sem_dS 4 rfl _ ![2] inb_S8_S1_2 2 rfl _) rfl) $$ [HO Hc42 Hp42]
  · iframe HO Hc42 Hp42
    iexact HR
  iintro ⟨HO, Hz42, Hw42⟩
  have hw42 : (payG am bv qv c ((4 : Fin 6).castLE (by decide)) 2 : sProp 𝕄) ⊢ owns (c : Thread nD τ) (axRow c) (shr 2) (am c) := .rfl
  ihave Hw42 := hw42 $$ Hw42
  iapply (step_wait am bv qv K c 4 3 (live_ax_send c 3 (by decide)) 21 (by intro j h1 h2; rw [lv_dS]; interval_cases j <;> decide)
    (sem_dS 4 rfl _ ![3] inb_S8_S1_3 3 rfl _) rfl) $$ [HO Hc43 Hp43]
  · iframe HO Hc43 Hp43
    iexact HR
  iintro ⟨HO, Hz43, Hw43⟩
  have hw43 : (payG am bv qv c ((4 : Fin 6).castLE (by decide)) 3 : sProp 𝕄) ⊢ owns (c : Thread nD τ) (axRow c) (shr 3) (am c) := .rfl
  ihave Hw43 := hw43 $$ Hw43
  iapply (step_wait am bv qv K c 4 4 (live_ax_send c 4 (by decide)) 21 (by intro j h1 h2; rw [lv_dS]; interval_cases j <;> decide)
    (sem_dS 4 rfl _ ![4] inb_S8_S1_4 4 rfl _) rfl) $$ [HO Hc44 Hp44]
  · iframe HO Hc44 Hp44
    iexact HR
  iintro ⟨HO, Hz44, Hw44⟩
  have hw44 : (payG am bv qv c ((4 : Fin 6).castLE (by decide)) 4 : sProp 𝕄) ⊢ owns (c : Thread nD τ) (axRow c) (shr 4) (am c) := .rfl
  ihave Hw44 := hw44 $$ Hw44
  iapply (step_wait am bv qv K c 4 5 (live_ax_send c 5 (by decide)) 21 (by intro j h1 h2; rw [lv_dS]; interval_cases j <;> decide)
    (sem_dS 4 rfl _ ![5] inb_S8_S1_5 5 rfl _) rfl) $$ [HO Hc45 Hp45]
  · iframe HO Hc45 Hp45
    iexact HR
  iintro ⟨HO, Hz45, Hw45⟩
  have hw45 : (payG am bv qv c ((4 : Fin 6).castLE (by decide)) 5 : sProp 𝕄) ⊢ owns (c : Thread nD τ) (axRow c) (shr 5) (am c) := .rfl
  ihave Hw45 := hw45 $$ Hw45
  iapply (step_wait am bv qv K c 4 6 (live_ax_send c 6 (by decide)) 21 (by intro j h1 h2; rw [lv_dS]; interval_cases j <;> decide)
    (sem_dS 4 rfl _ ![6] inb_S8_S1_6 6 rfl _) rfl) $$ [HO Hc46 Hp46]
  · iframe HO Hc46 Hp46
    iexact HR
  iintro ⟨HO, Hz46, Hw46⟩
  have hw46 : (payG am bv qv c ((4 : Fin 6).castLE (by decide)) 6 : sProp 𝕄) ⊢ owns (c : Thread nD τ) (axRow c) (shr 6) (am c) := .rfl
  ihave Hw46 := hw46 $$ Hw46
  iapply (step_wait am bv qv K c 4 7 (live_ax_send c 7 (by decide)) 21 (by intro j h1 h2; rw [lv_dS]; interval_cases j <;> decide)
    (sem_dS 4 rfl _ ![7] inb_S8_S1_7 7 rfl _) rfl) $$ [HO Hc47 Hp47]
  · iframe HO Hc47 Hp47
    iexact HR
  iintro ⟨HO, Hz47, Hw47⟩
  have hw47 : (payG am bv qv c ((4 : Fin 6).castLE (by decide)) 7 : sProp 𝕄) ⊢ owns (c : Thread nD τ) (axRow c) (shr 7) (am c) := .rfl
  ihave Hw47 := hw47 $$ Hw47
  iapply (step_wait am bv qv K c 2 1 (live_bf_send c 1 (by decide) (by decide)) 21 (by intro j h1 h2; rw [lv_dS]; interval_cases j <;> decide)
    (sem_dS 2 rfl _ ![1] inb_S8_S1_1 1 rfl _) rfl) $$ [HO Hc21 Hp21]
  · iframe HO Hc21 Hp21
    iexact HR
  iintro ⟨HO, Hz21, Hw21⟩
  have hw21 : (payG am bv qv c ((2 : Fin 6).castLE (by decide)) 1 : sProp 𝕄) ⊢ owns (c : Thread nD τ) bfC1 fullShare (bv c 1) := .rfl
  ihave Hw21 := hw21 $$ Hw21
  iapply (step_wait am bv qv K c 2 2 (live_bf_send c 2 (by decide) (by decide)) 21 (by intro j h1 h2; rw [lv_dS]; interval_cases j <;> decide)
    (sem_dS 2 rfl _ ![2] inb_S8_S1_2 2 rfl _) rfl) $$ [HO Hc22 Hp22]
  · iframe HO Hc22 Hp22
    iexact HR
  iintro ⟨HO, Hz22, Hw22⟩
  have hw22 : (payG am bv qv c ((2 : Fin 6).castLE (by decide)) 2 : sProp 𝕄) ⊢ owns (c : Thread nD τ) bfC2 fullShare (bv c 2) := .rfl
  ihave Hw22 := hw22 $$ Hw22
  iapply (step_wait am bv qv K c 0 3 (live_q_send c 3 (by decide)) 21 (by intro j h1 h2; rw [lv_dS]; interval_cases j <;> decide)
    (sem_dS 0 rfl _ ![3] inb_S8_S1_3 3 rfl _) rfl) $$ [HO Hc03 Hp03]
  · iframe HO Hc03 Hp03
    iexact HR
  iintro ⟨HO, Hz03, Hw03⟩
  have hw03 : (payG am bv qv c ((0 : Fin 6).castLE (by decide)) 3 : sProp 𝕄) ⊢ owns (c : Thread nD τ) qC3 fullShare (qv c 3) := .rfl
  ihave Hw03 := hw03 $$ Hw03
  iapply (step_wait am bv qv K c 0 4 (live_q_send c 4 (by decide)) 21 (by intro j h1 h2; rw [lv_dS]; interval_cases j <;> decide)
    (sem_dS 0 rfl _ ![4] inb_S8_S1_4 4 rfl _) rfl) $$ [HO Hc04 Hp04]
  · iframe HO Hc04 Hp04
    iexact HR
  iintro ⟨HO, Hz04, Hw04⟩
  have hw04 : (payG am bv qv c ((0 : Fin 6).castLE (by decide)) 4 : sProp 𝕄) ⊢ owns (c : Thread nD τ) qC4 fullShare (qv c 4) := .rfl
  ihave Hw04 := hw04 $$ Hw04
  iapply (step_wait am bv qv K c 0 5 (live_q_send c 5 (by decide)) 21 (by intro j h1 h2; rw [lv_dS]; interval_cases j <;> decide)
    (sem_dS 0 rfl _ ![5] inb_S8_S1_5 5 rfl _) rfl) $$ [HO Hc05 Hp05]
  · iframe HO Hc05 Hp05
    iexact HR
  iintro ⟨HO, Hz05, Hw05⟩
  have hw05 : (payG am bv qv c ((0 : Fin 6).castLE (by decide)) 5 : sProp 𝕄) ⊢ owns (c : Thread nD τ) qC5 fullShare (qv c 5) := .rfl
  ihave Hw05 := hw05 $$ Hw05
  iapply (step_wait am bv qv K c 0 6 (live_q_send c 6 (by decide)) 21 (by intro j h1 h2; rw [lv_dS]; interval_cases j <;> decide)
    (sem_dS 0 rfl _ ![6] inb_S8_S1_6 6 rfl _) rfl) $$ [HO Hc06 Hp06]
  · iframe HO Hc06 Hp06
    iexact HR
  iintro ⟨HO, Hz06, Hw06⟩
  have hw06 : (payG am bv qv c ((0 : Fin 6).castLE (by decide)) 6 : sProp 𝕄) ⊢ owns (c : Thread nD τ) qC6 fullShare (qv c 6) := .rfl
  ihave Hw06 := hw06 $$ Hw06
  iapply (step_wait am bv qv K c 0 7 (live_q_send c 7 (by decide)) 21 (by intro j h1 h2; rw [lv_dS]; interval_cases j <;> decide)
    (sem_dS 0 rfl _ ![7] inb_S8_S1_7 7 rfl _) rfl) $$ [HO Hc07 Hp07]
  · iframe HO Hc07 Hp07
    iexact HR
  iintro ⟨HO, Hz07, Hw07⟩
  have hw07 : (payG am bv qv c ((0 : Fin 6).castLE (by decide)) 7 : sProp 𝕄) ⊢ owns (c : Thread nD τ) qC7 fullShare (qv c 7) := .rfl
  ihave Hw07 := hw07 $$ Hw07
  iapply (step_signal am bv qv K c (fwd c 1) ⟨1, by decide⟩ (.inr (.inl 0)) rfl 1 (by decide) 21 (by decide) rfl rfl (d' := ⟨k0_dev22 c, k0_dev22_lt c⟩) (Fin.ext (k0_dev22_eq c)) rfl) $$ [HO Ht1]
  · isplitr; · iexact HR
    isplitl [HO]; · iexact HO
    isplitl [Ht1]; · iexact Ht1
    have he : (Rd am bv qv).payload ((fwd c 1 : Thread nD τ), .reg ⟨1, by decide⟩) 0 1 = (iprop(emp) : sProp 𝕄) := rfl
    rw [he]; iempintro
  iintro HO
  iapply (step_signal am bv qv K c (fwd c 2) ⟨1, by decide⟩ (.inr (.inl 0)) rfl 2 (by decide) 22 (by decide) rfl rfl (d' := ⟨k0_dev23 c, k0_dev23_lt c⟩) (Fin.ext (k0_dev23_eq c)) rfl) $$ [HO Ht2]
  · isplitr; · iexact HR
    isplitl [HO]; · iexact HO
    isplitl [Ht2]; · iexact Ht2
    have he : (Rd am bv qv).payload ((fwd c 2 : Thread nD τ), .reg ⟨1, by decide⟩) 0 2 = (iprop(emp) : sProp 𝕄) := rfl
    rw [he]; iempintro
  iintro HO
  iapply (step_signal am bv qv K c (fwd c 3) ⟨1, by decide⟩ (.inr (.inl 0)) rfl 3 (by decide) 23 (by decide) rfl rfl (d' := ⟨k0_dev24 c, k0_dev24_lt c⟩) (Fin.ext (k0_dev24_eq c)) rfl) $$ [HO Ht3]
  · isplitr; · iexact HR
    isplitl [HO]; · iexact HO
    isplitl [Ht3]; · iexact Ht3
    have he : (Rd am bv qv).payload ((fwd c 3 : Thread nD τ), .reg ⟨1, by decide⟩) 0 3 = (iprop(emp) : sProp 𝕄) := rfl
    rw [he]; iempintro
  iintro HO
  iapply (step_signal am bv qv K c (fwd c 4) ⟨1, by decide⟩ (.inr (.inl 0)) rfl 4 (by decide) 24 (by decide) rfl rfl (d' := ⟨k0_dev25 c, k0_dev25_lt c⟩) (Fin.ext (k0_dev25_eq c)) rfl) $$ [HO Ht4]
  · isplitr; · iexact HR
    isplitl [HO]; · iexact HO
    isplitl [Ht4]; · iexact Ht4
    have he : (Rd am bv qv).payload ((fwd c 4 : Thread nD τ), .reg ⟨1, by decide⟩) 0 4 = (iprop(emp) : sProp 𝕄) := rfl
    rw [he]; iempintro
  iintro HO
  try simp -proj only [fst_mk, snd_mk, Prog.bind_op, Prog.pure_eq_ret, Prog.bind_ret]
  ihave HS := (show (owns (c : Thread nD τ) (axRow c) (shr 7) (am c) : sProp 𝕄) ⊢ owns (c : Thread nD τ) (axRow c) (rst 6) (am c) from .rfl) $$ Hw47
  have hs6 : (iprop(owns (c : Thread nD τ) (axRow c) (shr 6) (am c) ∗ owns (c : Thread nD τ) (axRow c) (rst 6) (am c)) : sProp 𝕄) ⊢ owns (c : Thread nD τ) (axRow c) (rst 5) (am c) := unhalf c (axRow c) (rst 5) (am c)
  ihave HS := hs6 $$ [Hw46 HS]
  · iframe Hw46 HS
  have hs5 : (iprop(owns (c : Thread nD τ) (axRow c) (shr 5) (am c) ∗ owns (c : Thread nD τ) (axRow c) (rst 5) (am c)) : sProp 𝕄) ⊢ owns (c : Thread nD τ) (axRow c) (rst 4) (am c) := unhalf c (axRow c) (rst 4) (am c)
  ihave HS := hs5 $$ [Hw45 HS]
  · iframe Hw45 HS
  have hs4 : (iprop(owns (c : Thread nD τ) (axRow c) (shr 4) (am c) ∗ owns (c : Thread nD τ) (axRow c) (rst 4) (am c)) : sProp 𝕄) ⊢ owns (c : Thread nD τ) (axRow c) (rst 3) (am c) := unhalf c (axRow c) (rst 3) (am c)
  ihave HS := hs4 $$ [Hw44 HS]
  · iframe Hw44 HS
  have hs3 : (iprop(owns (c : Thread nD τ) (axRow c) (shr 3) (am c) ∗ owns (c : Thread nD τ) (axRow c) (rst 3) (am c)) : sProp 𝕄) ⊢ owns (c : Thread nD τ) (axRow c) (rst 2) (am c) := unhalf c (axRow c) (rst 2) (am c)
  ihave HS := hs3 $$ [Hw43 HS]
  · iframe Hw43 HS
  have hs2 : (iprop(owns (c : Thread nD τ) (axRow c) (shr 2) (am c) ∗ owns (c : Thread nD τ) (axRow c) (rst 2) (am c)) : sProp 𝕄) ⊢ owns (c : Thread nD τ) (axRow c) (rst 1) (am c) := unhalf c (axRow c) (rst 1) (am c)
  ihave HS := hs2 $$ [Hw42 HS]
  · iframe Hw42 HS
  have hs1 : (iprop(owns (c : Thread nD τ) (axRow c) (shr 1) (am c) ∗ owns (c : Thread nD τ) (axRow c) (rst 1) (am c)) : sProp 𝕄) ⊢ owns (c : Thread nD τ) (axRow c) (rst 0) (am c) := unhalf c (axRow c) (rst 0) (am c)
  ihave HS := hs1 $$ [Hw41 HS]
  · iframe Hw41 HS
  have hy := bigSep_univ_eq_bigSepL [(0 : Fin 7), 1, 2, 3, 4, 5, 6] (by decide) (by decide) (fun k : Fin 7 => (owns (c : Thread nD τ) (axRow (bwd c (k.val + 1))) (fullShare : PosShare TreeShare).right (am (bwd c (k.val + 1))) : sProp 𝕄))
  have hy' : ((bigSep Finset.univ fun k : Fin 7 => owns (c : Thread nD τ) (axRow (bwd c (k.val + 1))) (fullShare : PosShare TreeShare).right (am (bwd c (k.val + 1)))) : sProp 𝕄) ⊢ iprop(owns (c : Thread nD τ) (axRow (bwd c 1)) (fullShare : PosShare TreeShare).right (am (bwd c 1)) ∗ owns (c : Thread nD τ) (axRow (bwd c 2)) (fullShare : PosShare TreeShare).right (am (bwd c 2)) ∗ owns (c : Thread nD τ) (axRow (bwd c 3)) (fullShare : PosShare TreeShare).right (am (bwd c 3)) ∗ owns (c : Thread nD τ) (axRow (bwd c 4)) (fullShare : PosShare TreeShare).right (am (bwd c 4)) ∗ owns (c : Thread nD τ) (axRow (bwd c 5)) (fullShare : PosShare TreeShare).right (am (bwd c 5)) ∗ owns (c : Thread nD τ) (axRow (bwd c 6)) (fullShare : PosShare TreeShare).right (am (bwd c 6)) ∗ owns (c : Thread nD τ) (axRow (bwd c 7)) (fullShare : PosShare TreeShare).right (am (bwd c 7))) := by rw [hy]; exact .rfl
  ihave HY := hy' $$ HY
  icases HY with ⟨Hy1, Hy2, Hy3, Hy4, Hy5, Hy6, Hy7⟩
  ihave HS := (show (owns (c : Thread nD τ) (axRow c) (rst 0) (am c) : sProp 𝕄) ⊢ owns (c : Thread nD τ) (axRow c) (fullShare : PosShare TreeShare).right (am c) from .rfl) $$ HS
  ihave HS := (ax_join am c (fullShare : PosShare TreeShare).right) $$ [HS Hy1 Hy2 Hy3 Hy4 Hy5 Hy6 Hy7]
  · iframe HS Hy1 Hy2 Hy3 Hy4 Hy5 Hy6 Hy7
  ihave HA := (unhalf c axM fullShare (axAll am)) $$ [HA HS]
  · iframe HA HS
  iapply HQ
  iframe HO HA Hw0 Hz0 Hz41 Hz42 Hz43 Hz44 Hz45 Hz46 Hz47 Hz21 Hz22 Hz03 Hz04 Hz05 Hz06 Hz07
  isplitl [Hw21]; · iexists _; iexact Hw21
  isplitl [Hw22]; · iexists _; iexact Hw22
  isplitl [Hw03]; · iexists _; iexact Hw03
  isplitl [Hw04]; · iexists _; iexact Hw04
  isplitl [Hw05]; · iexists _; iexact Hw05
  isplitl [Hw06]; · iexists _; iexact Hw06
  iexists _; iexact Hw07

end Cert.KernelIdeal.Run
-- ==== Proof.StageG.lean ====
/- The last signals and the result. -/
module

public import proofs.«01_k».proof.Proof.StageE

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (am : Dev nD → S1x128.Idx → Elt F .f32) (bv : Dev nD → ℕ → S512x1024.Idx → Elt F .bf16) (qv : Dev nD → ℕ → S512x1024.Idx → Elt F .fp8e4m3)
variable (K : Dev nD × CS → ℕ)

local notation "𝕄" => MT nD τ sig Unit (Elt F) ℕ UU ℕ

abbrev ouM : Memref sig .tc .vmem S4096x1024 .f32 := Memref.whole cc0_stg1_0
abbrev ouR : Rect S4096x1024 := Rect.unit (s := S4096x1024) ![0, 0] S4096x1024.size inb_S4096x1024_S4096x1024_0_0

theorem ouRead (f : S4096x1024.Idx → Elt F .f32) : View.readAt (Elt F) (Memref.whole cc0_stg1_0).view (Rect.unit ![0, 0] S4096x1024.size inb_S4096x1024_S4096x1024_0_0).toLoadRect f = f :=
  Memref.readAt_unit_zero _ _ (by funext a; fin_cases a <;> rfl) _ _
/-- A store over all of a buffer. -/
theorem step_storeW (c : Dev nD) {v w : S4096x1024.Idx → Elt F .f32} {hx : (ouM.access ouR).Stores Finset.univ} {hm : Finset.univ = Finset.univ ∨ ∀ a, ouR.stride a = 1}
    {Q : PUnit → sProp (MT nD τ sig Unit (Elt F) ℕ UU ℕ)} {k : PUnit → Prog (TpuEff nD τ sig (Elt F) Λ₀ .tc) PUnit} :
    (owns (c : Thread nD τ) ouM fullShare v : sProp 𝕄)
      ⊢ iprop((owns (c : Thread nD τ) ouM fullShare w -∗ wp frame (wpE (defs₀ (F := F)) 𝒱₀ (c : Thread nD τ) none) Set.univ (k ⟨⟩) Q) -∗ wp frame (wpE (defs₀ (F := F)) 𝒱₀ (c : Thread nD τ) none) Set.univ (.op (.store ouM ouR w Finset.univ hx hm) k) Q) := by
  iintro H Hk
  ihave H' := (show owns (c : Thread nD τ) ouM fullShare v ⊢ iprop(∃ g, ⌜ouM.view.read (Elt F) g = v⌝ ∗ ouM.view.loc (c : Thread nD τ) ↦[ouM.view.set]{fullShare} g) from .rfl) $$ H
  icases H' with ⟨%g, %hg, H⟩
  iapply (wp_store 𝒱₀ (c : Thread nD τ) none Set.univ (m := ouM) (r := ouR) (w := w) (Mk := Finset.univ) (hx := hx) (hm := hm) (S := ouM.view.set) (f := g) (View.set_slice_subset _ _)) $$ H
  iintro H
  ihave H := (owns_of_read c ouM fullShare ((ouM.access ouR).write (Elt F) g w Finset.univ) (v := w) (by
    exact (ouRead ((ouM.access ouR).write (Elt F) g w Finset.univ)).symm.trans (View.read_write_univ (v := ouM.access ouR) g w))) $$ H
  iapply Hk $$ H

set_option maxHeartbeats 4000000 in
theorem stageG (c : Dev nD) (a b : F .f32) (B : S4096x1024.Idx → Elt F .bf16)
    {Q : PUnit → sProp (MT nD τ sig Unit (Elt F) ℕ UU ℕ)} (k : Prog (TpuEff nD τ sig (Elt F) Λ₀ .tc) PUnit) :
    iprop(records am bv qv K ∗ ow c 25 ∗ (dutyTok (ER F) (exitC (fwd c 5)) 0 (5 : Fin 8) ∗ dutyTok (ER F) (exitC (fwd c 6)) 0 (6 : Fin 8) ∗ dutyTok (ER F) (exitC (fwd c 7)) 0 (7 : Fin 8)) ∗ cred (tallyAt (exitC c) () 7) ∗ atPos (ER F) (exitC c) 0 ∅ 0
      ∗ owns (c : Thread nD τ) sc0 fullShare (fun _ => a) ∗ owns (c : Thread nD τ) sc1 fullShare (fun _ => b) ∗ owns (c : Thread nD τ) bfM fullShare B ∗ (∃ v, owns (c : Thread nD τ) ouM fullShare v))
    ⊢ iprop(((ow c 28 ∗ semVal (exitC c) 0 ∗ owns (c : Thread nD τ) sc0 fullShare (fun _ => a) ∗ owns (c : Thread nD τ) sc1 fullShare (fun _ => b) ∗ owns (c : Thread nD τ) bfM fullShare B
        ∗ owns (c : Thread nD τ) ouM fullShare (k0_pay1 a b (fun j => B (ouR.emb j)))) -∗ wp frame (wpE (defs₀ (F := F)) 𝒱₀ (c : Thread nD τ) none) Set.univ k Q) -∗
      wp frame (wpE (defs₀ (F := F)) 𝒱₀ (c : Thread nD τ) none) Set.univ (do
        semSignalWord (⟨k0_dev26 c, k0_dev26_lt c⟩ : Dev nD) cc0_scoped0.sem 1#32
        semSignalWord (⟨k0_dev27 c, k0_dev27_lt c⟩ : Dev nD) cc0_scoped0.sem 1#32
        semSignalWord (⟨k0_dev28 c, k0_dev28_lt c⟩ : Dev nD) cc0_scoped0.sem 1#32
        semWaitWord cc0_scoped0.sem 7#32
        let v943 : Elt F .f32 ← smemLoad scM (Rect.unit (s := S1x2) ![0, 0] S1x1.size inb_S1x2_S1x1_0_0) numel1_S1x1 rfl
        let v944 : Elt F .f32 ← smemLoad scM (Rect.unit (s := S1x2) ![0, 1] S1x1.size inb_S1x2_S1x1_0_1) numel1_S1x1 rfl
        let v945 : Vec F S4096x1024 .bf16 ← Prog.lift (.load bfM (Rect.unit (s := S4096x1024) ![0, 0] S4096x1024.size inb_S4096x1024_S4096x1024_0_0).toLoadRect (View.loadsAt_vmem h_S4096x1024))
        let _ ← Prog.lift (.load ouM (Rect.unit (s := S4096x1024) ![0, 0] S4096x1024.size inb_S4096x1024_S4096x1024_0_0).toLoadRect (View.loadsAt_vmem h_S4096x1024))
        Prog.lift (.store ouM (Rect.unit (s := S4096x1024) ![0, 0] S4096x1024.size inb_S4096x1024_S4096x1024_0_0) (k0_pay1 v943 v944 v945) Finset.univ (View.stores_vmem_bits_univ h_S4096x1024 rfl) (.inl rfl))
        k) Q) := by
  iintro ⟨#HR, HO, ⟨Ht5, Ht6, Ht7⟩, Hc, Hp, H0, H1, HB, %v, HV⟩ HQ
  simp -proj only [semSignalWord, semWaitWord, smemLoad, smemLoadElt, Prog.lift, Prog.bind_op, Prog.bind_ret, Prog.pure_eq_ret]
  iapply (step_signal am bv qv K c (fwd c 5) ⟨1, by decide⟩ (.inr (.inl 0)) rfl 5 (by decide) 25 (by decide) rfl rfl (d' := ⟨k0_dev26 c, k0_dev26_lt c⟩) (Fin.ext (k0_dev26_eq c)) rfl) $$ [HO Ht5]
  · isplitr; · iexact HR
    isplitl [HO]; · iexact HO
    isplitl [Ht5]; · iexact Ht5
    have he : (Rd am bv qv).payload ((fwd c 5 : Thread nD τ), .reg ⟨1, by decide⟩) 0 5 = (iprop(emp) : sProp 𝕄) := rfl
    rw [he]; iempintro
  iintro HO
  iapply (step_signal am bv qv K c (fwd c 6) ⟨1, by decide⟩ (.inr (.inl 0)) rfl 6 (by decide) 26 (by decide) rfl rfl (d' := ⟨k0_dev27 c, k0_dev27_lt c⟩) (Fin.ext (k0_dev27_eq c)) rfl) $$ [HO Ht6]
  · isplitr; · iexact HR
    isplitl [HO]; · iexact HO
    isplitl [Ht6]; · iexact Ht6
    have he : (Rd am bv qv).payload ((fwd c 6 : Thread nD τ), .reg ⟨1, by decide⟩) 0 6 = (iprop(emp) : sProp 𝕄) := rfl
    rw [he]; iempintro
  iintro HO
  iapply (step_signal am bv qv K c (fwd c 7) ⟨1, by decide⟩ (.inr (.inl 0)) rfl 7 (by decide) 27 (by decide) rfl rfl (d' := ⟨k0_dev28 c, k0_dev28_lt c⟩) (Fin.ext (k0_dev28_eq c)) rfl) $$ [HO Ht7]
  · isplitr; · iexact HR
    isplitl [HO]; · iexact HO
    isplitl [Ht7]; · iexact Ht7
    have he : (Rd am bv qv).payload ((fwd c 7 : Thread nD τ), .reg ⟨1, by decide⟩) 0 7 = (iprop(emp) : sProp 𝕄) := rfl
    rw [he]; iempintro
  iintro HO
  iapply (step_semWait am bv qv K c ⟨1, by decide⟩ (.inr (.inl 0)) rfl 28 (by intro j h1 h2; omega) rfl) $$ [HO Hc Hp]
  · isplitr; · iexact HR
    isplitl [HO]; · iexact HO
    isplitl [Hc]; · iexact Hc
    iexact Hp
  iintro ⟨HO, Hz, -⟩
  iapply (step_loadS c scM (Rect.unit (s := S1x2) ![0, 0] S1x1.size inb_S1x2_S1x1_0_0) (fun _ => rfl)) $$ H0
  iintro H0
  try simp -proj only [Prog.pure_eq_ret, Prog.bind_op, Prog.bind_ret, fst_mk, snd_mk]
  iapply (step_loadS c scM (Rect.unit (s := S1x2) ![0, 1] S1x1.size inb_S1x2_S1x1_0_1) (fun _ => rfl)) $$ H1
  iintro H1
  try simp -proj only [Prog.pure_eq_ret, Prog.bind_op, Prog.bind_ret, fst_mk, snd_mk]
  iapply (step_load c bfM (Rect.unit (s := S4096x1024) ![0, 0] S4096x1024.size inb_S4096x1024_S4096x1024_0_0) (View.loadsAt_vmem h_S4096x1024) fullShare B) $$ HB
  iintro HB
  iapply (step_load c ouM (Rect.unit (s := S4096x1024) ![0, 0] S4096x1024.size inb_S4096x1024_S4096x1024_0_0) (View.loadsAt_vmem h_S4096x1024) fullShare v) $$ HV
  iintro HV
  iapply (step_storeW c) $$ HV
  iintro HV
  try simp -proj only [Prog.pure_eq_ret, Prog.bind_op, Prog.bind_ret, fst_mk, snd_mk]
  iapply HQ
  iframe HO Hz H0 H1 HB HV

end Cert.KernelIdeal.Run
-- ==== Proof.Wins.lean ====
/- Scratch buffers taken apart into the windows the protocol deals in, and put back together. -/
module

public import proofs.«01_k».proof.Proof.StageE
public import proofs.«01_k».proof.Proof.StageF
public import proofs.«01_k».proof.Proof.StageG

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A scratch buffer at some contents, as the run names it. -/
abbrev some0 (c : Dev nD) (b : Ref sig .tc) : sProp 𝕄 := iprop(∃ f : Buf (Elt F) ((c : Thread nD τ).loc b), ((c : Thread nD τ).loc b) ↦{fullShare} f)
/-- A window at some contents. -/
abbrev anyOf (c : Dev nD) {sp : Space} {s : Shape} {e : EltTy} (M : Memref sig .tc sp s e) : sProp 𝕄 := iprop(∃ v, owns (c : Thread nD τ) M fullShare v)

theorem any_whole (c : Dev nD) (b : Ref sig .tc) : (anyOf (F := F) c (Memref.whole b) : sProp 𝕄) = some0 c b := by
  unfold anyOf some0; simp only [owns_whole]

theorem fwd7 (c : Dev nD) : fwd c 7 = bwd c 1 := fwd_eq_bwd c 7 (by decide)
theorem fwd6 (c : Dev nD) : fwd c 6 = bwd c 2 := fwd_eq_bwd c 6 (by decide)
theorem fwd5 (c : Dev nD) : fwd c 5 = bwd c 3 := fwd_eq_bwd c 5 (by decide)
theorem fwd4 (c : Dev nD) : fwd c 4 = bwd c 4 := fwd_eq_bwd c 4 (by decide)
theorem fwd3 (c : Dev nD) : fwd c 3 = bwd c 5 := fwd_eq_bwd c 3 (by decide)
theorem fwd2 (c : Dev nD) : fwd c 2 = bwd c 6 := fwd_eq_bwd c 2 (by decide)
theorem fwd1 (c : Dev nD) : fwd c 1 = bwd c 7 := fwd_eq_bwd c 1 (by decide)

theorem split_bf (c : Dev nD) : (some0 c cc0_scratch0 : sProp 𝕄) ⊢ iprop(anyOf (F := F) c (bfRow c) ∗ anyOf (F := F) c (bfRow (bwd c 1)) ∗ anyOf (F := F) c (bfRow (bwd c 2)) ∗ anyOf (F := F) c (bfRow (bwd c 3)) ∗ anyOf (F := F) c (bfRow (bwd c 4)) ∗ anyOf (F := F) c (bfRow (bwd c 5)) ∗ anyOf (F := F) c (bfRow (bwd c 6)) ∗ anyOf (F := F) c (bfRow (bwd c 7))) := by
  have h : (anyOf (F := F) c bfM : sProp 𝕄) ⊢ bigSep Finset.univ (fun t => anyOf (F := F) c (bfRow t)) :=
    rects_of_owns_any c bfM fullShare rowR (fun _ _ => rfl) rowR_disj rowR_cov
  rw [ring_sep c] at h
  exact (Entails.of_eq (any_whole c cc0_scratch0).symm).trans h
theorem split_q (c : Dev nD) : (some0 c cc0_scratch6 : sProp 𝕄) ⊢ iprop(anyOf (F := F) c (qRow c) ∗ anyOf (F := F) c (qRow (bwd c 1)) ∗ anyOf (F := F) c (qRow (bwd c 2)) ∗ anyOf (F := F) c (qRow (bwd c 3)) ∗ anyOf (F := F) c (qRow (bwd c 4)) ∗ anyOf (F := F) c (qRow (bwd c 5)) ∗ anyOf (F := F) c (qRow (bwd c 6)) ∗ anyOf (F := F) c (qRow (bwd c 7))) := by
  have h : (anyOf (F := F) c qrM : sProp 𝕄) ⊢ bigSep Finset.univ (fun t => anyOf (F := F) c (qRow t)) :=
    rects_of_owns_any c qrM fullShare rowR (fun _ _ => rfl) rowR_disj rowR_cov
  rw [ring_sep c] at h
  exact (Entails.of_eq (any_whole c cc0_scratch6).symm).trans h
theorem split_ax (c : Dev nD) : (some0 c cc0_scratch7 : sProp 𝕄) ⊢ iprop(anyOf (F := F) c (axRow c) ∗ anyOf (F := F) c (axRow (bwd c 1)) ∗ anyOf (F := F) c (axRow (bwd c 2)) ∗ anyOf (F := F) c (axRow (bwd c 3)) ∗ anyOf (F := F) c (axRow (bwd c 4)) ∗ anyOf (F := F) c (axRow (bwd c 5)) ∗ anyOf (F := F) c (axRow (bwd c 6)) ∗ anyOf (F := F) c (axRow (bwd c 7))) := by
  have h : (anyOf (F := F) c axM : sProp 𝕄) ⊢ bigSep Finset.univ (fun t => anyOf (F := F) c (axRow t)) :=
    rects_of_owns_any c axM fullShare axR (fun _ _ => rfl) axR_disj axR_cov
  rw [ring_sep c] at h
  exact (Entails.of_eq (any_whole c cc0_scratch7).symm).trans h
theorem join_q (c : Dev nD) : (iprop(anyOf (F := F) c (qRow c) ∗ anyOf (F := F) c (qRow (bwd c 1)) ∗ anyOf (F := F) c (qRow (bwd c 2)) ∗ anyOf (F := F) c (qRow (bwd c 3)) ∗ anyOf (F := F) c (qRow (bwd c 4)) ∗ anyOf (F := F) c (qRow (bwd c 5)) ∗ anyOf (F := F) c (qRow (bwd c 6)) ∗ anyOf (F := F) c (qRow (bwd c 7))) : sProp 𝕄) ⊢ some0 c cc0_scratch6 := by
  have h : (bigSep Finset.univ (fun t => anyOf (F := F) c (qRow t)) : sProp 𝕄) ⊢ anyOf (F := F) c qrM :=
    owns_any_of_rects c qrM fullShare rowR (fun _ _ => rfl) rowR_disj rowR_cov
  rw [ring_sep c] at h
  exact h.trans (Entails.of_eq (any_whole c cc0_scratch6))
theorem bs_sep (c : Dev nD) : (bigSep Finset.univ (fun t => anyOf (F := F) c (bsM.slice (bR t) (fun _ => rfl))) : sProp 𝕄) = iprop(anyOf (F := F) c bfC1 ∗ anyOf (F := F) c bfC2) :=
  bigSep_univ_eq_bigSepL [(0 : Fin 2), 1] (by decide) (by decide) (fun t => anyOf (F := F) c (bsM.slice (bR t) (fun _ => rfl)))
theorem split_bs (c : Dev nD) : (some0 c cc0_scratch4 : sProp 𝕄) ⊢ iprop(anyOf (F := F) c bfC1 ∗ anyOf (F := F) c bfC2) := by
  have h : (anyOf (F := F) c bsM : sProp 𝕄) ⊢ bigSep Finset.univ (fun t => anyOf (F := F) c (bsM.slice (bR t) (fun _ => rfl))) :=
    rects_of_owns_any c bsM fullShare bR (fun _ _ => rfl) bR_disj bR_cov
  rw [bs_sep] at h
  exact (Entails.of_eq (any_whole c cc0_scratch4).symm).trans h
theorem join_bs (c : Dev nD) : (iprop(anyOf (F := F) c bfC1 ∗ anyOf (F := F) c bfC2) : sProp 𝕄) ⊢ some0 c cc0_scratch4 := by
  have h : (bigSep Finset.univ (fun t => anyOf (F := F) c (bsM.slice (bR t) (fun _ => rfl))) : sProp 𝕄) ⊢ anyOf (F := F) c bsM :=
    owns_any_of_rects c bsM fullShare bR (fun _ _ => rfl) bR_disj bR_cov
  rw [bs_sep] at h
  exact h.trans (Entails.of_eq (any_whole c cc0_scratch4))
theorem qs_sep (c : Dev nD) : (bigSep Finset.univ (fun t => anyOf (F := F) c (qsM.slice (qR t) (fun _ => rfl))) : sProp 𝕄) = iprop(anyOf (F := F) c qC3 ∗ anyOf (F := F) c qC4 ∗ anyOf (F := F) c qC5 ∗ anyOf (F := F) c qC6 ∗ anyOf (F := F) c qC7) :=
  bigSep_univ_eq_bigSepL [(0 : Fin 5), 1, 2, 3, 4] (by decide) (by decide) (fun t => anyOf (F := F) c (qsM.slice (qR t) (fun _ => rfl)))
theorem split_qs (c : Dev nD) : (some0 c cc0_scratch5 : sProp 𝕄) ⊢ iprop(anyOf (F := F) c qC3 ∗ anyOf (F := F) c qC4 ∗ anyOf (F := F) c qC5 ∗ anyOf (F := F) c qC6 ∗ anyOf (F := F) c qC7) := by
  have h : (anyOf (F := F) c qsM : sProp 𝕄) ⊢ bigSep Finset.univ (fun t => anyOf (F := F) c (qsM.slice (qR t) (fun _ => rfl))) :=
    rects_of_owns_any c qsM fullShare qR (fun _ _ => rfl) qR_disj qR_cov
  rw [qs_sep] at h
  exact (Entails.of_eq (any_whole c cc0_scratch5).symm).trans h
theorem join_qs (c : Dev nD) : (iprop(anyOf (F := F) c qC3 ∗ anyOf (F := F) c qC4 ∗ anyOf (F := F) c qC5 ∗ anyOf (F := F) c qC6 ∗ anyOf (F := F) c qC7) : sProp 𝕄) ⊢ some0 c cc0_scratch5 := by
  have h : (bigSep Finset.univ (fun t => anyOf (F := F) c (qsM.slice (qR t) (fun _ => rfl))) : sProp 𝕄) ⊢ anyOf (F := F) c qsM :=
    owns_any_of_rects c qsM fullShare qR (fun _ _ => rfl) qR_disj qR_cov
  rw [qs_sep] at h
  exact h.trans (Entails.of_eq (any_whole c cc0_scratch5))
theorem sc_sep (c : Dev nD) : (bigSep Finset.univ (fun t => anyOf (F := F) c (scM.slice (sR t) (fun _ => rfl))) : sProp 𝕄) = iprop(anyOf (F := F) c sc0 ∗ anyOf (F := F) c sc1) :=
  bigSep_univ_eq_bigSepL [(0 : Fin 2), 1] (by decide) (by decide) (fun t => anyOf (F := F) c (scM.slice (sR t) (fun _ => rfl)))
theorem split_sc (c : Dev nD) : (some0 c cc0_scratch1 : sProp 𝕄) ⊢ iprop(anyOf (F := F) c sc0 ∗ anyOf (F := F) c sc1) := by
  have h : (anyOf (F := F) c scM : sProp 𝕄) ⊢ bigSep Finset.univ (fun t => anyOf (F := F) c (scM.slice (sR t) (fun _ => rfl))) :=
    rects_of_owns_any c scM fullShare sR (fun _ _ => rfl) sR_disj sR_cov
  rw [sc_sep] at h
  exact (Entails.of_eq (any_whole c cc0_scratch1).symm).trans h
theorem join_sc (c : Dev nD) : (iprop(anyOf (F := F) c sc0 ∗ anyOf (F := F) c sc1) : sProp 𝕄) ⊢ some0 c cc0_scratch1 := by
  have h : (bigSep Finset.univ (fun t => anyOf (F := F) c (scM.slice (sR t) (fun _ => rfl))) : sProp 𝕄) ⊢ anyOf (F := F) c scM :=
    owns_any_of_rects c scM fullShare sR (fun _ _ => rfl) sR_disj sR_cov
  rw [sc_sep] at h
  exact h.trans (Entails.of_eq (any_whole c cc0_scratch1))

/-! ## The two slots of the weights -/

abbrev wM : Memref sig .tc .vmem S2x4096x512 .f32 := Memref.whole cc0_scratch2
theorem winb (t : Fin 2) : ∀ a, (![t.val, 0, 0] : Fin 3 → ℕ) a + S1x4096x512.size a ≤ S2x4096x512.size a := by revert t; decide
abbrev wR (t : Fin 2) : Rect S2x4096x512 := Rect.unit (s := S2x4096x512) ![t.val, 0, 0] S1x4096x512.size (winb t)
theorem wR_disj : ∀ t t' : Fin 2, t ≠ t' → Disjoint (wR t).set (wR t').set :=
  unit_disj (s := S2x4096x512) _ _ _ 0 fun t t' h => by
    have : t.val ≠ t'.val := fun h' => h (Fin.ext h')
    show t.val + 1 ≤ t'.val ∨ t'.val + 1 ≤ t.val
    omega
theorem wR_cov : (Finset.univ : Finset (Fin 2)).biUnion (fun t => (wR t).set) = Finset.univ :=
  unit_cov (s := S2x4096x512) _ _ _ fun x => ⟨⟨(x 0).val, (x 0).isLt⟩, fun a => by
    have h1 : (x 1).val < 4096 := (x 1).isLt
    have h2 : (x 2).val < 512 := (x 2).isLt
    fin_cases a
    · show (x 0).val ≤ (x 0).val ∧ (x 0).val < (x 0).val + 1; omega
    · show 0 ≤ (x 1).val ∧ (x 1).val < 0 + 4096; omega
    · show 0 ≤ (x 2).val ∧ (x 2).val < 0 + 512; omega⟩
/-- A slot at some contents, over its cells. -/
abbrev slotAny (c : Dev nD) (M : Memref sig .tc .vmem S4096x512 .f32) : sProp 𝕄 := iprop(∃ B : Buf (Elt F) (M.view.loc (c : Thread nD τ)), (M.view.loc (c : Thread nD τ) ↦[M.view.set]{fullShare} B))
theorem any_open (c : Dev nD) {sp : Space} {s : Shape} {e : EltTy} (M : Memref sig .tc sp s e) :
    (anyOf (F := F) c M : sProp 𝕄) ⊢ iprop(∃ B : Buf (Elt F) (M.view.loc (c : Thread nD τ)), (M.view.loc (c : Thread nD τ) ↦[M.view.set]{fullShare} B)) := by
  iintro ⟨%v, H⟩
  ihave H' := (show owns (c : Thread nD τ) M fullShare v ⊢ iprop(∃ g, ⌜M.view.read (Elt F) g = v⌝ ∗ M.view.loc (c : Thread nD τ) ↦[M.view.set]{fullShare} g) from .rfl) $$ H
  icases H' with ⟨%g, -, H⟩
  iexists g; iexact H
theorem any_close (c : Dev nD) {sp : Space} {s : Shape} {e : EltTy} (M : Memref sig .tc sp s e) :
    (iprop(∃ B : Buf (Elt F) (M.view.loc (c : Thread nD τ)), (M.view.loc (c : Thread nD τ) ↦[M.view.set]{fullShare} B)) : sProp 𝕄) ⊢ anyOf (F := F) c M := by
  iintro ⟨%g, H⟩
  ihave H := (owns_intro (c : Thread nD τ) M fullShare g) $$ H
  iexists _; iexact H
theorem slot0_set : slot0.view.set = (wM.slice (Rect.unit (s := S2x4096x512) ![0, 0, 0] S1x4096x512.size inb_S2x4096x512_S1x4096x512_0_0_0) (fun _ => rfl)).view.set := View.set_reshape _ _
theorem slot0_eq (c : Dev nD) : (slotAny (F := F) c slot0 : sProp 𝕄) = iprop(∃ B : Buf (Elt F) ((wM.slice (Rect.unit (s := S2x4096x512) ![0, 0, 0] S1x4096x512.size inb_S2x4096x512_S1x4096x512_0_0_0) (fun _ => rfl)).view.loc (c : Thread nD τ)), ((wM.slice (Rect.unit (s := S2x4096x512) ![0, 0, 0] S1x4096x512.size inb_S2x4096x512_S1x4096x512_0_0_0) (fun _ => rfl)).view.loc (c : Thread nD τ) ↦[(wM.slice (Rect.unit (s := S2x4096x512) ![0, 0, 0] S1x4096x512.size inb_S2x4096x512_S1x4096x512_0_0_0) (fun _ => rfl)).view.set]{fullShare} B)) := by
  unfold slotAny; rw [slot0_set]
theorem slot1_set : slot1.view.set = (wM.slice (Rect.unit (s := S2x4096x512) ![1, 0, 0] S1x4096x512.size inb_S2x4096x512_S1x4096x512_1_0_0) (fun _ => rfl)).view.set := View.set_reshape _ _
theorem slot1_eq (c : Dev nD) : (slotAny (F := F) c slot1 : sProp 𝕄) = iprop(∃ B : Buf (Elt F) ((wM.slice (Rect.unit (s := S2x4096x512) ![1, 0, 0] S1x4096x512.size inb_S2x4096x512_S1x4096x512_1_0_0) (fun _ => rfl)).view.loc (c : Thread nD τ)), ((wM.slice (Rect.unit (s := S2x4096x512) ![1, 0, 0] S1x4096x512.size inb_S2x4096x512_S1x4096x512_1_0_0) (fun _ => rfl)).view.loc (c : Thread nD τ) ↦[(wM.slice (Rect.unit (s := S2x4096x512) ![1, 0, 0] S1x4096x512.size inb_S2x4096x512_S1x4096x512_1_0_0) (fun _ => rfl)).view.set]{fullShare} B)) := by
  unfold slotAny; rw [slot1_set]
theorem w_sep (c : Dev nD) : (bigSep Finset.univ (fun t => anyOf (F := F) c (wM.slice (wR t) (fun _ => rfl))) : sProp 𝕄) = iprop(anyOf (F := F) c (wM.slice (Rect.unit (s := S2x4096x512) ![0, 0, 0] S1x4096x512.size inb_S2x4096x512_S1x4096x512_0_0_0) (fun _ => rfl)) ∗ anyOf (F := F) c (wM.slice (Rect.unit (s := S2x4096x512) ![1, 0, 0] S1x4096x512.size inb_S2x4096x512_S1x4096x512_1_0_0) (fun _ => rfl))) :=
  bigSep_univ_eq_bigSepL [(0 : Fin 2), 1] (by decide) (by decide) (fun t => anyOf (F := F) c (wM.slice (wR t) (fun _ => rfl)))
theorem split_w (c : Dev nD) : (some0 c cc0_scratch2 : sProp 𝕄) ⊢ iprop(slotAny (F := F) c slot0 ∗ slotAny (F := F) c slot1) := by
  have h : (anyOf (F := F) c wM : sProp 𝕄) ⊢ bigSep Finset.univ (fun t => anyOf (F := F) c (wM.slice (wR t) (fun _ => rfl))) :=
    rects_of_owns_any c wM fullShare wR (fun _ _ => rfl) wR_disj wR_cov
  rw [w_sep] at h
  rw [slot0_eq, slot1_eq]
  exact ((Entails.of_eq (any_whole c cc0_scratch2).symm).trans h).trans (BIClass.sep_mono (any_open c _) (any_open c _))
theorem join_w (c : Dev nD) : (iprop(slotAny (F := F) c slot0 ∗ slotAny (F := F) c slot1) : sProp 𝕄) ⊢ some0 c cc0_scratch2 := by
  have h : (bigSep Finset.univ (fun t => anyOf (F := F) c (wM.slice (wR t) (fun _ => rfl))) : sProp 𝕄) ⊢ anyOf (F := F) c wM :=
    owns_any_of_rects c wM fullShare wR (fun _ _ => rfl) wR_disj wR_cov
  rw [w_sep] at h
  rw [slot0_eq, slot1_eq]
  exact ((BIClass.sep_mono (any_close c _) (any_close c _)).trans h).trans (Entails.of_eq (any_whole c cc0_scratch2))

/-! ## The bf16 result put together -/

/-- Rows of all devices one under the other. -/
def bfAll (R : Dev nD → S512x1024.Idx → Elt F .bf16) : S4096x1024.Idx → Elt F .bf16 :=
  fun x => R ⟨(x 0).val / 512, by have h0 : (x 0).val < 4096 := (x 0).isLt; show _ < 8; omega⟩ (Idealize.ShloMosaic.ValueIdx.ix2 ⟨(x 0).val % 512, Nat.mod_lt _ (by decide)⟩ (x 1))
theorem bfAll_row (R : Dev nD → S512x1024.Idx → Elt F .bf16) (t : Dev nD) : (fun j => bfAll R ((rowR t).emb j)) = R t := by
  funext j
  have h0 : (j 0).val < 512 := (j 0).isLt
  have e0 : (((rowR t).emb j) 0).val = 512 * t.val + (j 0).val := by
    show k0_off3 t 0 + 1 * (j 0).val = _
    rw [k0_off3_eq]; show 512 * t.val + 1 * (j 0).val = _; omega
  have e1 : (((rowR t).emb j) 1).val = (j 1).val := by
    show k0_off3 t 1 + 1 * (j 1).val = _
    rw [k0_off3_eq]; show 0 + 1 * (j 1).val = _; omega
  have ht : (((rowR t).emb j) 0).val / 512 = t.val := by rw [e0]; omega
  have hm : (((rowR t).emb j) 0).val % 512 = (j 0).val := by rw [e0]; omega
  refine congrArg₂ (fun (u : Dev nD) (x : S512x1024.Idx) => R u x) (Fin.ext ht) (funext fun a => ?_)
  fin_cases a
  · exact Fin.ext hm
  · exact Fin.ext e1
theorem join_bf (c : Dev nD) (R : Dev nD → S512x1024.Idx → Elt F .bf16) :
    (iprop(owns (c : Thread nD τ) (bfRow c) fullShare (R c) ∗ owns (c : Thread nD τ) (bfRow (bwd c 1)) fullShare (R (bwd c 1)) ∗ owns (c : Thread nD τ) (bfRow (bwd c 2)) fullShare (R (bwd c 2)) ∗ owns (c : Thread nD τ) (bfRow (bwd c 3)) fullShare (R (bwd c 3)) ∗ owns (c : Thread nD τ) (bfRow (bwd c 4)) fullShare (R (bwd c 4)) ∗ owns (c : Thread nD τ) (bfRow (bwd c 5)) fullShare (R (bwd c 5)) ∗ owns (c : Thread nD τ) (bfRow (bwd c 6)) fullShare (R (bwd c 6)) ∗ owns (c : Thread nD τ) (bfRow (bwd c 7)) fullShare (R (bwd c 7))) : sProp 𝕄) ⊢ owns (c : Thread nD τ) bfM fullShare (bfAll R) := by
  have h : (bigSep Finset.univ (fun t => owns (c : Thread nD τ) (bfRow t) fullShare (fun j => bfAll R ((rowR t).emb j))) : sProp 𝕄) ⊢ owns (c : Thread nD τ) bfM fullShare (bfAll R) :=
    owns_of_rects (c : Thread nD τ) bfM fullShare rowR (fun _ _ => rfl) rowR_disj rowR_cov (bfAll R)
  have e : (bigSep Finset.univ (fun t => owns (c : Thread nD τ) (bfRow t) fullShare (R t)) : sProp 𝕄) = bigSep Finset.univ (fun t => owns (c : Thread nD τ) (bfRow t) fullShare (fun j => bfAll R ((rowR t).emb j))) :=
    bigSep_congr (fun t _ => congrArg (owns (c : Thread nD τ) (bfRow t) fullShare) (bfAll_row R t).symm)
  rw [ring_sep c] at e
  exact (Entails.of_eq e).trans h

end Cert.KernelIdeal.Run
-- ==== Proof.Chain.lean ====
/- The body as a chain of stages. -/
module

public import proofs.«01_k».proof.Proof.Steps

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exit handshake and the last multiply. -/
def kG (c : Dev nD) : Prog (TpuEff nD τ sig (Elt F) Λ₀ .tc) PUnit := do
  semSignalWord (⟨k0_dev26 c, k0_dev26_lt c⟩ : Dev nD) cc0_scoped0.sem 1#32
  semSignalWord (⟨k0_dev27 c, k0_dev27_lt c⟩ : Dev nD) cc0_scoped0.sem 1#32
  semSignalWord (⟨k0_dev28 c, k0_dev28_lt c⟩ : Dev nD) cc0_scoped0.sem 1#32
  semWaitWord cc0_scoped0.sem 7#32
  let v943 : Elt F .f32 ← smemLoad (Memref.whole cc0_scratch1) (Rect.unit (s := S1x2) ![0, 0] S1x1.size inb_S1x2_S1x1_0_0) numel1_S1x1 rfl
  let v944 : Elt F .f32 ← smemLoad (Memref.whole cc0_scratch1) (Rect.unit (s := S1x2) ![0, 1] S1x1.size inb_S1x2_S1x1_0_1) numel1_S1x1 rfl
  let v945 : Vec F S4096x1024 .bf16 ← Prog.lift (.load (Memref.whole cc0_scratch0) (Rect.unit (s := S4096x1024) ![0, 0] S4096x1024.size inb_S4096x1024_S4096x1024_0_0).toLoadRect (View.loadsAt_vmem h_S4096x1024))
  let _ ← Prog.lift (.load (Memref.whole cc0_stg1_0) (Rect.unit (s := S4096x1024) ![0, 0] S4096x1024.size inb_S4096x1024_S4096x1024_0_0).toLoadRect (View.loadsAt_vmem h_S4096x1024))
  Prog.lift (.store (Memref.whole cc0_stg1_0) (Rect.unit (s := S4096x1024) ![0, 0] S4096x1024.size inb_S4096x1024_S4096x1024_0_0) (k0_pay1 v943 v944 v945) Finset.univ (View.stores_vmem_bits_univ h_S4096x1024 rfl) (.inl rfl))
  pure ⟨⟩
/-- The waits for the device's own copies. -/
def kF (c : Dev nD) (v2 : BitVec 32) : Prog (TpuEff nD τ sig (Elt F) Λ₀ .tc) PUnit := do
  let _ ← q29 c
  let _ ← q30 c
  let _ ← q31 c v2
  kG c
/-- The blocks received, scaled back. -/
def kE (c : Dev nD) (v2 : BitVec 32) (sc : F .f32) (y : Vec F S512x1024 .f32) (u : FVec F S512x1024 .f32) : Prog (TpuEff nD τ sig (Elt F) Λ₀ .tc) PUnit := do
  let v781 ← q25 c v2 sc y u
  let ⟨v803, v817⟩ ← q26 c v2 sc v781
  let v847 ← q27 c v2 sc v803 v817
  let _ ← q28 c v2 sc v847
  kF c v2
/-- The scales, and the f8 blocks sent. -/
def kD (c : Dev nD) (v2 : BitVec 32) (g cst : F .f32) : Prog (TpuEff nD τ sig (Elt F) Λ₀ .tc) PUnit := do
  let ⟨v650, v651, v673⟩ ← q22 c v2 g cst
  let ⟨v709, v713⟩ ← q23 c v2 v651 v673
  let ⟨v744, v745⟩ ← q24 c v2 v651 v709 v713
  kE c v2 v650 v744 v745
/-- The exchange of maxima. -/
def kC (c : Dev nD) (v2 v522 : BitVec 32) : Prog (TpuEff nD τ sig (Elt F) Λ₀ .tc) PUnit := do
  let _ ← q18 c v2 v522
  let _ ← q19 c v2
  let v618 ← q20 c v2
  let ⟨v649, cst_509⟩ ← q21 c v2 v618
  kD c v2 v649 cst_509
/-- The product. -/
def kB (c : Dev nD) (v2 v42 : BitVec 32) : Prog (TpuEff nD τ sig (Elt F) Λ₀ .tc) PUnit := do
  let v67 : F .f32 ← q3 c v2
  let ⟨v96, v111, v113, c1024⟩ ← q4 c v2 v42 v67
  let v136 ← q5 c v2 v96 v113 c1024
  let v165 ← q6 c v2 v111 v136
  let ⟨v203, v208⟩ ← q7 c v2 v165
  let v231 ← q8 c v2 v203 v208
  let v259 ← q9 c v2 v231
  let v287 ← q10 c v2 v259
  let v315 ← q11 c v2 v287
  let ⟨v343, v362⟩ ← q12 c v2 v315
  let ⟨v371, v390, v392, cst_318⟩ ← q13 c v2 v343 v362
  let ⟨v399, v421, v425⟩ ← q14 c v2 v371 v390 v392 cst_318
  let ⟨v449, v455⟩ ← q15 c v2 v399 v421 v425
  let v483 ← q16 c v2 v449 v455
  let v522 ← q17 c v2 v483
  kC c v2 v522

theorem bind_assoc' {α β γ : Type} (p : Prog (TpuEff nD τ sig (Elt F) Λ₀ .tc) α) (f : α → Prog (TpuEff nD τ sig (Elt F) Λ₀ .tc) β) (g : β → Prog (TpuEff nD τ sig (Elt F) Λ₀ .tc) γ) :
    ((p >>= f) >>= g) = p >>= fun x => f x >>= g := Prog.bind_assoc p f g

theorem body0_eq : body0 (F := F) = (do
    let ⟨d0, v2, v3, v24, c8⟩ ← q1
    let v42 ← q2 d0 v2 v3 v24 c8
    kB d0 v2 v42) := by
  unfold body0 kB kC kD kE kF kG
  rw [cc0__body_eq_skeleton]
  unfold cc0__body_skel
  rw [k0_part32_eq_skeleton]
  unfold k0_part32_skel
  simp -proj only [bind_assoc', pure_bind]
  rfl

end Cert.KernelIdeal.Run
-- ==== Proof.Gemm.lean ====
/- The product: every chunk of it, the running maximum, the two bf16 blocks sent and the row of maxima sent first. -/
module

public import proofs.«01_k».proof.Proof.Cells
public import Idealize.ShloMosaic.Lib.WritesUnit
public import Idealize.ShloMosaic.Lib.MemrefSat

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (am : Dev nD → S1x128.Idx → Elt F .f32) (bv : Dev nD → ℕ → S512x1024.Idx → Elt F .bf16) (qv : Dev nD → ℕ → S512x1024.Idx → Elt F .fp8e4m3)
variable (K : Dev nD × CS → ℕ)

local notation "𝕄" => MT nD τ sig Unit (Elt F) ℕ UU ℕ

/-- A local wait below every later debt. -/
theorem mayWait_low (c : Dev nD) (n : ℕ) (hn : 7 ≤ n ∧ n ≤ 9) (d : DmaSem sig) (hd : d = 2 ∨ d = 3) : (levAts L lv : sProp 𝕄) ⊢ MayWait (c : Thread nD τ) (.dma d) () (owed c n) :=
  mayWait c n _ (by rcases hd with rfl | rfl <;> (obtain ⟨h7, h9⟩ := hn; intro i hi h28; interval_cases n <;> interval_cases i <;> decide))

theorem ow_open (c : Dev nD) (n : ℕ) : (ow c n : sProp 𝕄) ⊢ iprop(∃ W, owes (c : Thread nD τ) (owed c n) W) := .rfl
theorem ow_close (c : Dev nD) (n : ℕ) (W : Waits sig Unit) : (owes (c : Thread nD τ) (owed c n) W : sProp 𝕄) ⊢ ow c n := by
  iintro H
  unfold ow
  iexists W
  iexact H

theorem cat_ext {α : Type} {n m : ℕ} (hm : n ≤ 512 * m) {u u' : ℕ → S512x512.Idx → α} (h : ∀ k, k < m → u k = u' k) : (cat512 u : (⟨2, ![512, n]⟩ : Shape).Idx → α) = cat512 u' :=
  funext fun i => congrFun (h _ (by have : (i 1).val < n := (i 1).isLt; omega)) _

/-- Two stores of 512 columns side by side, read as one block. -/
theorem bf_read (o o' : ℕ) (ho : o' = o + 512) (inb : ∀ a, (![0, o] : Fin 2 → ℕ) a + S512x1024.size a ≤ S512x2048.size a)
    (i₀ : ∀ a, (![0, o] : Fin 2 → ℕ) a + S512x512.size a ≤ S512x2048.size a) (i₁ : ∀ a, (![0, o'] : Fin 2 → ℕ) a + S512x512.size a ≤ S512x2048.size a)
    (T : S512x2048.Idx → Elt F .bf16) (u : ℕ → S512x512.Idx → Elt F .bf16) :
    (bsM.slice (Rect.unit (s := S512x2048) ![0, o] S512x1024.size inb) (fun _ => rfl)).view.read (Elt F)
      ((bsM.access (Rect.unit (s := S512x2048) ![0, o'] S512x512.size i₁)).write (Elt F)
        ((bsM.access (Rect.unit (s := S512x2048) ![0, o] S512x512.size i₀)).write (Elt F) T (u 0) Finset.univ) (u 1) Finset.univ) = cat512 u := by
  subst ho
  funext x
  have x1 : (x 1).val < 1024 := (x 1).isLt
  show bsM.view.read (Elt F) (bsM.view.writes (Elt F) T [⟨Rect.unit (s := S512x2048) ![0, o + 512] S512x512.size i₁, u 1⟩, ⟨Rect.unit (s := S512x2048) ![0, o] S512x512.size i₀, u 0⟩])
    ((Rect.unit (s := S512x2048) ![0, o] S512x1024.size inb).emb x) = _
  have hk : (x 1).val / 512 = 0 ∨ (x 1).val / 512 = 1 := by omega
  unfold cat512
  rcases hk with hk | hk
  · rw [hk]
    refine (View.read_writes_cons_unit_of_not_mem bsM.view _ _ _ _ _ rfl 1 (.inl ?_)).trans (View.read_writes_cons_unit_of_mem bsM.view _ _ _ _ _ (ValueIdx.ix2 (x 0) ⟨(x 1).val % 512, Nat.mod_lt _ (by decide)⟩) rfl fun a => ?_)
    · show o + 1 * (x 1).val < o + 512
      omega
    · fin_cases a
      · show 0 + 1 * (x 0).val = 0 + (x 0).val
        omega
      · show o + 1 * (x 1).val = o + (x 1).val % 512
        omega
  · rw [hk]
    refine View.read_writes_cons_unit_of_mem bsM.view _ _ _ _ _ (ValueIdx.ix2 (x 0) ⟨(x 1).val % 512, Nat.mod_lt _ (by decide)⟩) rfl fun a => ?_
    fin_cases a
    · show 0 + 1 * (x 0).val = 0 + (x 0).val
      omega
    · show o + 1 * (x 1).val = o + 512 + (x 1).val % 512
      omega

theorem bfC1_owns (c : Dev nD) (X : S512x4096.Idx → Elt F .f32) (Wt : S4096x8192.Idx → Elt F .f32) (b : ℕ) (T : S512x2048.Idx → Elt F .bf16) (u₀ u₁ : S512x512.Idx → Elt F .bf16)
    (h0 : u₀ = k0_pay4 X (wcn c Wt (2 * (b - 1)))) (h1 : u₁ = k0_pay4 X (wcn c Wt (2 * (b - 1) + 1))) {v : S512x1024.Idx → Elt F .bf16} (hv : v = bfVal c X Wt b) :
    (bfC1.view.loc (c : Thread nD τ) ↦[bfC1.view.set]{fullShare} ((bsM.access (Rect.unit (s := S512x2048) ![0, 512] S512x512.size inb_S512x2048_S512x512_0_512)).write (Elt F)
        ((bsM.access (Rect.unit (s := S512x2048) ![0, 0] S512x512.size inb_S512x2048_S512x512_0_0)).write (Elt F) T u₀ Finset.univ) u₁ Finset.univ) : sProp 𝕄)
      ⊢ owns (c : Thread nD τ) bfC1 fullShare v := by
  subst h0 h1 hv
  exact owns_of_read c bfC1 fullShare ((bsM.access (Rect.unit (s := S512x2048) ![0, 512] S512x512.size inb_S512x2048_S512x512_0_512)).write (Elt F)
        ((bsM.access (Rect.unit (s := S512x2048) ![0, 0] S512x512.size inb_S512x2048_S512x512_0_0)).write (Elt F) T (k0_pay4 X (wcn c Wt (2 * (b - 1)))) Finset.univ) (k0_pay4 X (wcn c Wt (2 * (b - 1) + 1))) Finset.univ)
    (bf_read 0 512 rfl _ _ _ T (fun h => k0_pay4 X (wcn c Wt (2 * (b - 1) + h))))
theorem bfC2_owns (c : Dev nD) (X : S512x4096.Idx → Elt F .f32) (Wt : S4096x8192.Idx → Elt F .f32) (b : ℕ) (T : S512x2048.Idx → Elt F .bf16) (u₀ u₁ : S512x512.Idx → Elt F .bf16)
    (h0 : u₀ = k0_pay4 X (wcn c Wt (2 * (b - 1)))) (h1 : u₁ = k0_pay4 X (wcn c Wt (2 * (b - 1) + 1))) {v : S512x1024.Idx → Elt F .bf16} (hv : v = bfVal c X Wt b) :
    (bfC2.view.loc (c : Thread nD τ) ↦[bfC2.view.set]{fullShare} ((bsM.access (Rect.unit (s := S512x2048) ![0, 1536] S512x512.size inb_S512x2048_S512x512_0_1536)).write (Elt F)
        ((bsM.access (Rect.unit (s := S512x2048) ![0, 1024] S512x512.size inb_S512x2048_S512x512_0_1024)).write (Elt F) T u₀ Finset.univ) u₁ Finset.univ) : sProp 𝕄)
      ⊢ owns (c : Thread nD τ) bfC2 fullShare v := by
  subst h0 h1 hv
  exact owns_of_read c bfC2 fullShare ((bsM.access (Rect.unit (s := S512x2048) ![0, 1536] S512x512.size inb_S512x2048_S512x512_0_1536)).write (Elt F)
        ((bsM.access (Rect.unit (s := S512x2048) ![0, 1024] S512x512.size inb_S512x2048_S512x512_0_1024)).write (Elt F) T (k0_pay4 X (wcn c Wt (2 * (b - 1)))) Finset.univ) (k0_pay4 X (wcn c Wt (2 * (b - 1) + 1))) Finset.univ)
    (bf_read 1024 1536 rfl _ _ _ T (fun h => k0_pay4 X (wcn c Wt (2 * (b - 1) + h))))
theorem pay7_eq (X : S512x4096.Idx → Elt F .f32) (w : Vec F S1x4096x512 .f32) : k0_pay7 X w = k0_pay4 X w := rfl
theorem pay10_eq (X : S512x4096.Idx → Elt F .f32) (w : Vec F S1x4096x512 .f32) : k0_pay10 X w = k0_pay4 X w := rfl
theorem pay13_eq (X : S512x4096.Idx → Elt F .f32) (w : Vec F S1x4096x512 .f32) : k0_pay13 X w = k0_pay4 X w := rfl

theorem pay9_eq (a : F .f32) (X : S512x4096.Idx → Elt F .f32) (w : Vec F S1x4096x512 .f32) : k0_pay9 a X w = k0_pay6 a X w := rfl
theorem pay12_eq (a : F .f32) (X : S512x4096.Idx → Elt F .f32) (w : Vec F S1x4096x512 .f32) : k0_pay12 a X w = k0_pay6 a X w := rfl
theorem pay15_eq (a : F .f32) (X : S512x4096.Idx → Elt F .f32) (w : Vec F S1x4096x512 .f32) : k0_pay15 a X w = k0_pay6 a X w := rfl
theorem pay18_eq (a : F .f32) (X : S512x4096.Idx → Elt F .f32) (w : Vec F S1x4096x512 .f32) : k0_pay18 a X w = k0_pay6 a X w := rfl
theorem pay21_eq (a : F .f32) (X : S512x4096.Idx → Elt F .f32) (w : Vec F S1x4096x512 .f32) : k0_pay21 a X w = k0_pay6 a X w := rfl
theorem pay24_eq (a : F .f32) (X : S512x4096.Idx → Elt F .f32) (w : Vec F S1x4096x512 .f32) : k0_pay24 a X w = k0_pay6 a X w := rfl
theorem pay27_eq (a : F .f32) (X : S512x4096.Idx → Elt F .f32) (w : Vec F S1x4096x512 .f32) : k0_pay27 a X w = k0_pay6 a X w := rfl
theorem pay30_eq (a : F .f32) (X : S512x4096.Idx → Elt F .f32) (w : Vec F S1x4096x512 .f32) : k0_pay30 a X w = k0_pay6 a X w := rfl
theorem pay48_eq (a : F .f32) (X : S512x4096.Idx → Elt F .f32) (w : Vec F S1x4096x512 .f32) : k0_pay48 a X w = k0_pay6 a X w := rfl
theorem pay3_eq (X : S512x4096.Idx → Elt F .f32) (w : Vec F S1x4096x512 .f32) : k0_pay3 X w = k0_pay6 (Scalar.ofBits .f32 0x00000000#32) X w := rfl
theorem pay34_eq (a : F .f32) (X : S512x4096.Idx → Elt F .f32) (w : Vec F S1x4096x512 .f32) : k0_pay34 a (k0_pay32 X) w = k0_pay6 a X w := rfl
theorem pay39_eq (a : F .f32) (X : S512x4096.Idx → Elt F .f32) (w : Vec F S1x4096x512 .f32) : k0_pay39 a (k0_pay36 X) (k0_pay37 w) (constant S512x512 .f32 0x00000000#32) = k0_pay6 a X w := rfl
theorem pay45_eq (a : F .f32) (X : S512x4096.Idx → Elt F .f32) (w : Vec F S1x4096x512 .f32) (w' : Vec F S1x4096x512 .f32) : k0_pay45 a (k0_pay42 X w) X w' = k0_pay6 (k0_pay6 a X w) X w' := rfl
theorem pay19_eq (X : S512x4096.Idx → Elt F .f32) (w : Vec F S1x4096x512 .f32) : k0_pay19 X w = k0_pay16 X w := rfl
theorem pay22_eq (X : S512x4096.Idx → Elt F .f32) (w : Vec F S1x4096x512 .f32) : k0_pay22 X w = k0_pay16 X w := rfl
theorem pay25_eq (X : S512x4096.Idx → Elt F .f32) (w : Vec F S1x4096x512 .f32) : k0_pay25 X w = k0_pay16 X w := rfl
theorem pay28_eq (X : S512x4096.Idx → Elt F .f32) (w : Vec F S1x4096x512 .f32) : k0_pay28 X w = k0_pay16 X w := rfl
theorem pay31_eq (X : S512x4096.Idx → Elt F .f32) (w : Vec F S1x4096x512 .f32) : k0_pay31 X w = k0_pay16 X w := rfl
theorem pay49_eq (X : S512x4096.Idx → Elt F .f32) (w : Vec F S1x4096x512 .f32) : k0_pay49 X w = k0_pay16 X w := rfl
theorem pay51_eq (X : S512x4096.Idx → Elt F .f32) (w : Vec F S1x4096x512 .f32) : k0_pay51 X w = k0_pay16 X w := rfl
theorem pay35_eq (X : S512x4096.Idx → Elt F .f32) (w : Vec F S1x4096x512 .f32) : k0_pay35 (k0_pay32 X) w = k0_pay16 X w := rfl
theorem pay40_eq (X : S512x4096.Idx → Elt F .f32) (w : Vec F S1x4096x512 .f32) : k0_pay40 (k0_pay36 X) (k0_pay37 w) (constant S512x512 .f32 0x00000000#32) = k0_pay16 X w := rfl
theorem pay43_eq (X : S512x4096.Idx → Elt F .f32) (w : Vec F S1x4096x512 .f32) : k0_pay43 (k0_pay41 X w) = k0_pay16 X w := rfl
theorem pay46_eq (X : S512x4096.Idx → Elt F .f32) (w : Vec F S1x4096x512 .f32) : k0_pay46 (k0_pay44 X w) = k0_pay16 X w := rfl

theorem psig_fst {α : Type} {β : Type} (a : α) (b : β) : (PSigma.mk (β := fun _ => β) a b).fst = a := rfl
theorem psig_snd {α : Type} {β : Type} (a : α) (b : β) : (PSigma.mk (β := fun _ => β) a b).snd = b := rfl

theorem par_read (P : S512x6144.Idx → Elt F .f32) (u : ℕ → S512x512.Idx → Elt F .f32) : (Memref.whole cc0_scratch3).view.writes (Elt F) P [⟨Rect.unit (s := S512x6144) ![0, 5632] S512x512.size inb_S512x6144_S512x512_0_5632, u 11⟩,
      ⟨Rect.unit (s := S512x6144) ![0, 5120] S512x512.size inb_S512x6144_S512x512_0_5120, u 10⟩,
      ⟨Rect.unit (s := S512x6144) ![0, 4608] S512x512.size inb_S512x6144_S512x512_0_4608, u 9⟩,
      ⟨Rect.unit (s := S512x6144) ![0, 4096] S512x512.size inb_S512x6144_S512x512_0_4096, u 8⟩,
      ⟨Rect.unit (s := S512x6144) ![0, 3584] S512x512.size inb_S512x6144_S512x512_0_3584, u 7⟩,
      ⟨Rect.unit (s := S512x6144) ![0, 3072] S512x512.size inb_S512x6144_S512x512_0_3072, u 6⟩,
      ⟨Rect.unit (s := S512x6144) ![0, 2560] S512x512.size inb_S512x6144_S512x512_0_2560, u 5⟩,
      ⟨Rect.unit (s := S512x6144) ![0, 2048] S512x512.size inb_S512x6144_S512x512_0_2048, u 4⟩,
      ⟨Rect.unit (s := S512x6144) ![0, 1536] S512x512.size inb_S512x6144_S512x512_0_1536, u 3⟩,
      ⟨Rect.unit (s := S512x6144) ![0, 1024] S512x512.size inb_S512x6144_S512x512_0_1024, u 2⟩,
      ⟨Rect.unit (s := S512x6144) ![0, 512] S512x512.size inb_S512x6144_S512x512_0_512, u 1⟩,
      ⟨Rect.unit (s := S512x6144) ![0, 0] S512x512.size inb_S512x6144_S512x512_0_0, u 0⟩] = (cat512 u : S512x6144.Idx → Elt F .f32) := by
  funext x
  have x1 : (x 1).val < 6144 := (x 1).isLt
  refine (congrFun (View.read_whole (Val := Elt F) cc0_scratch3 ((Memref.whole cc0_scratch3).view.writes (Elt F) P _)).symm x).trans ?_
  have hk : ∃ k, k < 12 ∧ (x 1).val / 512 = k := ⟨_, by omega, rfl⟩
  obtain ⟨k, hk12, hk⟩ := hk
  unfold cat512
  rw [hk]
  have hx : ∀ o, o = 512 * k → ∀ a, (x a).val = (![0, o] : Fin 2 → ℕ) a + ((ValueIdx.ix2 (x 0) ⟨(x 1).val % 512, Nat.mod_lt _ (by decide)⟩ : S512x512.Idx) a).val := by
    intro o ho a
    fin_cases a
    · show (x 0).val = 0 + (x 0).val
      omega
    · show (x 1).val = o + (x 1).val % 512
      omega
  interval_cases k
  · exact (View.read_writes_cons_unit_of_not_mem (Memref.whole cc0_scratch3).view _ _ _ _ _ rfl 1 (.inl (show (x 1).val < 5632 by omega))).trans ((View.read_writes_cons_unit_of_not_mem (Memref.whole cc0_scratch3).view _ _ _ _ _ rfl 1 (.inl (show (x 1).val < 5120 by omega))).trans ((View.read_writes_cons_unit_of_not_mem (Memref.whole cc0_scratch3).view _ _ _ _ _ rfl 1 (.inl (show (x 1).val < 4608 by omega))).trans ((View.read_writes_cons_unit_of_not_mem (Memref.whole cc0_scratch3).view _ _ _ _ _ rfl 1 (.inl (show (x 1).val < 4096 by omega))).trans ((View.read_writes_cons_unit_of_not_mem (Memref.whole cc0_scratch3).view _ _ _ _ _ rfl 1 (.inl (show (x 1).val < 3584 by omega))).trans ((View.read_writes_cons_unit_of_not_mem (Memref.whole cc0_scratch3).view _ _ _ _ _ rfl 1 (.inl (show (x 1).val < 3072 by omega))).trans ((View.read_writes_cons_unit_of_not_mem (Memref.whole cc0_scratch3).view _ _ _ _ _ rfl 1 (.inl (show (x 1).val < 2560 by omega))).trans ((View.read_writes_cons_unit_of_not_mem (Memref.whole cc0_scratch3).view _ _ _ _ _ rfl 1 (.inl (show (x 1).val < 2048 by omega))).trans ((View.read_writes_cons_unit_of_not_mem (Memref.whole cc0_scratch3).view _ _ _ _ _ rfl 1 (.inl (show (x 1).val < 1536 by omega))).trans ((View.read_writes_cons_unit_of_not_mem (Memref.whole cc0_scratch3).view _ _ _ _ _ rfl 1 (.inl (show (x 1).val < 1024 by omega))).trans ((View.read_writes_cons_unit_of_not_mem (Memref.whole cc0_scratch3).view _ _ _ _ _ rfl 1 (.inl (show (x 1).val < 512 by omega))).trans (View.read_writes_cons_unit_of_mem (Memref.whole cc0_scratch3).view _ _ _ _ _ (ValueIdx.ix2 (x 0) ⟨(x 1).val % 512, Nat.mod_lt _ (by decide)⟩) rfl (hx _ rfl))))))))))))
  · exact (View.read_writes_cons_unit_of_not_mem (Memref.whole cc0_scratch3).view _ _ _ _ _ rfl 1 (.inl (show (x 1).val < 5632 by omega))).trans ((View.read_writes_cons_unit_of_not_mem (Memref.whole cc0_scratch3).view _ _ _ _ _ rfl 1 (.inl (show (x 1).val < 5120 by omega))).trans ((View.read_writes_cons_unit_of_not_mem (Memref.whole cc0_scratch3).view _ _ _ _ _ rfl 1 (.inl (show (x 1).val < 4608 by omega))).trans ((View.read_writes_cons_unit_of_not_mem (Memref.whole cc0_scratch3).view _ _ _ _ _ rfl 1 (.inl (show (x 1).val < 4096 by omega))).trans ((View.read_writes_cons_unit_of_not_mem (Memref.whole cc0_scratch3).view _ _ _ _ _ rfl 1 (.inl (show (x 1).val < 3584 by omega))).trans ((View.read_writes_cons_unit_of_not_mem (Memref.whole cc0_scratch3).view _ _ _ _ _ rfl 1 (.inl (show (x 1).val < 3072 by omega))).trans ((View.read_writes_cons_unit_of_not_mem (Memref.whole cc0_scratch3).view _ _ _ _ _ rfl 1 (.inl (show (x 1).val < 2560 by omega))).trans ((View.read_writes_cons_unit_of_not_mem (Memref.whole cc0_scratch3).view _ _ _ _ _ rfl 1 (.inl (show (x 1).val < 2048 by omega))).trans ((View.read_writes_cons_unit_of_not_mem (Memref.whole cc0_scratch3).view _ _ _ _ _ rfl 1 (.inl (show (x 1).val < 1536 by omega))).trans ((View.read_writes_cons_unit_of_not_mem (Memref.whole cc0_scratch3).view _ _ _ _ _ rfl 1 (.inl (show (x 1).val < 1024 by omega))).trans (View.read_writes_cons_unit_of_mem (Memref.whole cc0_scratch3).view _ _ _ _ _ (ValueIdx.ix2 (x 0) ⟨(x 1).val % 512, Nat.mod_lt _ (by decide)⟩) rfl (hx _ rfl)))))))))))
  · exact (View.read_writes_cons_unit_of_not_mem (Memref.whole cc0_scratch3).view _ _ _ _ _ rfl 1 (.inl (show (x 1).val < 5632 by omega))).trans ((View.read_writes_cons_unit_of_not_mem (Memref.whole cc0_scratch3).view _ _ _ _ _ rfl 1 (.inl (show (x 1).val < 5120 by omega))).trans ((View.read_writes_cons_unit_of_not_mem (Memref.whole cc0_scratch3).view _ _ _ _ _ rfl 1 (.inl (show (x 1).val < 4608 by omega))).trans ((View.read_writes_cons_unit_of_not_mem (Memref.whole cc0_scratch3).view _ _ _ _ _ rfl 1 (.inl (show (x 1).val < 4096 by omega))).trans ((View.read_writes_cons_unit_of_not_mem (Memref.whole cc0_scratch3).view _ _ _ _ _ rfl 1 (.inl (show (x 1).val < 3584 by omega))).trans ((View.read_writes_cons_unit_of_not_mem (Memref.whole cc0_scratch3).view _ _ _ _ _ rfl 1 (.inl (show (x 1).val < 3072 by omega))).trans ((View.read_writes_cons_unit_of_not_mem (Memref.whole cc0_scratch3).view _ _ _ _ _ rfl 1 (.inl (show (x 1).val < 2560 by omega))).trans ((View.read_writes_cons_unit_of_not_mem (Memref.whole cc0_scratch3).view _ _ _ _ _ rfl 1 (.inl (show (x 1).val < 2048 by omega))).trans ((View.read_writes_cons_unit_of_not_mem (Memref.whole cc0_scratch3).view _ _ _ _ _ rfl 1 (.inl (show (x 1).val < 1536 by omega))).trans (View.read_writes_cons_unit_of_mem (Memref.whole cc0_scratch3).view _ _ _ _ _ (ValueIdx.ix2 (x 0) ⟨(x 1).val % 512, Nat.mod_lt _ (by decide)⟩) rfl (hx _ rfl))))))))))
  · exact (View.read_writes_cons_unit_of_not_mem (Memref.whole cc0_scratch3).view _ _ _ _ _ rfl 1 (.inl (show (x 1).val < 5632 by omega))).trans ((View.read_writes_cons_unit_of_not_mem (Memref.whole cc0_scratch3).view _ _ _ _ _ rfl 1 (.inl (show (x 1).val < 5120 by omega))).trans ((View.read_writes_cons_unit_of_not_mem (Memref.whole cc0_scratch3).view _ _ _ _ _ rfl 1 (.inl (show (x 1).val < 4608 by omega))).trans ((View.read_writes_cons_unit_of_not_mem (Memref.whole cc0_scratch3).view _ _ _ _ _ rfl 1 (.inl (show (x 1).val < 4096 by omega))).trans ((View.read_writes_cons_unit_of_not_mem (Memref.whole cc0_scratch3).view _ _ _ _ _ rfl 1 (.inl (show (x 1).val < 3584 by omega))).trans ((View.read_writes_cons_unit_of_not_mem (Memref.whole cc0_scratch3).view _ _ _ _ _ rfl 1 (.inl (show (x 1).val < 3072 by omega))).trans ((View.read_writes_cons_unit_of_not_mem (Memref.whole cc0_scratch3).view _ _ _ _ _ rfl 1 (.inl (show (x 1).val < 2560 by omega))).trans ((View.read_writes_cons_unit_of_not_mem (Memref.whole cc0_scratch3).view _ _ _ _ _ rfl 1 (.inl (show (x 1).val < 2048 by omega))).trans (View.read_writes_cons_unit_of_mem (Memref.whole cc0_scratch3).view _ _ _ _ _ (ValueIdx.ix2 (x 0) ⟨(x 1).val % 512, Nat.mod_lt _ (by decide)⟩) rfl (hx _ rfl)))))))))
  · exact (View.read_writes_cons_unit_of_not_mem (Memref.whole cc0_scratch3).view _ _ _ _ _ rfl 1 (.inl (show (x 1).val < 5632 by omega))).trans ((View.read_writes_cons_unit_of_not_mem (Memref.whole cc0_scratch3).view _ _ _ _ _ rfl 1 (.inl (show (x 1).val < 5120 by omega))).trans ((View.read_writes_cons_unit_of_not_mem (Memref.whole cc0_scratch3).view _ _ _ _ _ rfl 1 (.inl (show (x 1).val < 4608 by omega))).trans ((View.read_writes_cons_unit_of_not_mem (Memref.whole cc0_scratch3).view _ _ _ _ _ rfl 1 (.inl (show (x 1).val < 4096 by omega))).trans ((View.read_writes_cons_unit_of_not_mem (Memref.whole cc0_scratch3).view _ _ _ _ _ rfl 1 (.inl (show (x 1).val < 3584 by omega))).trans ((View.read_writes_cons_unit_of_not_mem (Memref.whole cc0_scratch3).view _ _ _ _ _ rfl 1 (.inl (show (x 1).val < 3072 by omega))).trans ((View.read_writes_cons_unit_of_not_mem (Memref.whole cc0_scratch3).view _ _ _ _ _ rfl 1 (.inl (show (x 1).val < 2560 by omega))).trans (View.read_writes_cons_unit_of_mem (Memref.whole cc0_scratch3).view _ _ _ _ _ (ValueIdx.ix2 (x 0) ⟨(x 1).val % 512, Nat.mod_lt _ (by decide)⟩) rfl (hx _ rfl))))))))
  · exact (View.read_writes_cons_unit_of_not_mem (Memref.whole cc0_scratch3).view _ _ _ _ _ rfl 1 (.inl (show (x 1).val < 5632 by omega))).trans ((View.read_writes_cons_unit_of_not_mem (Memref.whole cc0_scratch3).view _ _ _ _ _ rfl 1 (.inl (show (x 1).val < 5120 by omega))).trans ((View.read_writes_cons_unit_of_not_mem (Memref.whole cc0_scratch3).view _ _ _ _ _ rfl 1 (.inl (show (x 1).val < 4608 by omega))).trans ((View.read_writes_cons_unit_of_not_mem (Memref.whole cc0_scratch3).view _ _ _ _ _ rfl 1 (.inl (show (x 1).val < 4096 by omega))).trans ((View.read_writes_cons_unit_of_not_mem (Memref.whole cc0_scratch3).view _ _ _ _ _ rfl 1 (.inl (show (x 1).val < 3584 by omega))).trans ((View.read_writes_cons_unit_of_not_mem (Memref.whole cc0_scratch3).view _ _ _ _ _ rfl 1 (.inl (show (x 1).val < 3072 by omega))).trans (View.read_writes_cons_unit_of_mem (Memref.whole cc0_scratch3).view _ _ _ _ _ (ValueIdx.ix2 (x 0) ⟨(x 1).val % 512, Nat.mod_lt _ (by decide)⟩) rfl (hx _ rfl)))))))
  · exact (View.read_writes_cons_unit_of_not_mem (Memref.whole cc0_scratch3).view _ _ _ _ _ rfl 1 (.inl (show (x 1).val < 5632 by omega))).trans ((View.read_writes_cons_unit_of_not_mem (Memref.whole cc0_scratch3).view _ _ _ _ _ rfl 1 (.inl (show (x 1).val < 5120 by omega))).trans ((View.read_writes_cons_unit_of_not_mem (Memref.whole cc0_scratch3).view _ _ _ _ _ rfl 1 (.inl (show (x 1).val < 4608 by omega))).trans ((View.read_writes_cons_unit_of_not_mem (Memref.whole cc0_scratch3).view _ _ _ _ _ rfl 1 (.inl (show (x 1).val < 4096 by omega))).trans ((View.read_writes_cons_unit_of_not_mem (Memref.whole cc0_scratch3).view _ _ _ _ _ rfl 1 (.inl (show (x 1).val < 3584 by omega))).trans (View.read_writes_cons_unit_of_mem (Memref.whole cc0_scratch3).view _ _ _ _ _ (ValueIdx.ix2 (x 0) ⟨(x 1).val % 512, Nat.mod_lt _ (by decide)⟩) rfl (hx _ rfl))))))
  · exact (View.read_writes_cons_unit_of_not_mem (Memref.whole cc0_scratch3).view _ _ _ _ _ rfl 1 (.inl (show (x 1).val < 5632 by omega))).trans ((View.read_writes_cons_unit_of_not_mem (Memref.whole cc0_scratch3).view _ _ _ _ _ rfl 1 (.inl (show (x 1).val < 5120 by omega))).trans ((View.read_writes_cons_unit_of_not_mem (Memref.whole cc0_scratch3).view _ _ _ _ _ rfl 1 (.inl (show (x 1).val < 4608 by omega))).trans ((View.read_writes_cons_unit_of_not_mem (Memref.whole cc0_scratch3).view _ _ _ _ _ rfl 1 (.inl (show (x 1).val < 4096 by omega))).trans (View.read_writes_cons_unit_of_mem (Memref.whole cc0_scratch3).view _ _ _ _ _ (ValueIdx.ix2 (x 0) ⟨(x 1).val % 512, Nat.mod_lt _ (by decide)⟩) rfl (hx _ rfl)))))
  · exact (View.read_writes_cons_unit_of_not_mem (Memref.whole cc0_scratch3).view _ _ _ _ _ rfl 1 (.inl (show (x 1).val < 5632 by omega))).trans ((View.read_writes_cons_unit_of_not_mem (Memref.whole cc0_scratch3).view _ _ _ _ _ rfl 1 (.inl (show (x 1).val < 5120 by omega))).trans ((View.read_writes_cons_unit_of_not_mem (Memref.whole cc0_scratch3).view _ _ _ _ _ rfl 1 (.inl (show (x 1).val < 4608 by omega))).trans (View.read_writes_cons_unit_of_mem (Memref.whole cc0_scratch3).view _ _ _ _ _ (ValueIdx.ix2 (x 0) ⟨(x 1).val % 512, Nat.mod_lt _ (by decide)⟩) rfl (hx _ rfl))))
  · exact (View.read_writes_cons_unit_of_not_mem (Memref.whole cc0_scratch3).view _ _ _ _ _ rfl 1 (.inl (show (x 1).val < 5632 by omega))).trans ((View.read_writes_cons_unit_of_not_mem (Memref.whole cc0_scratch3).view _ _ _ _ _ rfl 1 (.inl (show (x 1).val < 5120 by omega))).trans (View.read_writes_cons_unit_of_mem (Memref.whole cc0_scratch3).view _ _ _ _ _ (ValueIdx.ix2 (x 0) ⟨(x 1).val % 512, Nat.mod_lt _ (by decide)⟩) rfl (hx _ rfl)))
  · exact (View.read_writes_cons_unit_of_not_mem (Memref.whole cc0_scratch3).view _ _ _ _ _ rfl 1 (.inl (show (x 1).val < 5632 by omega))).trans (View.read_writes_cons_unit_of_mem (Memref.whole cc0_scratch3).view _ _ _ _ _ (ValueIdx.ix2 (x 0) ⟨(x 1).val % 512, Nat.mod_lt _ (by decide)⟩) rfl (hx _ rfl))
  · exact View.read_writes_cons_unit_of_mem (Memref.whole cc0_scratch3).view _ _ _ _ _ (ValueIdx.ix2 (x 0) ⟨(x 1).val % 512, Nat.mod_lt _ (by decide)⟩) rfl (hx _ rfl)

theorem par_pt (c : Dev nD) (X : S512x4096.Idx → Elt F .f32) (Wt : S4096x8192.Idx → Elt F .f32) (P : S512x6144.Idx → Elt F .f32) :
    ((Memref.whole cc0_scratch3).view.loc (c : Thread nD τ) ↦[Finset.univ]{fullShare} ((Memref.whole cc0_scratch3).view.writes (Elt F) P [⟨Rect.unit (s := S512x6144) ![0, 5632] S512x512.size inb_S512x6144_S512x512_0_5632, k0_pay16 X (wcn c Wt 15)⟩,
      ⟨Rect.unit (s := S512x6144) ![0, 5120] S512x512.size inb_S512x6144_S512x512_0_5120, k0_pay16 X (wcn c Wt 14)⟩,
      ⟨Rect.unit (s := S512x6144) ![0, 4608] S512x512.size inb_S512x6144_S512x512_0_4608, k0_pay16 X (wcn c Wt 13)⟩,
      ⟨Rect.unit (s := S512x6144) ![0, 4096] S512x512.size inb_S512x6144_S512x512_0_4096, k0_pay16 X (wcn c Wt 12)⟩,
      ⟨Rect.unit (s := S512x6144) ![0, 3584] S512x512.size inb_S512x6144_S512x512_0_3584, k0_pay16 X (wcn c Wt 11)⟩,
      ⟨Rect.unit (s := S512x6144) ![0, 3072] S512x512.size inb_S512x6144_S512x512_0_3072, k0_pay16 X (wcn c Wt 10)⟩,
      ⟨Rect.unit (s := S512x6144) ![0, 2560] S512x512.size inb_S512x6144_S512x512_0_2560, k0_pay16 X (wcn c Wt 9)⟩,
      ⟨Rect.unit (s := S512x6144) ![0, 2048] S512x512.size inb_S512x6144_S512x512_0_2048, k0_pay16 X (wcn c Wt 8)⟩,
      ⟨Rect.unit (s := S512x6144) ![0, 1536] S512x512.size inb_S512x6144_S512x512_0_1536, k0_pay16 X (wcn c Wt 7)⟩,
      ⟨Rect.unit (s := S512x6144) ![0, 1024] S512x512.size inb_S512x6144_S512x512_0_1024, k0_pay16 X (wcn c Wt 6)⟩,
      ⟨Rect.unit (s := S512x6144) ![0, 512] S512x512.size inb_S512x6144_S512x512_0_512, k0_pay16 X (wcn c Wt 5)⟩,
      ⟨Rect.unit (s := S512x6144) ![0, 0] S512x512.size inb_S512x6144_S512x512_0_0, k0_pay16 X (wcn c Wt 4)⟩]) : sProp 𝕄)
      ⊢ ((Memref.whole cc0_scratch3).view.loc (c : Thread nD τ) ↦[Finset.univ]{fullShare} parVal c X Wt) :=
  Entails.of_eq (congrArg _ (par_read P fun k => k0_pay16 X (wcn c Wt (4 + k))))

theorem ax_owns (c : Dev nD) (A : S8x128.Idx → Elt F .f32) (u : S1x128.Idx → Elt F .f32) {v : S1x128.Idx → Elt F .f32} (hv : u = v) :
    ((axRow c).view.loc (c : Thread nD τ) ↦[(axRow c).view.set]{fullShare} ((axM.access (Rect.unit (s := S8x128) (k0_off4 c) S1x128.size (k0_off4_inb c))).write (Elt F) A u Finset.univ) : sProp 𝕄)
      ⊢ owns (c : Thread nD τ) (axRow c) fullShare v := by
  subst hv
  refine owns_of_read c (axRow c) fullShare ((axM.access (Rect.unit (s := S8x128) (k0_off4 c) S1x128.size (k0_off4_inb c))).write (Elt F) A u Finset.univ) ?_
  exact View.read_write_univ (v := axM.access (Rect.unit (s := S8x128) (k0_off4 c) S1x128.size (k0_off4_inb c))) A u

theorem ax_split (c : Dev nD) (q : PosShare TreeShare) (v : S1x128.Idx → Elt F .f32) :
    (owns (c : Thread nD τ) (axRow c) q v : sProp 𝕄) ⊢ iprop(owns (c : Thread nD τ) (axRow c) q.left v ∗ owns (c : Thread nD τ) (axRow c) q.right v) :=
  (owns_halves (c : Thread nD τ) (axRow c) q v).1

theorem amRow_eq (c : Dev nD) (X : S512x4096.Idx → Elt F .f32) (Wt : S4096x8192.Idx → Elt F .f32) :
    amRow c X Wt = k0_pay52 (k0_pay6 (k0_pay6 (k0_pay6 (k0_pay6 (k0_pay6 (k0_pay6 (k0_pay6 (k0_pay6 (k0_pay6 (k0_pay6 (k0_pay6 (k0_pay6 (k0_pay6 (k0_pay6 (k0_pay6 (Scalar.ofBits .f32 0x00000000#32) X (wcn c Wt 0)) X (wcn c Wt 1)) X (wcn c Wt 2)) X (wcn c Wt 3)) X (wcn c Wt 4)) X (wcn c Wt 5)) X (wcn c Wt 6)) X (wcn c Wt 7)) X (wcn c Wt 8)) X (wcn c Wt 9)) X (wcn c Wt 10)) X (wcn c Wt 11)) X (wcn c Wt 12)) X (wcn c Wt 13)) X (wcn c Wt 14)) X (wcn c Wt 15) := rfl

set_option sl_exec.squeezeSlice true
set_option maxHeartbeats 4000000 in
theorem gemm (c : Dev nD) (v2 v42 : BitVec 32) (X : S512x4096.Idx → Elt F .f32) (Wt : S4096x8192.Idx → Elt F .f32)
    (hb1 : bv c 1 = bfVal c X Wt 1) (hb2 : bv c 2 = bfVal c X Wt 2) (ha : am c = amRow c X Wt)
    (B B' : S2x4096x512.Idx → Elt F .f32) (P : S512x6144.Idx → Elt F .f32) (T1 T2 : S512x2048.Idx → Elt F .bf16) (A : S8x128.Idx → Elt F .f32)
    {Q : PUnit → sProp (MT nD τ sig Unit (Elt F) ℕ UU ℕ)} (k : BitVec 32 → Prog (TpuEff nD τ sig (Elt F) Λ₀ .tc) PUnit) :
    iprop(records am bv qv K ∗ ow c 7 ∗ ((Memref.whole cc0_stg0_0).view.loc (c : Thread nD τ) ↦[Finset.univ]{fullShare} X) ∗ ((Memref.whole main_arg1).view.loc (c : Thread nD τ) ↦[Finset.univ]{fullShare} Wt)
      ∗ ((slot0).view.loc (c : Thread nD τ) ↦[slot0.view.set]{fullShare} B) ∗ ((slot1).view.loc (c : Thread nD τ) ↦[slot1.view.set]{fullShare} B') ∗ ((Memref.whole cc0_scratch3).view.loc (c : Thread nD τ) ↦[Finset.univ]{fullShare} P)
      ∗ (bfC1.view.loc (c : Thread nD τ) ↦[bfC1.view.set]{fullShare} T1) ∗ (bfC2.view.loc (c : Thread nD τ) ↦[bfC2.view.set]{fullShare} T2) ∗ semVal ((c : Thread nD τ), SemLoc.dma 2) 0 ∗ semVal ((c : Thread nD τ), SemLoc.dma 3) 0
      ∗ ((axRow c).view.loc (c : Thread nD τ) ↦[(axRow c).view.set]{fullShare} A)
      ∗ lendBf (F := F) (fwd c 1) c ∗ lendBf (F := F) (fwd c 2) c ∗ lendAx (F := F) (fwd c 1) c
      ∗ dutyTok (ER F) (dC c 2 1) 0 0 ∗ dutyTok (ER F) (dC (fwd c 1) 3 c) 0 0 ∗ dutyTok (ER F) (dC c 2 2) 0 0 ∗ dutyTok (ER F) (dC (fwd c 2) 3 c) 0 0
      ∗ dutyTok (ER F) (dC c 4 1) 0 0 ∗ dutyTok (ER F) (dC (fwd c 1) 5 c) 0 0)
    ⊢ iprop((∀ v, (ow c 10 ∗ ((Memref.whole cc0_stg0_0).view.loc (c : Thread nD τ) ↦[Finset.univ]{fullShare} X) ∗ ((Memref.whole main_arg1).view.loc (c : Thread nD τ) ↦[Finset.univ]{fullShare} Wt)
      ∗ (∃ B, (slot0).view.loc (c : Thread nD τ) ↦[slot0.view.set]{fullShare} B) ∗ (∃ B, (slot1).view.loc (c : Thread nD τ) ↦[slot1.view.set]{fullShare} B) ∗ ((Memref.whole cc0_scratch3).view.loc (c : Thread nD τ) ↦[Finset.univ]{fullShare} parVal c X Wt)
      ∗ semVal ((c : Thread nD τ), SemLoc.dma 2) 0 ∗ semVal ((c : Thread nD τ), SemLoc.dma 3) 0
      ∗ cred (tallyAt (dC c 2 1) () 32768) ∗ cred (tallyAt (dC c 2 2) () 32768) ∗ cred (tallyAt (dC c 4 1) () 16)
      ∗ owns (c : Thread nD τ) (axRow c) fullShare.left (am c) ∗ owns (c : Thread nD τ) (axRow c) (rst 1) (am c)) -∗ wp frame (wpE (defs₀ (F := F)) Variants.none (c : Thread nD τ) none) Set.univ (k v) Q) -∗
      wp frame (wpE (defs₀ (F := F)) Variants.none (c : Thread nD τ) none) Set.univ (do
       Prog.lift (.enqueueDma ((Memref.whole main_arg1).slice (Rect.unit (s := S4096x8192) (k0_off1 c 1#32 0#32) S4096x512.size (k0_off1_inb c 0 0)) (fun _ => rfl)) (.here slot0) (.dma (((cc0_scratch8).slice (Rect.unit (s := S2) ![0] S1.size inb_S2_S1_0)).squeeze S_ squeezes_S1_S_).sem) (View.wordExact_bits rfl) ((View.wordExact_bits rfl).reshape _ _) ⟨Or.inl rfl, trivial⟩)
       let v67 : F .f32 ← q3 c v2
       let ⟨v96, v111, v113, c1024⟩ ← q4 c v2 v42 v67
       let v136 ← q5 c v2 v96 v113 c1024
       let v165 ← q6 c v2 v111 v136
       let ⟨v203, v208⟩ ← q7 c v2 v165
       let v231 ← q8 c v2 v203 v208
       let v259 ← q9 c v2 v231
       let v287 ← q10 c v2 v259
       let v315 ← q11 c v2 v287
       let ⟨v343, v362⟩ ← q12 c v2 v315
       let ⟨v371, v390, v392, cst_318⟩ ← q13 c v2 v343 v362
       let ⟨v399, v421, v425⟩ ← q14 c v2 v371 v390 v392 cst_318
       let ⟨v449, v455⟩ ← q15 c v2 v399 v421 v425
       let v483 ← q16 c v2 v449 v455
       let v522 ← q17 c v2 v483
       k v522) Q) := by
  iintro ⟨#HR, HO, HX, HW, HB0, HB1, HP, HS1, HS2, Hd0, Hd1, HA, HL1, HL2, HL3, Ht1, Hr1, Ht2, Hr2, Ht3, Hr3⟩ HQ
  simp -proj only [q3, q4, q5, q6, q7, q8, q9, q10, q11, q12, q13, q14, q15, q16, q17, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold k0_part3_skel k0_part4_skel k0_part5_skel k0_part6_skel k0_part7_skel k0_part8_skel k0_part9_skel k0_part10_skel k0_part11_skel k0_part12_skel k0_part13_skel k0_part14_skel k0_part15_skel k0_part16_skel k0_part17_skel lendBf lendAx
  ihave HO := (ow_open c 7) $$ HO
  icases HO with ⟨%W, HO⟩
  ihave #HL := (records_lev am bv qv K) $$ HR
  have hc := c.isLt
  have d0 := w_next c 0 0 0 1 (by simp)
  have d1 := w_next c 0 1 1 0 (by simp; omega)
  have d2 := w_next c 1 1 0 1 (by simp)
  have d3 := w_next c 1 2 1 0 (by simp; omega)
  have d4 := w_next c 2 2 0 1 (by simp)
  have d5 := w_next c 2 3 1 0 (by simp; omega)
  have d6 := w_next c 3 3 0 1 (by simp)
  have d7 := w_next c 3 4 1 0 (by simp; omega)
  have d8 := w_next c 4 4 0 1 (by simp)
  have d9 := w_next c 4 5 1 0 (by simp; omega)
  have d10 := w_next c 5 5 0 1 (by simp)
  have d11 := w_next c 5 6 1 0 (by simp; omega)
  have d12 := w_next c 6 6 0 1 (by simp)
  have d13 := w_next c 6 7 1 0 (by simp; omega)
  have d14 := w_next c 7 7 0 1 (by simp)
  have mw0 : (levAts L lv : sProp 𝕄) ⊢ MayWait (c : Thread nD τ) (.dma 2) () (owed c 7) := mayWait_low c 7 (by decide) _ (.inl rfl)
  have mw1 : (levAts L lv : sProp 𝕄) ⊢ MayWait (c : Thread nD τ) (.dma 3) () (owed c 7) := mayWait_low c 7 (by decide) _ (.inr rfl)
  have hX := readX X
  have h0 := slot0_val c Wt
  have h1 := slot1_val c Wt
  sl_exec
  have e0 : gemm.sl.v59 c Wt = wcn c Wt 0 := slot0_val c Wt 0 0 _ _
  have e1 : gemm.sl.v88 c Wt = wcn c Wt 1 := slot1_val c Wt 0 1 _ _
  have hS1 : (bfC1.view.loc (c : Thread nD τ) ↦[bfC1.view.set]{fullShare} gemm.sl.HS1_w2 c X Wt T1 : sProp 𝕄) ⊢ owns (c : Thread nD τ) bfC1 fullShare (bv c 1) :=
    bfC1_owns c X Wt 1 T1 (k0_pay4 X (gemm.sl.v59 c Wt)) (k0_pay7 X (gemm.sl.v88 c Wt)) (congrArg (k0_pay4 X) e0) ((congrArg (k0_pay7 X) e1).trans (pay7_eq X _)) hb1
  ihave HS1 := hS1 $$ HS1
  ihave HO := (ow_close c 7 _) $$ HO
  iapply (step_send am bv qv K c (fwd c 1) 2 1 3 (live_bf_send c 1 (by decide) (by decide)) (live_bf_recv c 1 (by decide) (by decide)) 7 (by decide) rfl rfl rfl rfl
    (payG_bf am bv qv c 1)
    (d' := ⟨k0_dev8 c, k0_dev8_lt c⟩) (Fin.ext (k0_dev8_eq c)) (sem_dS 2 rfl _ ![1] inb_S8_S1_1 1 rfl _) (sem_dS 3 rfl _ (k0_off2 c) (k0_off2_inb c) c (k0_off2_eq c) _) rfl) $$ [HO HS1 HL1 Ht1 Hr1]
  · iframe HO HS1 HL1 Ht1 Hr1
    iexact HR
  iintro ⟨Hc1, HO⟩
  ihave HO := (ow_open c 8) $$ HO
  icases HO with ⟨%W1, HO⟩
  have mw2 : (levAts L lv : sProp 𝕄) ⊢ MayWait (c : Thread nD τ) (.dma 2) () (owed c 8) := mayWait_low c 8 (by decide) _ (.inl rfl)
  have mw3 : (levAts L lv : sProp 𝕄) ⊢ MayWait (c : Thread nD τ) (.dma 3) () (owed c 8) := mayWait_low c 8 (by decide) _ (.inr rfl)
  sl_exec
  have e2 : gemm.sl.v128 c Wt = wcn c Wt 2 := slot0_val c Wt 1 0 _ _
  have e3 : gemm.sl.v157 c Wt = wcn c Wt 3 := slot1_val c Wt 1 1 _ _
  have hS2 : (bfC2.view.loc (c : Thread nD τ) ↦[bfC2.view.set]{fullShare} gemm.sl.HS2_w2 c X Wt T2 : sProp 𝕄) ⊢ owns (c : Thread nD τ) bfC2 fullShare (bv c 2) :=
    bfC2_owns c X Wt 2 T2 (k0_pay10 X (gemm.sl.v128 c Wt)) (k0_pay13 X (gemm.sl.v157 c Wt)) ((congrArg (k0_pay10 X) e2).trans (pay10_eq X _)) ((congrArg (k0_pay13 X) e3).trans (pay13_eq X _)) hb2
  ihave HS2 := hS2 $$ HS2
  ihave HO := (ow_close c 8 _) $$ HO
  iapply (step_send am bv qv K c (fwd c 2) 2 2 3 (live_bf_send c 2 (by decide) (by decide)) (live_bf_recv c 2 (by decide) (by decide)) 8 (by decide) rfl rfl rfl rfl
    (payG_bf am bv qv c 2)
    (d' := ⟨k0_dev9 c, k0_dev9_lt c⟩) (Fin.ext (k0_dev9_eq c)) (sem_dS 2 rfl _ ![2] inb_S8_S1_2 2 rfl _) (sem_dS 3 rfl _ (k0_off2 c) (k0_off2_inb c) c (k0_off2_eq c) _) rfl) $$ [HO HS2 HL2 Ht2 Hr2]
  · iframe HO HS2 HL2 Ht2 Hr2
    iexact HR
  iintro ⟨Hc2, HO⟩
  ihave HO := (ow_open c 9) $$ HO
  icases HO with ⟨%W2, HO⟩
  have mw4 : (levAts L lv : sProp 𝕄) ⊢ MayWait (c : Thread nD τ) (.dma 2) () (owed c 9) := mayWait_low c 9 (by decide) _ (.inl rfl)
  have mw5 : (levAts L lv : sProp 𝕄) ⊢ MayWait (c : Thread nD τ) (.dma 3) () (owed c 9) := mayWait_low c 9 (by decide) _ (.inr rfl)
  sl_exec
  have e4 : gemm.sl.v195 c Wt = wcn c Wt 4 := slot0_val c Wt 2 0 _ _
  have e5 : gemm.sl.v223 c Wt = wcn c Wt 5 := slot1_val c Wt 2 1 _ _
  have e6 : gemm.sl.v251 c Wt = wcn c Wt 6 := slot0_val c Wt 3 0 _ _
  have e7 : gemm.sl.v279 c Wt = wcn c Wt 7 := slot1_val c Wt 3 1 _ _
  have e8 : gemm.sl.v307 c Wt = wcn c Wt 8 := slot0_val c Wt 4 0 _ _
  have e9 : gemm.sl.v335 c Wt = wcn c Wt 9 := slot1_val c Wt 4 1 _ _
  have e10 : gemm.sl.v363 c Wt = wcn c Wt 10 := slot0_val c Wt 5 0 _ _
  have e11 : gemm.sl.v391 c Wt = wcn c Wt 11 := slot1_val c Wt 5 1 _ _
  have e12 : gemm.sl.v419 c Wt = wcn c Wt 12 := slot0_val c Wt 6 0 _ _
  have e13 : gemm.sl.v447 c Wt = wcn c Wt 13 := slot1_val c Wt 6 1 _ _
  have e14 : gemm.sl.v475 c Wt = wcn c Wt 14 := slot0_val c Wt 7 0 _ _
  have e15 : gemm.sl.v494 c Wt = wcn c Wt 15 := slot1_val c Wt 7 1 _ _
  have ec : (gemm.sl.cst_318 : FVec F S512x512 .f32) = constant S512x512 .f32 0x00000000#32 := rfl
  simp -proj only [psig_fst, psig_snd, ec, e4, e5, e6, e7, e8, e9, e10, e11, e12, e13, e14, e15, pay19_eq, pay22_eq, pay25_eq, pay28_eq, pay31_eq, pay35_eq, pay40_eq, pay43_eq, pay46_eq, pay49_eq, pay51_eq]
  have hP := par_pt (F := F) c X Wt P
  ihave HP := hP $$ HP
  have hA : ((axRow c).view.loc (c : Thread nD τ) ↦[(axRow c).view.set]{fullShare} gemm.sl.HA_w1 c v2 X Wt A : sProp 𝕄) ⊢ owns (c : Thread nD τ) (axRow c) fullShare (am c) := by
    refine ax_owns (F := F) c A _ ?_
    rw [ha, amRow_eq]
    simp only [ec, e0, e1, e2, e3, e4, e5, e6, e7, e8, e9, e10, e11, e12, e13, e14, e15, pay3_eq, pay9_eq, pay12_eq, pay15_eq, pay18_eq, pay21_eq, pay24_eq, pay27_eq, pay30_eq, pay34_eq, pay39_eq, pay45_eq, pay48_eq]
  ihave HA := hA $$ HA
  have hs1 := ax_split (F := F) c fullShare (am c)
  have hs2 : (owns (c : Thread nD τ) (axRow c) (fullShare : PosShare TreeShare).right (am c) : sProp 𝕄) ⊢ iprop(owns (c : Thread nD τ) (axRow c) (shr 1) (am c) ∗ owns (c : Thread nD τ) (axRow c) (rst 1) (am c)) := ax_split (F := F) c _ (am c)
  ihave HA := hs1 $$ HA
  icases HA with ⟨HA, HA'⟩
  ihave HA' := hs2 $$ HA'
  icases HA' with ⟨HA1, HA'⟩
  ihave HO := (ow_close c 9 _) $$ HO
  iapply (step_send am bv qv K c (fwd c 1) 4 1 5 (live_ax_send c 1 (by decide)) (live_ax_recv c 1 (by decide)) 9 (by decide) rfl rfl rfl rfl
    (payG_ax am bv qv (fwd c 1) c)
    (d' := ⟨k0_dev10 c, k0_dev10_lt c⟩) (Fin.ext (k0_dev10_eq c)) (sem_dS 4 rfl _ ![1] inb_S8_S1_1 1 rfl _) (sem_dS 5 rfl _ (k0_off2 c) (k0_off2_inb c) c (k0_off2_eq c) _) rfl) $$ [HO HA1 HL3 Ht3 Hr3]
  · iframe HO HA1 HL3 Ht3 Hr3
    iexact HR
  iintro ⟨Hc3, HO⟩
  simp -proj only [Prog.pure_eq_ret, Prog.bind_ret]
  iapply HQ
  iframe HX HP HW Hc1 Hc2 Hc3 HO HA HA' Hd0 Hd1
  isplitl [HB0]
  · iexists _; iexact HB0
  · iexists _; iexact HB1

end Cert.KernelIdeal.Run
-- ==== Proof.Deal.lean ====
/- What each stage is dealt at the start, and the semaphores the protocol leaves unused. -/
module

public import proofs.«01_k».proof.Proof.Wins
public import proofs.«01_k».proof.Proof.Chain
public import proofs.«01_k».proof.Proof.Gemm

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (am : Dev nD → S1x128.Idx → Elt F .f32) (bv : Dev nD → ℕ → S512x1024.Idx → Elt F .bf16) (qv : Dev nD → ℕ → S512x1024.Idx → Elt F .fp8e4m3)
variable (K : Dev nD × CS → ℕ)

local notation "𝕄" => MT nD τ sig Unit (Elt F) ℕ UU ℕ

/-! ## The cells of a device, in order -/

theorem ls8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ
theorem ls6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ
theorem ls3 (Φ : Fin 3 → sProp 𝕄) : bigSep Finset.univ Φ = iprop(Φ 0 ∗ Φ 1 ∗ Φ 2) :=
  bigSep_univ_eq_bigSepL [(0 : Fin 3), 1, 2] (by decide) (by decide) Φ
theorem ls1 (Φ : Unit → sProp 𝕄) : bigSep Finset.univ Φ = Φ () :=
  bigSep_univ_eq_bigSepL [()] (by decide) (by decide) Φ

/-- A device's cells one by one. -/
theorem cells_eq (c : Dev nD) (Φ : GSem nD τ sig → sProp 𝕄) : (bigSep Finset.univ fun o : CS => Φ (kcell (c, o)))
    = iprop(Φ (barC c) ∗ (Φ (exitC c) ∗ Φ ((c : Thread nD τ), SemLoc.dma 2) ∗ Φ ((c : Thread nD τ), SemLoc.dma 3)) ∗ (Φ (dC c 0 0) ∗ Φ (dC c 0 1) ∗ Φ (dC c 0 2) ∗ Φ (dC c 0 3) ∗ Φ (dC c 0 4) ∗ Φ (dC c 0 5) ∗ Φ (dC c 0 6) ∗ Φ (dC c 0 7)) ∗ (Φ (dC c 1 c) ∗ Φ (dC c 1 (bwd c 1)) ∗ Φ (dC c 1 (bwd c 2)) ∗ Φ (dC c 1 (bwd c 3)) ∗ Φ (dC c 1 (bwd c 4)) ∗ Φ (dC c 1 (bwd c 5)) ∗ Φ (dC c 1 (bwd c 6)) ∗ Φ (dC c 1 (bwd c 7))) ∗ (Φ (dC c 2 0) ∗ Φ (dC c 2 1) ∗ Φ (dC c 2 2) ∗ Φ (dC c 2 3) ∗ Φ (dC c 2 4) ∗ Φ (dC c 2 5) ∗ Φ (dC c 2 6) ∗ Φ (dC c 2 7)) ∗ (Φ (dC c 3 c) ∗ Φ (dC c 3 (bwd c 1)) ∗ Φ (dC c 3 (bwd c 2)) ∗ Φ (dC c 3 (bwd c 3)) ∗ Φ (dC c 3 (bwd c 4)) ∗ Φ (dC c 3 (bwd c 5)) ∗ Φ (dC c 3 (bwd c 6)) ∗ Φ (dC c 3 (bwd c 7))) ∗ (Φ (dC c 4 0) ∗ Φ (dC c 4 1) ∗ Φ (dC c 4 2) ∗ Φ (dC c 4 3) ∗ Φ (dC c 4 4) ∗ Φ (dC c 4 5) ∗ Φ (dC c 4 6) ∗ Φ (dC c 4 7)) ∗ (Φ (dC c 5 c) ∗ Φ (dC c 5 (bwd c 1)) ∗ Φ (dC c 5 (bwd c 2)) ∗ Φ (dC c 5 (bwd c 3)) ∗ Φ (dC c 5 (bwd c 4)) ∗ Φ (dC c 5 (bwd c 5)) ∗ Φ (dC c 5 (bwd c 6)) ∗ Φ (dC c 5 (bwd c 7)))) := by
  rw [bigSep_univ_sum (fun o : CS => Φ (kcell (c, o))), bigSep_univ_sum (fun o : OS => Φ (kcell (c, .inr o))), bigSep_univ_prod (fun gi : Fin 6 × Fin 8 => Φ (kcell (c, .inr (.inr gi)))), ls1, ls3, ls6]
  have r (g : Fin 6) := ring_sep c (fun d : Dev nD => Φ (dC c g d))
  have l (g : Fin 6) := ls8 (fun i : Fin 8 => Φ (dC c g i))
  have e1 := r 1; have e3 := r 3; have e5 := r 5; have e0 := l 0; have e2 := l 2; have e4 := l 4
  refine congrArg₂ BI.sep rfl (congrArg₂ BI.sep rfl ?_)
  exact congrArg₂ BI.sep e0 (congrArg₂ BI.sep e1 (congrArg₂ BI.sep e2 (congrArg₂ BI.sep e3 (congrArg₂ BI.sep e4 e5))))

/-! ## What each stage is dealt -/

/-- Positions for stage A. -/
def atA (c : Dev nD) : sProp 𝕄 := iprop(atPos (ER F) (barC c) 0 ∅ 0)
/-- Positions for stage C. -/
def atC (c : Dev nD) : sProp 𝕄 := iprop(atPos (ER F) (dC c 5 (bwd c 1)) 0 ∅ 0 ∗ atPos (ER F) (dC c 5 (bwd c 2)) 0 ∅ 0 ∗ atPos (ER F) (dC c 5 (bwd c 3)) 0 ∅ 0 ∗ atPos (ER F) (dC c 5 (bwd c 4)) 0 ∅ 0 ∗ atPos (ER F) (dC c 5 (bwd c 5)) 0 ∅ 0 ∗ atPos (ER F) (dC c 5 (bwd c 6)) 0 ∅ 0 ∗ atPos (ER F) (dC c 5 (bwd c 7)) 0 ∅ 0)
/-- Positions for stage E. -/
def atE (c : Dev nD) : sProp 𝕄 := iprop(atPos (ER F) (dC c 1 (bwd c 3)) 0 ∅ 0 ∗ atPos (ER F) (dC c 1 (bwd c 4)) 0 ∅ 0 ∗ atPos (ER F) (dC c 1 (bwd c 5)) 0 ∅ 0 ∗ atPos (ER F) (dC c 1 (bwd c 6)) 0 ∅ 0 ∗ atPos (ER F) (dC c 1 (bwd c 7)) 0 ∅ 0 ∗ atPos (ER F) (dC c 3 (bwd c 1)) 0 ∅ 0)
/-- Positions for stage F. -/
def atF (c : Dev nD) : sProp 𝕄 := iprop(atPos (ER F) (dC c 3 (bwd c 2)) 0 ∅ 0 ∗ atPos (ER F) (dC c 4 1) 0 ∅ 0 ∗ atPos (ER F) (dC c 4 2) 0 ∅ 0 ∗ atPos (ER F) (dC c 4 3) 0 ∅ 0 ∗ atPos (ER F) (dC c 4 4) 0 ∅ 0 ∗ atPos (ER F) (dC c 4 5) 0 ∅ 0 ∗ atPos (ER F) (dC c 4 6) 0 ∅ 0 ∗ atPos (ER F) (dC c 4 7) 0 ∅ 0 ∗ atPos (ER F) (dC c 2 1) 0 ∅ 0 ∗ atPos (ER F) (dC c 2 2) 0 ∅ 0 ∗ atPos (ER F) (dC c 0 3) 0 ∅ 0 ∗ atPos (ER F) (dC c 0 4) 0 ∅ 0 ∗ atPos (ER F) (dC c 0 5) 0 ∅ 0 ∗ atPos (ER F) (dC c 0 6) 0 ∅ 0 ∗ atPos (ER F) (dC c 0 7) 0 ∅ 0)
/-- Positions for stage G. -/
def atG (c : Dev nD) : sProp 𝕄 := iprop(atPos (ER F) (exitC c) 0 ∅ 0)
/-- Positions for stage Z. -/
def atZ (c : Dev nD) : sProp 𝕄 := iprop(atPos (ER F) ((c : Thread nD τ), SemLoc.dma 2) 0 ∅ 0 ∗ atPos (ER F) ((c : Thread nD τ), SemLoc.dma 3) 0 ∅ 0 ∗ atPos (ER F) (dC c 0 0) 0 ∅ 0 ∗ atPos (ER F) (dC c 0 1) 0 ∅ 0 ∗ atPos (ER F) (dC c 0 2) 0 ∅ 0 ∗ atPos (ER F) (dC c 1 c) 0 ∅ 0 ∗ atPos (ER F) (dC c 1 (bwd c 1)) 0 ∅ 0 ∗ atPos (ER F) (dC c 1 (bwd c 2)) 0 ∅ 0 ∗ atPos (ER F) (dC c 2 0) 0 ∅ 0 ∗ atPos (ER F) (dC c 2 3) 0 ∅ 0 ∗ atPos (ER F) (dC c 2 4) 0 ∅ 0 ∗ atPos (ER F) (dC c 2 5) 0 ∅ 0 ∗ atPos (ER F) (dC c 2 6) 0 ∅ 0 ∗ atPos (ER F) (dC c 2 7) 0 ∅ 0 ∗ atPos (ER F) (dC c 3 c) 0 ∅ 0 ∗ atPos (ER F) (dC c 3 (bwd c 3)) 0 ∅ 0 ∗ atPos (ER F) (dC c 3 (bwd c 4)) 0 ∅ 0 ∗ atPos (ER F) (dC c 3 (bwd c 5)) 0 ∅ 0 ∗ atPos (ER F) (dC c 3 (bwd c 6)) 0 ∅ 0 ∗ atPos (ER F) (dC c 3 (bwd c 7)) 0 ∅ 0 ∗ atPos (ER F) (dC c 4 0) 0 ∅ 0 ∗ atPos (ER F) (dC c 5 c) 0 ∅ 0)
/-- The unused semaphores, closed. -/
def svZ (c : Dev nD) : sProp 𝕄 := iprop(semVal ((c : Thread nD τ), SemLoc.dma 2) 0 ∗ semVal ((c : Thread nD τ), SemLoc.dma 3) 0 ∗ semVal (dC c 0 0) 0 ∗ semVal (dC c 0 1) 0 ∗ semVal (dC c 0 2) 0 ∗ semVal (dC c 1 c) 0 ∗ semVal (dC c 1 (bwd c 1)) 0 ∗ semVal (dC c 1 (bwd c 2)) 0 ∗ semVal (dC c 2 0) 0 ∗ semVal (dC c 2 3) 0 ∗ semVal (dC c 2 4) 0 ∗ semVal (dC c 2 5) 0 ∗ semVal (dC c 2 6) 0 ∗ semVal (dC c 2 7) 0 ∗ semVal (dC c 3 c) 0 ∗ semVal (dC c 3 (bwd c 3)) 0 ∗ semVal (dC c 3 (bwd c 4)) 0 ∗ semVal (dC c 3 (bwd c 5)) 0 ∗ semVal (dC c 3 (bwd c 6)) 0 ∗ semVal (dC c 3 (bwd c 7)) 0 ∗ semVal (dC c 4 0) 0 ∗ semVal (dC c 5 c) 0)
theorem at_deal (c : Dev nD) : (bigSep Finset.univ fun o : CS => atPos (ER F) (kcell (c, o)) 0 ∅ 0 : sProp 𝕄) ⊢ iprop(atA c ∗ atC c ∗ atE c ∗ atF c ∗ atG c ∗ atZ c) := by
  rw [cells_eq c (fun g => atPos (ER F) g 0 ∅ 0)]
  iintro ⟨hB, ⟨hX, hl2, hl3⟩, ⟨h0_0, h0_1, h0_2, h0_3, h0_4, h0_5, h0_6, h0_7⟩, ⟨h1_c, h1_1, h1_2, h1_3, h1_4, h1_5, h1_6, h1_7⟩, ⟨h2_0, h2_1, h2_2, h2_3, h2_4, h2_5, h2_6, h2_7⟩, ⟨h3_c, h3_1, h3_2, h3_3, h3_4, h3_5, h3_6, h3_7⟩, ⟨h4_0, h4_1, h4_2, h4_3, h4_4, h4_5, h4_6, h4_7⟩, ⟨h5_c, h5_1, h5_2, h5_3, h5_4, h5_5, h5_6, h5_7⟩⟩
  isplitl [hB]
  · unfold atA
    iexact hB
  isplitl [h5_1 h5_2 h5_3 h5_4 h5_5 h5_6 h5_7]
  · unfold atC
    isplitl [h5_1]; iexact h5_1
    isplitl [h5_2]; iexact h5_2
    isplitl [h5_3]; iexact h5_3
    isplitl [h5_4]; iexact h5_4
    isplitl [h5_5]; iexact h5_5
    isplitl [h5_6]; iexact h5_6
    iexact h5_7
  isplitl [h1_3 h1_4 h1_5 h1_6 h1_7 h3_1]
  · unfold atE
    isplitl [h1_3]; iexact h1_3
    isplitl [h1_4]; iexact h1_4
    isplitl [h1_5]; iexact h1_5
    isplitl [h1_6]; iexact h1_6
    isplitl [h1_7]; iexact h1_7
    iexact h3_1
  isplitl [h3_2 h4_1 h4_2 h4_3 h4_4 h4_5 h4_6 h4_7 h2_1 h2_2 h0_3 h0_4 h0_5 h0_6 h0_7]
  · unfold atF
    isplitl [h3_2]; iexact h3_2
    isplitl [h4_1]; iexact h4_1
    isplitl [h4_2]; iexact h4_2
    isplitl [h4_3]; iexact h4_3
    isplitl [h4_4]; iexact h4_4
    isplitl [h4_5]; iexact h4_5
    isplitl [h4_6]; iexact h4_6
    isplitl [h4_7]; iexact h4_7
    isplitl [h2_1]; iexact h2_1
    isplitl [h2_2]; iexact h2_2
    isplitl [h0_3]; iexact h0_3
    isplitl [h0_4]; iexact h0_4
    isplitl [h0_5]; iexact h0_5
    isplitl [h0_6]; iexact h0_6
    iexact h0_7
  isplitl [hX]
  · unfold atG
    iexact hX
  unfold atZ
  isplitl [hl2]; iexact hl2
  isplitl [hl3]; iexact hl3
  isplitl [h0_0]; iexact h0_0
  isplitl [h0_1]; iexact h0_1
  isplitl [h0_2]; iexact h0_2
  isplitl [h1_c]; iexact h1_c
  isplitl [h1_1]; iexact h1_1
  isplitl [h1_2]; iexact h1_2
  isplitl [h2_0]; iexact h2_0
  isplitl [h2_3]; iexact h2_3
  isplitl [h2_4]; iexact h2_4
  isplitl [h2_5]; iexact h2_5
  isplitl [h2_6]; iexact h2_6
  isplitl [h2_7]; iexact h2_7
  isplitl [h3_c]; iexact h3_c
  isplitl [h3_3]; iexact h3_3
  isplitl [h3_4]; iexact h3_4
  isplitl [h3_5]; iexact h3_5
  isplitl [h3_6]; iexact h3_6
  isplitl [h3_7]; iexact h3_7
  isplitl [h4_0]; iexact h4_0
  iexact h5_c
/-- Tokens for stage A. -/
def tkA (c : Dev nD) : sProp 𝕄 := iprop(dutyTok (ER F) (barC (fwd c 1)) 0 (1 : Fin 8) ∗ dutyTok (ER F) (barC (fwd c 2)) 0 (2 : Fin 8) ∗ dutyTok (ER F) (barC (fwd c 3)) 0 (3 : Fin 8) ∗ dutyTok (ER F) (barC (fwd c 4)) 0 (4 : Fin 8) ∗ dutyTok (ER F) (barC (fwd c 5)) 0 (5 : Fin 8) ∗ dutyTok (ER F) (barC (fwd c 6)) 0 (6 : Fin 8) ∗ dutyTok (ER F) (barC (fwd c 7)) 0 (7 : Fin 8))
/-- Tokens for stage B. -/
def tkB (c : Dev nD) : sProp 𝕄 := iprop(dutyTok (ER F) (dC c 2 1) 0 0 ∗ dutyTok (ER F) (dC (fwd c 1) 3 c) 0 0 ∗ dutyTok (ER F) (dC c 2 2) 0 0 ∗ dutyTok (ER F) (dC (fwd c 2) 3 c) 0 0 ∗ dutyTok (ER F) (dC c 4 1) 0 0 ∗ dutyTok (ER F) (dC (fwd c 1) 5 c) 0 0)
/-- Tokens for stage C. -/
def tkC (c : Dev nD) : sProp 𝕄 := iprop(dutyTok (ER F) (dC c 4 2) 0 0 ∗ dutyTok (ER F) (dC (fwd c 2) 5 c) 0 0 ∗ dutyTok (ER F) (dC c 4 3) 0 0 ∗ dutyTok (ER F) (dC (fwd c 3) 5 c) 0 0 ∗ dutyTok (ER F) (dC c 4 4) 0 0 ∗ dutyTok (ER F) (dC (fwd c 4) 5 c) 0 0 ∗ dutyTok (ER F) (dC c 4 5) 0 0 ∗ dutyTok (ER F) (dC (fwd c 5) 5 c) 0 0 ∗ dutyTok (ER F) (dC c 4 6) 0 0 ∗ dutyTok (ER F) (dC (fwd c 6) 5 c) 0 0 ∗ dutyTok (ER F) (dC c 4 7) 0 0 ∗ dutyTok (ER F) (dC (fwd c 7) 5 c) 0 0)
/-- Tokens for stage D. -/
def tkD (c : Dev nD) : sProp 𝕄 := iprop(dutyTok (ER F) (dC c 0 3) 0 0 ∗ dutyTok (ER F) (dC (fwd c 3) 1 c) 0 0 ∗ dutyTok (ER F) (dC c 0 4) 0 0 ∗ dutyTok (ER F) (dC (fwd c 4) 1 c) 0 0 ∗ dutyTok (ER F) (dC c 0 5) 0 0 ∗ dutyTok (ER F) (dC (fwd c 5) 1 c) 0 0 ∗ dutyTok (ER F) (dC c 0 6) 0 0 ∗ dutyTok (ER F) (dC (fwd c 6) 1 c) 0 0 ∗ dutyTok (ER F) (dC c 0 7) 0 0 ∗ dutyTok (ER F) (dC (fwd c 7) 1 c) 0 0)
/-- Tokens for stage F. -/
def tkF (c : Dev nD) : sProp 𝕄 := iprop(dutyTok (ER F) (exitC (fwd c 1)) 0 (1 : Fin 8) ∗ dutyTok (ER F) (exitC (fwd c 2)) 0 (2 : Fin 8) ∗ dutyTok (ER F) (exitC (fwd c 3)) 0 (3 : Fin 8) ∗ dutyTok (ER F) (exitC (fwd c 4)) 0 (4 : Fin 8))
/-- Tokens for stage G. -/
def tkG (c : Dev nD) : sProp 𝕄 := iprop(dutyTok (ER F) (exitC (fwd c 5)) 0 (5 : Fin 8) ∗ dutyTok (ER F) (exitC (fwd c 6)) 0 (6 : Fin 8) ∗ dutyTok (ER F) (exitC (fwd c 7)) 0 (7 : Fin 8))
/-- Credit for stage A. -/
def crA (c : Dev nD) : sProp 𝕄 := iprop(cred (tallyAt (barC c) () 7))
/-- Credit for stage C. -/
def crC (c : Dev nD) : sProp 𝕄 := iprop(cred (tallyAt (dC c 5 (bwd c 1)) () 16) ∗ cred (tallyAt (dC c 5 (bwd c 2)) () 16) ∗ cred (tallyAt (dC c 5 (bwd c 3)) () 16) ∗ cred (tallyAt (dC c 5 (bwd c 4)) () 16) ∗ cred (tallyAt (dC c 5 (bwd c 5)) () 16) ∗ cred (tallyAt (dC c 5 (bwd c 6)) () 16) ∗ cred (tallyAt (dC c 5 (bwd c 7)) () 16))
/-- Credit for stage E. -/
def crE (c : Dev nD) : sProp 𝕄 := iprop(cred (tallyAt (dC c 1 (bwd c 3)) () 16384) ∗ cred (tallyAt (dC c 1 (bwd c 4)) () 16384) ∗ cred (tallyAt (dC c 1 (bwd c 5)) () 16384) ∗ cred (tallyAt (dC c 1 (bwd c 6)) () 16384) ∗ cred (tallyAt (dC c 1 (bwd c 7)) () 16384) ∗ cred (tallyAt (dC c 3 (bwd c 1)) () 32768))
/-- Credit for stage F. -/
def crF (c : Dev nD) : sProp 𝕄 := iprop(cred (tallyAt (dC c 3 (bwd c 2)) () 32768))
/-- Credit for stage G. -/
def crG (c : Dev nD) : sProp 𝕄 := iprop(cred (tallyAt (exitC c) () 7))

theorem dead_own1 (c : Dev nD) : live c 1 c.val = false := by revert c; decide
theorem dead_own3 (c : Dev nD) : live c 3 c.val = false := by revert c; decide
theorem dead_own5 (c : Dev nD) : live c 5 c.val = false := by revert c; decide
theorem dead_q (c : Dev nD) : ∀ k : Fin 8, k.val < 3 → live c 1 (bwd c k.val).val = false := by revert c; decide
theorem dead_bf (c : Dev nD) : ∀ k : Fin 8, 3 ≤ k.val → live c 3 (bwd c k.val).val = false := by revert c; decide

/-- An unused copy semaphore, closed. -/
theorem close_dC (c : Dev nD) (g : Fin 6) (i : Fin 8) (h : live c g.val i.val = false) :
    (iprop(records am bv qv K ∗ atPos (ER F) (dC c g i) 0 ∅ 0) : sProp 𝕄) ⊢ |={Set.univ}=> semVal (dC c g i) 0 :=
  close_unused am bv qv K c (.inr (.inr (g, i))) (duties_dead am bv qv c g i h)
theorem close_low2 (c : Dev nD) : (iprop(records am bv qv K ∗ atPos (ER F) ((c : Thread nD τ), SemLoc.dma 2) 0 ∅ 0) : sProp 𝕄) ⊢ |={Set.univ}=> semVal ((c : Thread nD τ), SemLoc.dma 2) 0 :=
  close_unused am bv qv K c (.inr (.inl 1)) (duties_low am bv qv c 2 (by decide))
theorem close_low3 (c : Dev nD) : (iprop(records am bv qv K ∗ atPos (ER F) ((c : Thread nD τ), SemLoc.dma 3) 0 ∅ 0) : sProp 𝕄) ⊢ |={Set.univ}=> semVal ((c : Thread nD τ), SemLoc.dma 3) 0 :=
  close_unused am bv qv K c (.inr (.inl 2)) (duties_low am bv qv c 3 (by decide))

theorem close_dead (c : Dev nD) : (iprop(records am bv qv K ∗ atZ c) : sProp 𝕄) ⊢ |={Set.univ}=> svZ c := by
  unfold atZ svZ
  iintro ⟨#HR, hl2, hl3, h0_0, h0_1, h0_2, h1_c, h1_1, h1_2, h2_0, h2_3, h2_4, h2_5, h2_6, h2_7, h3_c, h3_3, h3_4, h3_5, h3_6, h3_7, h4_0, h5_c⟩
  imod (close_low2 am bv qv K c) $$ [hl2] with hl2
  · isplitr; · iexact HR
    iexact hl2
  imod (close_low3 am bv qv K c) $$ [hl3] with hl3
  · isplitr; · iexact HR
    iexact hl3
  imod (close_dC am bv qv K c 0 0 rfl) $$ [h0_0] with h0_0
  · isplitr; · iexact HR
    iexact h0_0
  imod (close_dC am bv qv K c 0 1 rfl) $$ [h0_1] with h0_1
  · isplitr; · iexact HR
    iexact h0_1
  imod (close_dC am bv qv K c 0 2 rfl) $$ [h0_2] with h0_2
  · isplitr; · iexact HR
    iexact h0_2
  imod (close_dC am bv qv K c 1 c (dead_own1 c)) $$ [h1_c] with h1_c
  · isplitr; · iexact HR
    iexact h1_c
  imod (close_dC am bv qv K c 1 (bwd c 1) (dead_q c 1 (by decide))) $$ [h1_1] with h1_1
  · isplitr; · iexact HR
    iexact h1_1
  imod (close_dC am bv qv K c 1 (bwd c 2) (dead_q c 2 (by decide))) $$ [h1_2] with h1_2
  · isplitr; · iexact HR
    iexact h1_2
  imod (close_dC am bv qv K c 2 0 rfl) $$ [h2_0] with h2_0
  · isplitr; · iexact HR
    iexact h2_0
  imod (close_dC am bv qv K c 2 3 rfl) $$ [h2_3] with h2_3
  · isplitr; · iexact HR
    iexact h2_3
  imod (close_dC am bv qv K c 2 4 rfl) $$ [h2_4] with h2_4
  · isplitr; · iexact HR
    iexact h2_4
  imod (close_dC am bv qv K c 2 5 rfl) $$ [h2_5] with h2_5
  · isplitr; · iexact HR
    iexact h2_5
  imod (close_dC am bv qv K c 2 6 rfl) $$ [h2_6] with h2_6
  · isplitr; · iexact HR
    iexact h2_6
  imod (close_dC am bv qv K c 2 7 rfl) $$ [h2_7] with h2_7
  · isplitr; · iexact HR
    iexact h2_7
  imod (close_dC am bv qv K c 3 c (dead_own3 c)) $$ [h3_c] with h3_c
  · isplitr; · iexact HR
    iexact h3_c
  imod (close_dC am bv qv K c 3 (bwd c 3) (dead_bf c 3 (by decide))) $$ [h3_3] with h3_3
  · isplitr; · iexact HR
    iexact h3_3
  imod (close_dC am bv qv K c 3 (bwd c 4) (dead_bf c 4 (by decide))) $$ [h3_4] with h3_4
  · isplitr; · iexact HR
    iexact h3_4
  imod (close_dC am bv qv K c 3 (bwd c 5) (dead_bf c 5 (by decide))) $$ [h3_5] with h3_5
  · isplitr; · iexact HR
    iexact h3_5
  imod (close_dC am bv qv K c 3 (bwd c 6) (dead_bf c 6 (by decide))) $$ [h3_6] with h3_6
  · isplitr; · iexact HR
    iexact h3_6
  imod (close_dC am bv qv K c 3 (bwd c 7) (dead_bf c 7 (by decide))) $$ [h3_7] with h3_7
  · isplitr; · iexact HR
    iexact h3_7
  imod (close_dC am bv qv K c 4 0 rfl) $$ [h4_0] with h4_0
  · isplitr; · iexact HR
    iexact h4_0
  imod (close_dC am bv qv K c 5 c (dead_own5 c)) $$ [h5_c] with h5_c
  · isplitr; · iexact HR
    iexact h5_c
  imodintro
  isplitl [hl2]
  · iexact hl2
  isplitl [hl3]
  · iexact hl3
  isplitl [h0_0]
  · iexact h0_0
  isplitl [h0_1]
  · iexact h0_1
  isplitl [h0_2]
  · iexact h0_2
  isplitl [h1_c]
  · iexact h1_c
  isplitl [h1_1]
  · iexact h1_1
  isplitl [h1_2]
  · iexact h1_2
  isplitl [h2_0]
  · iexact h2_0
  isplitl [h2_3]
  · iexact h2_3
  isplitl [h2_4]
  · iexact h2_4
  isplitl [h2_5]
  · iexact h2_5
  isplitl [h2_6]
  · iexact h2_6
  isplitl [h2_7]
  · iexact h2_7
  isplitl [h3_c]
  · iexact h3_c
  isplitl [h3_3]
  · iexact h3_3
  isplitl [h3_4]
  · iexact h3_4
  isplitl [h3_5]
  · iexact h3_5
  isplitl [h3_6]
  · iexact h3_6
  isplitl [h3_7]
  · iexact h3_7
  isplitl [h4_0]
  · iexact h4_0
  iexact h5_c

end Cert.KernelIdeal.Run
-- ==== Proof.StageA.lean ====
/- The barrier: the windows lent and borrowed. -/
module

public import proofs.«01_k».proof.Proof.Ops

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (am : Dev nD → S1x128.Idx → Elt F .f32) (bv : Dev nD → ℕ → S512x1024.Idx → Elt F .bf16) (qv : Dev nD → ℕ → S512x1024.Idx → Elt F .fp8e4m3)
variable (K : Dev nD × CS → ℕ)

local notation "𝕄" => MT nD τ sig Unit (Elt F) ℕ UU ℕ

theorem give_q (c : Dev nD) (n : ℕ) (j : Fin 8) (hn : j.val = n) (h : n < 6) : iprop(lendAx (F := F) c (fwd c n) ∗ lendQ (F := F) c (fwd c n)) ⊢ (Rd am bv qv).payload ((fwd c n : Thread nD τ), .reg ⟨0, by decide⟩) 0 j := by
  subst hn
  change _ ⊢ (Rd am bv qv).payload (barC (fwd c j.val)) 0 j
  rw [payload_bar]; unfold barPay
  rw [bwd_fwd, if_neg (by omega)]
theorem give_bf (c : Dev nD) (n : ℕ) (j : Fin 8) (hn : j.val = n) (h : 6 ≤ n) : iprop(lendAx (F := F) c (fwd c n) ∗ lendBf (F := F) c (fwd c n)) ⊢ (Rd am bv qv).payload ((fwd c n : Thread nD τ), .reg ⟨0, by decide⟩) 0 j := by
  subst hn
  change _ ⊢ (Rd am bv qv).payload (barC (fwd c j.val)) 0 j
  rw [payload_bar]; unfold barPay
  rw [bwd_fwd, if_pos h]
theorem bwd_eq_fwd (c : Dev nD) (n m : ℕ) (h : n + m = 8) (h1 : 1 ≤ n) : bwd c n = fwd c m := by
  obtain rfl : m = 8 - n := by omega
  have hn : n ≤ 8 := by omega
  clear h
  revert c; interval_cases n <;> decide
theorem take_q (c : Dev nD) (n m : ℕ) (hm : n + m = 8) (h1 : 1 ≤ n) (h : n < 6) : (barPay (F := F) c n : sProp 𝕄) ⊢ iprop(lendAx (F := F) (fwd c m) c ∗ lendQ (F := F) (fwd c m) c) := by
  unfold barPay; rw [bwd_eq_fwd c n m hm h1, if_neg (by omega)]
theorem take_bf (c : Dev nD) (n m : ℕ) (hm : n + m = 8) (h : 6 ≤ n) : (barPay (F := F) c n : sProp 𝕄) ⊢ iprop(lendAx (F := F) (fwd c m) c ∗ lendBf (F := F) (fwd c m) c) := by
  unfold barPay; rw [bwd_eq_fwd c n m hm (by omega), if_pos h]

set_option maxHeartbeats 2000000 in
theorem stageA (c : Dev nD) {Q : PUnit → sProp (MT nD τ sig Unit (Elt F) ℕ UU ℕ)} (k : Dev nD → BitVec 32 → BitVec 32 → Prog (TpuEff nD τ sig (Elt F) Λ₀ .tc) PUnit) :
    iprop(records am bv qv K ∗ ow c 0 ∗ cred (tallyAt (barC c) () 7) ∗ atPos (ER F) (barC c) 0 ∅ 0 ∗ dutyTok (ER F) (barC (fwd c 1)) 0 (1 : Fin 8) ∗ lendAx (F := F) c (fwd c 1) ∗ lendQ (F := F) c (fwd c 1) ∗ dutyTok (ER F) (barC (fwd c 2)) 0 (2 : Fin 8) ∗ lendAx (F := F) c (fwd c 2) ∗ lendQ (F := F) c (fwd c 2) ∗ dutyTok (ER F) (barC (fwd c 3)) 0 (3 : Fin 8) ∗ lendAx (F := F) c (fwd c 3) ∗ lendQ (F := F) c (fwd c 3) ∗ dutyTok (ER F) (barC (fwd c 4)) 0 (4 : Fin 8) ∗ lendAx (F := F) c (fwd c 4) ∗ lendQ (F := F) c (fwd c 4) ∗ dutyTok (ER F) (barC (fwd c 5)) 0 (5 : Fin 8) ∗ lendAx (F := F) c (fwd c 5) ∗ lendQ (F := F) c (fwd c 5) ∗ dutyTok (ER F) (barC (fwd c 6)) 0 (6 : Fin 8) ∗ lendAx (F := F) c (fwd c 6) ∗ lendBf (F := F) c (fwd c 6) ∗ dutyTok (ER F) (barC (fwd c 7)) 0 (7 : Fin 8) ∗ lendAx (F := F) c (fwd c 7) ∗ lendBf (F := F) c (fwd c 7))
    ⊢ iprop((∀ v42, (ow c 7 ∗ semVal (barC c) 0 ∗ lendAx (F := F) (fwd c 7) c ∗ lendQ (F := F) (fwd c 7) c ∗ lendAx (F := F) (fwd c 6) c ∗ lendQ (F := F) (fwd c 6) c ∗ lendAx (F := F) (fwd c 5) c ∗ lendQ (F := F) (fwd c 5) c ∗ lendAx (F := F) (fwd c 4) c ∗ lendQ (F := F) (fwd c 4) c ∗ lendAx (F := F) (fwd c 3) c ∗ lendQ (F := F) (fwd c 3) c ∗ lendAx (F := F) (fwd c 2) c ∗ lendBf (F := F) (fwd c 2) c ∗ lendAx (F := F) (fwd c 1) c ∗ lendBf (F := F) (fwd c 1) c) -∗ wp frame (wpE (defs₀ (F := F)) 𝒱₀ (c : Thread nD τ) none) Set.univ (do
          Prog.lift (.enqueueDma ((Memref.whole main_arg1).slice (Rect.unit (s := S4096x8192) (k0_off1 c 1#32 0#32) S4096x512.size (k0_off1_inb c 0 0)) (fun _ => rfl)) (.here slot0) (.dma (((cc0_scratch8).slice (Rect.unit (s := S2) ![0] S1.size inb_S2_S1_0)).squeeze S_ squeezes_S1_S_).sem) (View.wordExact_bits rfl) ((View.wordExact_bits rfl).reshape _ _) ⟨Or.inl rfl, trivial⟩)
          k c (Scalar.remsi (Scalar.divsi (Dev.word c) 1#32) 8#32) v42) Q) -∗
      wp frame (wpE (defs₀ (F := F)) 𝒱₀ (c : Thread nD τ) none) Set.univ (do
        let ⟨d0, v2, v3, v24, c8⟩ ← q1
        let v42 ← q2 d0 v2 v3 v24 c8
        k d0 v2 v42) Q) := by
  iintro ⟨#HR, HO, Hc, Hat, Ht1, Ha1, Hq1, Ht2, Ha2, Hq2, Ht3, Ha3, Hq3, Ht4, Ha4, Hq4, Ht5, Ha5, Hq5, Ht6, Ha6, Hq6, Ht7, Ha7, Hq7⟩ HQ
  simp -proj only [q1, q2, k0_part1_eq_skeleton, k0_part2_eq_skeleton]
  unfold k0_part1_skel k0_part2_skel
  simp -proj only [semSignalWord, semWaitWord, Prog.lift, Prog.bind_op, Prog.bind_ret, Prog.pure_eq_ret, wp_deviceId]
  ihave Hp := (give_q am bv qv c 1 1 rfl (by decide)) $$ [Ha1 Hq1]
  · isplitl [Ha1]; · iexact Ha1
    iexact Hq1
  iapply (step_signal am bv qv K c (fwd c 1) ⟨0, by decide⟩ (.inl ()) rfl 1 (by decide) 0 (by decide) rfl rfl (d' := ⟨k0_dev1 c, k0_dev1_lt c⟩) (Fin.ext (k0_dev1_eq c)) rfl) $$ [HO Ht1 Hp]
  · isplitr; · iexact HR
    isplitl [HO]; · iexact HO
    isplitl [Ht1]; · iexact Ht1
    iexact Hp
  iintro HO
  ihave Hp := (give_q am bv qv c 2 2 rfl (by decide)) $$ [Ha2 Hq2]
  · isplitl [Ha2]; · iexact Ha2
    iexact Hq2
  iapply (step_signal am bv qv K c (fwd c 2) ⟨0, by decide⟩ (.inl ()) rfl 2 (by decide) 1 (by decide) rfl rfl (d' := ⟨k0_dev2 c, k0_dev2_lt c⟩) (Fin.ext (k0_dev2_eq c)) rfl) $$ [HO Ht2 Hp]
  · isplitr; · iexact HR
    isplitl [HO]; · iexact HO
    isplitl [Ht2]; · iexact Ht2
    iexact Hp
  iintro HO
  ihave Hp := (give_q am bv qv c 3 3 rfl (by decide)) $$ [Ha3 Hq3]
  · isplitl [Ha3]; · iexact Ha3
    iexact Hq3
  iapply (step_signal am bv qv K c (fwd c 3) ⟨0, by decide⟩ (.inl ()) rfl 3 (by decide) 2 (by decide) rfl rfl (d' := ⟨k0_dev3 c, k0_dev3_lt c⟩) (Fin.ext (k0_dev3_eq c)) rfl) $$ [HO Ht3 Hp]
  · isplitr; · iexact HR
    isplitl [HO]; · iexact HO
    isplitl [Ht3]; · iexact Ht3
    iexact Hp
  iintro HO
  ihave Hp := (give_q am bv qv c 4 4 rfl (by decide)) $$ [Ha4 Hq4]
  · isplitl [Ha4]; · iexact Ha4
    iexact Hq4
  iapply (step_signal am bv qv K c (fwd c 4) ⟨0, by decide⟩ (.inl ()) rfl 4 (by decide) 3 (by decide) rfl rfl (d' := ⟨k0_dev4 c, k0_dev4_lt c⟩) (Fin.ext (k0_dev4_eq c)) rfl) $$ [HO Ht4 Hp]
  · isplitr; · iexact HR
    isplitl [HO]; · iexact HO
    isplitl [Ht4]; · iexact Ht4
    iexact Hp
  iintro HO
  ihave Hp := (give_q am bv qv c 5 5 rfl (by decide)) $$ [Ha5 Hq5]
  · isplitl [Ha5]; · iexact Ha5
    iexact Hq5
  iapply (step_signal am bv qv K c (fwd c 5) ⟨0, by decide⟩ (.inl ()) rfl 5 (by decide) 4 (by decide) rfl rfl (d' := ⟨k0_dev5 c, k0_dev5_lt c⟩) (Fin.ext (k0_dev5_eq c)) rfl) $$ [HO Ht5 Hp]
  · isplitr; · iexact HR
    isplitl [HO]; · iexact HO
    isplitl [Ht5]; · iexact Ht5
    iexact Hp
  iintro HO
  ihave Hp := (give_bf am bv qv c 6 6 rfl (by decide)) $$ [Ha6 Hq6]
  · isplitl [Ha6]; · iexact Ha6
    iexact Hq6
  iapply (step_signal am bv qv K c (fwd c 6) ⟨0, by decide⟩ (.inl ()) rfl 6 (by decide) 5 (by decide) rfl rfl (d' := ⟨k0_dev6 c, k0_dev6_lt c⟩) (Fin.ext (k0_dev6_eq c)) rfl) $$ [HO Ht6 Hp]
  · isplitr; · iexact HR
    isplitl [HO]; · iexact HO
    isplitl [Ht6]; · iexact Ht6
    iexact Hp
  iintro HO
  ihave Hp := (give_bf am bv qv c 7 7 rfl (by decide)) $$ [Ha7 Hq7]
  · isplitl [Ha7]; · iexact Ha7
    iexact Hq7
  iapply (step_signal am bv qv K c (fwd c 7) ⟨0, by decide⟩ (.inl ()) rfl 7 (by decide) 6 (by decide) rfl rfl (d' := ⟨k0_dev7 c, k0_dev7_lt c⟩) (Fin.ext (k0_dev7_eq c)) rfl) $$ [HO Ht7 Hp]
  · isplitr; · iexact HR
    isplitl [HO]; · iexact HO
    isplitl [Ht7]; · iexact Ht7
    iexact Hp
  iintro HO
  iapply (step_semWait am bv qv K c ⟨0, by decide⟩ (.inl ()) rfl 7 (by intro j h1 h2; interval_cases j <;> decide) rfl) $$ [HO Hc Hat]
  · isplitr; · iexact HR
    isplitl [HO]; · iexact HO
    isplitl [Hc]; · iexact Hc
    iexact Hat
  iintro ⟨HO, Hz, Hb⟩
  ihave Hb := (Entails.of_eq (rest_bar am bv qv c)) $$ Hb
  icases Hb with ⟨Hb1, Hb2, Hb3, Hb4, Hb5, Hb6, Hb7⟩
  ihave Hb1 := (take_q c 1 7 rfl (by decide) (by decide)) $$ Hb1
  icases Hb1 with ⟨Ha1, Hq1⟩
  ihave Hb2 := (take_q c 2 6 rfl (by decide) (by decide)) $$ Hb2
  icases Hb2 with ⟨Ha2, Hq2⟩
  ihave Hb3 := (take_q c 3 5 rfl (by decide) (by decide)) $$ Hb3
  icases Hb3 with ⟨Ha3, Hq3⟩
  ihave Hb4 := (take_q c 4 4 rfl (by decide) (by decide)) $$ Hb4
  icases Hb4 with ⟨Ha4, Hq4⟩
  ihave Hb5 := (take_q c 5 3 rfl (by decide) (by decide)) $$ Hb5
  icases Hb5 with ⟨Ha5, Hq5⟩
  ihave Hb6 := (take_bf c 6 2 rfl (by decide)) $$ Hb6
  icases Hb6 with ⟨Ha6, Hq6⟩
  ihave Hb7 := (take_bf c 7 1 rfl (by decide)) $$ Hb7
  icases Hb7 with ⟨Ha7, Hq7⟩
  ihave HQ := HQ $$ %_
  iapply HQ
  isplitl [HO]; · iexact HO
  isplitl [Hz]; · iexact Hz
  isplitl [Ha1]; · iexact Ha1
  isplitl [Hq1]; · iexact Hq1
  isplitl [Ha2]; · iexact Ha2
  isplitl [Hq2]; · iexact Hq2
  isplitl [Ha3]; · iexact Ha3
  isplitl [Hq3]; · iexact Hq3
  isplitl [Ha4]; · iexact Ha4
  isplitl [Hq4]; · iexact Hq4
  isplitl [Ha5]; · iexact Ha5
  isplitl [Hq5]; · iexact Hq5
  isplitl [Ha6]; · iexact Ha6
  isplitl [Hq6]; · iexact Hq6
  isplitl [Ha7]; · iexact Ha7
  iexact Hq7

end Cert.KernelIdeal.Run
-- ==== Proof.Body.lean ====
/- The kernel's body, from start to end, on one device. -/
module

public import proofs.«01_k».proof.Proof.Deal
public import proofs.«01_k».proof.Proof.StageA
public import proofs.«01_k».proof.Proof.StageC
public import proofs.«01_k».proof.Proof.StageD

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (am : Dev nD → S1x128.Idx → Elt F .f32) (bv : Dev nD → ℕ → S512x1024.Idx → Elt F .bf16) (qv : Dev nD → ℕ → S512x1024.Idx → Elt F .fp8e4m3)
variable (K : Dev nD × CS → ℕ)

local notation "𝕄" => MT nD τ sig Unit (Elt F) ℕ UU ℕ

/-! ## The stages, as links of the chain -/

theorem stageA' (c : Dev nD) {Q : PUnit → sProp (MT nD τ sig Unit (Elt F) ℕ UU ℕ)} :
    iprop(records am bv qv K ∗ ow c 0 ∗ cred (tallyAt (barC c) () 7) ∗ atPos (ER F) (barC c) 0 ∅ 0 ∗ dutyTok (ER F) (barC (fwd c 1)) 0 (1 : Fin 8) ∗ lendAx (F := F) c (fwd c 1) ∗ lendQ (F := F) c (fwd c 1) ∗ dutyTok (ER F) (barC (fwd c 2)) 0 (2 : Fin 8) ∗ lendAx (F := F) c (fwd c 2) ∗ lendQ (F := F) c (fwd c 2) ∗ dutyTok (ER F) (barC (fwd c 3)) 0 (3 : Fin 8) ∗ lendAx (F := F) c (fwd c 3) ∗ lendQ (F := F) c (fwd c 3) ∗ dutyTok (ER F) (barC (fwd c 4)) 0 (4 : Fin 8) ∗ lendAx (F := F) c (fwd c 4) ∗ lendQ (F := F) c (fwd c 4) ∗ dutyTok (ER F) (barC (fwd c 5)) 0 (5 : Fin 8) ∗ lendAx (F := F) c (fwd c 5) ∗ lendQ (F := F) c (fwd c 5) ∗ dutyTok (ER F) (barC (fwd c 6)) 0 (6 : Fin 8) ∗ lendAx (F := F) c (fwd c 6) ∗ lendBf (F := F) c (fwd c 6) ∗ dutyTok (ER F) (barC (fwd c 7)) 0 (7 : Fin 8) ∗ lendAx (F := F) c (fwd c 7) ∗ lendBf (F := F) c (fwd c 7))
    ⊢ iprop((∀ v42, (ow c 7 ∗ semVal (barC c) 0 ∗ lendAx (F := F) (fwd c 7) c ∗ lendQ (F := F) (fwd c 7) c ∗ lendAx (F := F) (fwd c 6) c ∗ lendQ (F := F) (fwd c 6) c ∗ lendAx (F := F) (fwd c 5) c ∗ lendQ (F := F) (fwd c 5) c ∗ lendAx (F := F) (fwd c 4) c ∗ lendQ (F := F) (fwd c 4) c ∗ lendAx (F := F) (fwd c 3) c ∗ lendQ (F := F) (fwd c 3) c ∗ lendAx (F := F) (fwd c 2) c ∗ lendBf (F := F) (fwd c 2) c ∗ lendAx (F := F) (fwd c 1) c ∗ lendBf (F := F) (fwd c 1) c) -∗ wp frame (wpE (defs₀ (F := F)) 𝒱₀ (c : Thread nD τ) none) Set.univ (do
          Prog.lift (.enqueueDma ((Memref.whole main_arg1).slice (Rect.unit (s := S4096x8192) (k0_off1 c 1#32 0#32) S4096x512.size (k0_off1_inb c 0 0)) (fun _ => rfl)) (.here slot0) (.dma (((cc0_scratch8).slice (Rect.unit (s := S2) ![0] S1.size inb_S2_S1_0)).squeeze S_ squeezes_S1_S_).sem) (View.wordExact_bits rfl) ((View.wordExact_bits rfl).reshape _ _) ⟨Or.inl rfl, trivial⟩)
          kB c (Scalar.remsi (Scalar.divsi (Dev.word c) 1#32) 8#32) v42) Q) -∗
      wp frame (wpE (defs₀ (F := F)) 𝒱₀ (c : Thread nD τ) none) Set.univ (do
        let ⟨d0, v2, v3, v24, c8⟩ ← q1
        let v42 ← q2 d0 v2 v3 v24 c8
        kB d0 v2 v42) Q) :=
  stageA am bv qv K c  kB

set_option maxRecDepth 8000 in
theorem gemm' (c : Dev nD) (v2 v42 : BitVec 32) (X : S512x4096.Idx → Elt F .f32) (Wt : S4096x8192.Idx → Elt F .f32)
    (hb1 : bv c 1 = bfVal c X Wt 1) (hb2 : bv c 2 = bfVal c X Wt 2) (ha : am c = amRow c X Wt)
    (B B' : S2x4096x512.Idx → Elt F .f32) (P : S512x6144.Idx → Elt F .f32) (T1 T2 : S512x2048.Idx → Elt F .bf16) (A : S8x128.Idx → Elt F .f32)
    {Q : PUnit → sProp (MT nD τ sig Unit (Elt F) ℕ UU ℕ)} :
    iprop(records am bv qv K ∗ ow c 7 ∗ ((Memref.whole cc0_stg0_0).view.loc (c : Thread nD τ) ↦[Finset.univ]{fullShare} X) ∗ ((Memref.whole main_arg1).view.loc (c : Thread nD τ) ↦[Finset.univ]{fullShare} Wt)
      ∗ ((slot0).view.loc (c : Thread nD τ) ↦[slot0.view.set]{fullShare} B) ∗ ((slot1).view.loc (c : Thread nD τ) ↦[slot1.view.set]{fullShare} B') ∗ ((Memref.whole cc0_scratch3).view.loc (c : Thread nD τ) ↦[Finset.univ]{fullShare} P)
      ∗ (bfC1.view.loc (c : Thread nD τ) ↦[bfC1.view.set]{fullShare} T1) ∗ (bfC2.view.loc (c : Thread nD τ) ↦[bfC2.view.set]{fullShare} T2) ∗ semVal ((c : Thread nD τ), SemLoc.dma 2) 0 ∗ semVal ((c : Thread nD τ), SemLoc.dma 3) 0
      ∗ ((axRow c).view.loc (c : Thread nD τ) ↦[(axRow c).view.set]{fullShare} A)
      ∗ lendBf (F := F) (fwd c 1) c ∗ lendBf (F := F) (fwd c 2) c ∗ lendAx (F := F) (fwd c 1) c
      ∗ dutyTok (ER F) (dC c 2 1) 0 0 ∗ dutyTok (ER F) (dC (fwd c 1) 3 c) 0 0 ∗ dutyTok (ER F) (dC c 2 2) 0 0 ∗ dutyTok (ER F) (dC (fwd c 2) 3 c) 0 0
      ∗ dutyTok (ER F) (dC c 4 1) 0 0 ∗ dutyTok (ER F) (dC (fwd c 1) 5 c) 0 0)
    ⊢ iprop((∀ v, (ow c 10 ∗ ((Memref.whole cc0_stg0_0).view.loc (c : Thread nD τ) ↦[Finset.univ]{fullShare} X) ∗ ((Memref.whole main_arg1).view.loc (c : Thread nD τ) ↦[Finset.univ]{fullShare} Wt)
      ∗ (∃ B, (slot0).view.loc (c : Thread nD τ) ↦[slot0.view.set]{fullShare} B) ∗ (∃ B, (slot1).view.loc (c : Thread nD τ) ↦[slot1.view.set]{fullShare} B) ∗ ((Memref.whole cc0_scratch3).view.loc (c : Thread nD τ) ↦[Finset.univ]{fullShare} parVal c X Wt)
      ∗ semVal ((c : Thread nD τ), SemLoc.dma 2) 0 ∗ semVal ((c : Thread nD τ), SemLoc.dma 3) 0
      ∗ cred (tallyAt (dC c 2 1) () 32768) ∗ cred (tallyAt (dC c 2 2) () 32768) ∗ cred (tallyAt (dC c 4 1) () 16)
      ∗ owns (c : Thread nD τ) (axRow c) fullShare.left (am c) ∗ owns (c : Thread nD τ) (axRow c) (rst 1) (am c)) -∗ wp frame (wpE (defs₀ (F := F)) 𝒱₀ (c : Thread nD τ) none) Set.univ (kC c v2 v) Q) -∗
      wp frame (wpE (defs₀ (F := F)) 𝒱₀ (c : Thread nD τ) none) Set.univ (do
        Prog.lift (.enqueueDma ((Memref.whole main_arg1).slice (Rect.unit (s := S4096x8192) (k0_off1 c 1#32 0#32) S4096x512.size (k0_off1_inb c 0 0)) (fun _ => rfl)) (.here slot0) (.dma (((cc0_scratch8).slice (Rect.unit (s := S2) ![0] S1.size inb_S2_S1_0)).squeeze S_ squeezes_S1_S_).sem) (View.wordExact_bits rfl) ((View.wordExact_bits rfl).reshape _ _) ⟨Or.inl rfl, trivial⟩)
        kB c v2 v42) Q) := by
  unfold kB
  exact gemm am bv qv K c v2 v42 X Wt hb1 hb2 ha B B' P T1 T2 A (kC c v2)

theorem stageC' (c : Dev nD) (v2 v522 : BitVec 32) {Q : PUnit → sProp (MT nD τ sig Unit (Elt F) ℕ UU ℕ)} :
    iprop(records am bv qv K ∗ ow c 10 ∗ owns (c : Thread nD τ) (axRow c) (fullShare : PosShare TreeShare).left (am c) ∗ owns (c : Thread nD τ) (axRow c) (rst 1) (am c) ∗ (lendAx (F := F) (fwd c 2) c ∗ dutyTok (ER F) (dC c 4 2) 0 0 ∗ dutyTok (ER F) (dC (fwd c 2) 5 c) 0 0 ∗ lendAx (F := F) (fwd c 3) c ∗ dutyTok (ER F) (dC c 4 3) 0 0 ∗ dutyTok (ER F) (dC (fwd c 3) 5 c) 0 0 ∗ lendAx (F := F) (fwd c 4) c ∗ dutyTok (ER F) (dC c 4 4) 0 0 ∗ dutyTok (ER F) (dC (fwd c 4) 5 c) 0 0 ∗ lendAx (F := F) (fwd c 5) c ∗ dutyTok (ER F) (dC c 4 5) 0 0 ∗ dutyTok (ER F) (dC (fwd c 5) 5 c) 0 0 ∗ lendAx (F := F) (fwd c 6) c ∗ dutyTok (ER F) (dC c 4 6) 0 0 ∗ dutyTok (ER F) (dC (fwd c 6) 5 c) 0 0 ∗ lendAx (F := F) (fwd c 7) c ∗ dutyTok (ER F) (dC c 4 7) 0 0 ∗ dutyTok (ER F) (dC (fwd c 7) 5 c) 0 0) ∗ cred (tallyAt (dC c 5 (bwd c 1)) () 16) ∗ atPos (ER F) (dC c 5 (bwd c 1)) 0 ∅ 0 ∗ cred (tallyAt (dC c 5 (bwd c 2)) () 16) ∗ atPos (ER F) (dC c 5 (bwd c 2)) 0 ∅ 0 ∗ cred (tallyAt (dC c 5 (bwd c 3)) () 16) ∗ atPos (ER F) (dC c 5 (bwd c 3)) 0 ∅ 0 ∗ cred (tallyAt (dC c 5 (bwd c 4)) () 16) ∗ atPos (ER F) (dC c 5 (bwd c 4)) 0 ∅ 0 ∗ cred (tallyAt (dC c 5 (bwd c 5)) () 16) ∗ atPos (ER F) (dC c 5 (bwd c 5)) 0 ∅ 0 ∗ cred (tallyAt (dC c 5 (bwd c 6)) () 16) ∗ atPos (ER F) (dC c 5 (bwd c 6)) 0 ∅ 0 ∗ cred (tallyAt (dC c 5 (bwd c 7)) () 16) ∗ atPos (ER F) (dC c 5 (bwd c 7)) 0 ∅ 0)
    ⊢ iprop(((ow c 16 ∗ owns (c : Thread nD τ) axM (fullShare : PosShare TreeShare).left (axAll am) ∗ (bigSep Finset.univ fun k : Fin 7 => owns (c : Thread nD τ) (axRow (bwd c (k.val + 1))) (fullShare : PosShare TreeShare).right (am (bwd c (k.val + 1)))) ∗ (cred (tallyAt (dC c 4 2) () 16) ∗ cred (tallyAt (dC c 4 3) () 16) ∗ cred (tallyAt (dC c 4 4) () 16) ∗ cred (tallyAt (dC c 4 5) () 16) ∗ cred (tallyAt (dC c 4 6) () 16) ∗ cred (tallyAt (dC c 4 7) () 16)) ∗ semVal (dC c 5 (bwd c 1)) 0 ∗ semVal (dC c 5 (bwd c 2)) 0 ∗ semVal (dC c 5 (bwd c 3)) 0 ∗ semVal (dC c 5 (bwd c 4)) 0 ∗ semVal (dC c 5 (bwd c 5)) 0 ∗ semVal (dC c 5 (bwd c 6)) 0 ∗ semVal (dC c 5 (bwd c 7)) 0) -∗ wp frame (wpE (defs₀ (F := F)) 𝒱₀ (c : Thread nD τ) none) Set.univ (kD c v2 (gmax am) (Scalar.ofBits .f32 0x43E00000#32)) Q) -∗
      wp frame (wpE (defs₀ (F := F)) 𝒱₀ (c : Thread nD τ) none) Set.univ (kC c v2 v522) Q) :=
  stageC am bv qv K c v2 v522 (kD c v2)

theorem stageD' (c : Dev nD) (v2 : BitVec 32) (g : F .f32) (P : S512x6144.Idx → Elt F .f32) (h3 : qv c 3 = k0_pay56 g (pcol3 P)) (h4 : qv c 4 = k0_pay56 g (pcol4 P)) (h5 : qv c 5 = k0_pay56 g (pcol5 P)) (h6 : qv c 6 = k0_pay56 g (pcol6 P)) (h7 : qv c 7 = k0_pay56 g (pcol7 P)) (s0 s1 : S1x1.Idx → Elt F .f32)
    {Q : PUnit → sProp (MT nD τ sig Unit (Elt F) ℕ UU ℕ)} :
    iprop(records am bv qv K ∗ ow c 16 ∗ owns (c : Thread nD τ) paM fullShare P ∗ owns (c : Thread nD τ) sc0 fullShare s0 ∗ owns (c : Thread nD τ) sc1 fullShare s1 ∗ (∃ v, owns (c : Thread nD τ) qC3 fullShare v) ∗ lendQ (F := F) (fwd c 3) c ∗ dutyTok (ER F) (dC c 0 3) 0 0 ∗ dutyTok (ER F) (dC (fwd c 3) 1 c) 0 0 ∗ (∃ v, owns (c : Thread nD τ) qC4 fullShare v) ∗ lendQ (F := F) (fwd c 4) c ∗ dutyTok (ER F) (dC c 0 4) 0 0 ∗ dutyTok (ER F) (dC (fwd c 4) 1 c) 0 0 ∗ (∃ v, owns (c : Thread nD τ) qC5 fullShare v) ∗ lendQ (F := F) (fwd c 5) c ∗ dutyTok (ER F) (dC c 0 5) 0 0 ∗ dutyTok (ER F) (dC (fwd c 5) 1 c) 0 0 ∗ (∃ v, owns (c : Thread nD τ) qC6 fullShare v) ∗ lendQ (F := F) (fwd c 6) c ∗ dutyTok (ER F) (dC c 0 6) 0 0 ∗ dutyTok (ER F) (dC (fwd c 6) 1 c) 0 0 ∗ (∃ v, owns (c : Thread nD τ) qC7 fullShare v) ∗ lendQ (F := F) (fwd c 7) c ∗ dutyTok (ER F) (dC c 0 7) 0 0 ∗ dutyTok (ER F) (dC (fwd c 7) 1 c) 0 0)
    ⊢ iprop(((ow c 21 ∗ owns (c : Thread nD τ) paM fullShare P ∗ owns (c : Thread nD τ) sc0 fullShare (fun _ => k0_pay54 g (Scalar.ofBits .f32 0x43E00000#32)) ∗ owns (c : Thread nD τ) sc1 fullShare (fun _ => k0_pay55 g) ∗ cred (tallyAt (dC c 0 3) () 16384) ∗ cred (tallyAt (dC c 0 4) () 16384) ∗ cred (tallyAt (dC c 0 5) () 16384) ∗ cred (tallyAt (dC c 0 6) () 16384) ∗ cred (tallyAt (dC c 0 7) () 16384)) -∗ wp frame (wpE (defs₀ (F := F)) 𝒱₀ (c : Thread nD τ) none) Set.univ (kE c v2 (k0_pay54 g (Scalar.ofBits .f32 0x43E00000#32)) (pcol8 P) (k0_pay62 (k0_pay55 g))) Q) -∗
      wp frame (wpE (defs₀ (F := F)) 𝒱₀ (c : Thread nD τ) none) Set.univ (kD c v2 g (Scalar.ofBits .f32 0x43E00000#32)) Q) :=
  stageD am bv qv K c v2 g P h3 h4 h5 h6 h7 s0 s1 (kE c v2)

theorem stageE' (c : Dev nD) (v2 : BitVec 32) (sc : F .f32) (y : Vec F S512x1024 .f32) (u : FVec F S512x1024 .f32)
    {Q : PUnit → sProp (MT nD τ sig Unit (Elt F) ℕ UU ℕ)} :
    iprop(records am bv qv K ∗ ow c 21 ∗ (∃ v, owns (c : Thread nD τ) (bfRow c) fullShare v) ∗ ((∃ v, owns (c : Thread nD τ) (bfRow (bwd c 3)) fullShare v) ∗ cred (tallyAt (dC c 1 (bwd c 3)) () 16384) ∗ atPos (ER F) (dC c 1 (bwd c 3)) 0 ∅ 0 ∗ (∃ v, owns (c : Thread nD τ) (bfRow (bwd c 4)) fullShare v) ∗ cred (tallyAt (dC c 1 (bwd c 4)) () 16384) ∗ atPos (ER F) (dC c 1 (bwd c 4)) 0 ∅ 0 ∗ (∃ v, owns (c : Thread nD τ) (bfRow (bwd c 5)) fullShare v) ∗ cred (tallyAt (dC c 1 (bwd c 5)) () 16384) ∗ atPos (ER F) (dC c 1 (bwd c 5)) 0 ∅ 0 ∗ (∃ v, owns (c : Thread nD τ) (bfRow (bwd c 6)) fullShare v) ∗ cred (tallyAt (dC c 1 (bwd c 6)) () 16384) ∗ atPos (ER F) (dC c 1 (bwd c 6)) 0 ∅ 0 ∗ (∃ v, owns (c : Thread nD τ) (bfRow (bwd c 7)) fullShare v) ∗ cred (tallyAt (dC c 1 (bwd c 7)) () 16384) ∗ atPos (ER F) (dC c 1 (bwd c 7)) 0 ∅ 0) ∗ cred (tallyAt (dC c 3 (bwd c 1)) () 32768) ∗ atPos (ER F) (dC c 3 (bwd c 1)) 0 ∅ 0)
    ⊢ iprop(((ow c 21 ∗ owns (c : Thread nD τ) (bfRow c) fullShare (k0_pay63 sc y u) ∗ (owns (c : Thread nD τ) (bfRow (bwd c 3)) fullShare (k0_pay64 sc (qv (bwd c 3) 3)) ∗ (∃ v, owns (c : Thread nD τ) (qRow (bwd c 3)) fullShare v) ∗ semVal (dC c 1 (bwd c 3)) 0 ∗ owns (c : Thread nD τ) (bfRow (bwd c 4)) fullShare (k0_pay64 sc (qv (bwd c 4) 4)) ∗ (∃ v, owns (c : Thread nD τ) (qRow (bwd c 4)) fullShare v) ∗ semVal (dC c 1 (bwd c 4)) 0 ∗ owns (c : Thread nD τ) (bfRow (bwd c 5)) fullShare (k0_pay64 sc (qv (bwd c 5) 5)) ∗ (∃ v, owns (c : Thread nD τ) (qRow (bwd c 5)) fullShare v) ∗ semVal (dC c 1 (bwd c 5)) 0 ∗ owns (c : Thread nD τ) (bfRow (bwd c 6)) fullShare (k0_pay64 sc (qv (bwd c 6) 6)) ∗ (∃ v, owns (c : Thread nD τ) (qRow (bwd c 6)) fullShare v) ∗ semVal (dC c 1 (bwd c 6)) 0 ∗ owns (c : Thread nD τ) (bfRow (bwd c 7)) fullShare (k0_pay64 sc (qv (bwd c 7) 7)) ∗ (∃ v, owns (c : Thread nD τ) (qRow (bwd c 7)) fullShare v) ∗ semVal (dC c 1 (bwd c 7)) 0) ∗ owns (c : Thread nD τ) (bfRow (bwd c 1)) fullShare (bv (bwd c 1) 1) ∗ semVal (dC c 3 (bwd c 1)) 0) -∗ wp frame (wpE (defs₀ (F := F)) 𝒱₀ (c : Thread nD τ) none) Set.univ (kF c v2) Q) -∗
      wp frame (wpE (defs₀ (F := F)) 𝒱₀ (c : Thread nD τ) none) Set.univ (kE c v2 sc y u) Q) :=
  stageE am bv qv K c v2 sc y u (kF c v2)

theorem stageF' (c : Dev nD) (v2 : BitVec 32)
    {Q : PUnit → sProp (MT nD τ sig Unit (Elt F) ℕ UU ℕ)} :
    iprop(records am bv qv K ∗ ow c 21 ∗ owns (c : Thread nD τ) axM (fullShare : PosShare TreeShare).left (axAll am) ∗ (bigSep Finset.univ fun k : Fin 7 => owns (c : Thread nD τ) (axRow (bwd c (k.val + 1))) (fullShare : PosShare TreeShare).right (am (bwd c (k.val + 1))))
      ∗ cred (tallyAt (dC c 3 (bwd c 2)) () 32768) ∗ atPos (ER F) (dC c 3 (bwd c 2)) 0 ∅ 0 ∗ (dutyTok (ER F) (exitC (fwd c 1)) 0 (1 : Fin 8) ∗ dutyTok (ER F) (exitC (fwd c 2)) 0 (2 : Fin 8) ∗ dutyTok (ER F) (exitC (fwd c 3)) 0 (3 : Fin 8) ∗ dutyTok (ER F) (exitC (fwd c 4)) 0 (4 : Fin 8)) ∗ cred (tallyAt (dC c 4 1) () 16) ∗ atPos (ER F) (dC c 4 1) 0 ∅ 0 ∗ cred (tallyAt (dC c 4 2) () 16) ∗ atPos (ER F) (dC c 4 2) 0 ∅ 0 ∗ cred (tallyAt (dC c 4 3) () 16) ∗ atPos (ER F) (dC c 4 3) 0 ∅ 0 ∗ cred (tallyAt (dC c 4 4) () 16) ∗ atPos (ER F) (dC c 4 4) 0 ∅ 0 ∗ cred (tallyAt (dC c 4 5) () 16) ∗ atPos (ER F) (dC c 4 5) 0 ∅ 0 ∗ cred (tallyAt (dC c 4 6) () 16) ∗ atPos (ER F) (dC c 4 6) 0 ∅ 0 ∗ cred (tallyAt (dC c 4 7) () 16) ∗ atPos (ER F) (dC c 4 7) 0 ∅ 0 ∗ cred (tallyAt (dC c 2 1) () 32768) ∗ atPos (ER F) (dC c 2 1) 0 ∅ 0 ∗ cred (tallyAt (dC c 2 2) () 32768) ∗ atPos (ER F) (dC c 2 2) 0 ∅ 0 ∗ cred (tallyAt (dC c 0 3) () 16384) ∗ atPos (ER F) (dC c 0 3) 0 ∅ 0 ∗ cred (tallyAt (dC c 0 4) () 16384) ∗ atPos (ER F) (dC c 0 4) 0 ∅ 0 ∗ cred (tallyAt (dC c 0 5) () 16384) ∗ atPos (ER F) (dC c 0 5) 0 ∅ 0 ∗ cred (tallyAt (dC c 0 6) () 16384) ∗ atPos (ER F) (dC c 0 6) 0 ∅ 0 ∗ cred (tallyAt (dC c 0 7) () 16384) ∗ atPos (ER F) (dC c 0 7) 0 ∅ 0)
    ⊢ iprop(((ow c 25 ∗ owns (c : Thread nD τ) axM fullShare (axAll am) ∗ owns (c : Thread nD τ) (bfRow (bwd c 2)) fullShare (bv (bwd c 2) 2) ∗ semVal (dC c 3 (bwd c 2)) 0 ∗ ((∃ v, owns (c : Thread nD τ) bfC1 fullShare v) ∗ (∃ v, owns (c : Thread nD τ) bfC2 fullShare v) ∗ (∃ v, owns (c : Thread nD τ) qC3 fullShare v) ∗ (∃ v, owns (c : Thread nD τ) qC4 fullShare v) ∗ (∃ v, owns (c : Thread nD τ) qC5 fullShare v) ∗ (∃ v, owns (c : Thread nD τ) qC6 fullShare v) ∗ (∃ v, owns (c : Thread nD τ) qC7 fullShare v)) ∗ semVal (dC c 4 1) 0 ∗ semVal (dC c 4 2) 0 ∗ semVal (dC c 4 3) 0 ∗ semVal (dC c 4 4) 0 ∗ semVal (dC c 4 5) 0 ∗ semVal (dC c 4 6) 0 ∗ semVal (dC c 4 7) 0 ∗ semVal (dC c 2 1) 0 ∗ semVal (dC c 2 2) 0 ∗ semVal (dC c 0 3) 0 ∗ semVal (dC c 0 4) 0 ∗ semVal (dC c 0 5) 0 ∗ semVal (dC c 0 6) 0 ∗ semVal (dC c 0 7) 0) -∗ wp frame (wpE (defs₀ (F := F)) 𝒱₀ (c : Thread nD τ) none) Set.univ (kG c) Q) -∗
      wp frame (wpE (defs₀ (F := F)) 𝒱₀ (c : Thread nD τ) none) Set.univ (kF c v2) Q) :=
  stageF am bv qv K c v2 (kG c)

theorem stageG' (c : Dev nD) (a b : F .f32) (B : S4096x1024.Idx → Elt F .bf16)
    {Q : PUnit → sProp (MT nD τ sig Unit (Elt F) ℕ UU ℕ)} :
    iprop(records am bv qv K ∗ ow c 25 ∗ (dutyTok (ER F) (exitC (fwd c 5)) 0 (5 : Fin 8) ∗ dutyTok (ER F) (exitC (fwd c 6)) 0 (6 : Fin 8) ∗ dutyTok (ER F) (exitC (fwd c 7)) 0 (7 : Fin 8)) ∗ cred (tallyAt (exitC c) () 7) ∗ atPos (ER F) (exitC c) 0 ∅ 0
      ∗ owns (c : Thread nD τ) sc0 fullShare (fun _ => a) ∗ owns (c : Thread nD τ) sc1 fullShare (fun _ => b) ∗ owns (c : Thread nD τ) bfM fullShare B ∗ (∃ v, owns (c : Thread nD τ) ouM fullShare v))
    ⊢ iprop(((ow c 28 ∗ semVal (exitC c) 0 ∗ owns (c : Thread nD τ) sc0 fullShare (fun _ => a) ∗ owns (c : Thread nD τ) sc1 fullShare (fun _ => b) ∗ owns (c : Thread nD τ) bfM fullShare B
        ∗ owns (c : Thread nD τ) ouM fullShare (k0_pay1 a b (fun j => B (ouR.emb j)))) -∗ wp frame (wpE (defs₀ (F := F)) 𝒱₀ (c : Thread nD τ) none) Set.univ (Prog.ret ⟨⟩) Q) -∗
      wp frame (wpE (defs₀ (F := F)) 𝒱₀ (c : Thread nD τ) none) Set.univ (kG c) Q) :=
  stageG am bv qv K c a b B (pure ⟨⟩)

/-! ## The windows lent at the start, and the rows at the end -/

theorem cut_ax (c : Dev nD) : (some0 c cc0_scratch7 : sProp 𝕄) ⊢ iprop(anyOf (F := F) c (axRow c) ∗ lendAx (F := F) c (fwd c 7) ∗ lendAx (F := F) c (fwd c 6) ∗ lendAx (F := F) c (fwd c 5) ∗ lendAx (F := F) c (fwd c 4) ∗ lendAx (F := F) c (fwd c 3) ∗ lendAx (F := F) c (fwd c 2) ∗ lendAx (F := F) c (fwd c 1)) := by
  have h := split_ax (F := F) c
  rw [← fwd7 c, ← fwd6 c, ← fwd5 c, ← fwd4 c, ← fwd3 c, ← fwd2 c, ← fwd1 c] at h
  exact h
theorem cut_bf (c : Dev nD) : (some0 c cc0_scratch0 : sProp 𝕄) ⊢ iprop(anyOf (F := F) c (bfRow c) ∗ lendBf (F := F) c (fwd c 7) ∗ lendBf (F := F) c (fwd c 6) ∗ anyOf (F := F) c (bfRow (bwd c 3)) ∗ anyOf (F := F) c (bfRow (bwd c 4)) ∗ anyOf (F := F) c (bfRow (bwd c 5)) ∗ anyOf (F := F) c (bfRow (bwd c 6)) ∗ anyOf (F := F) c (bfRow (bwd c 7))) := by
  have h := split_bf (F := F) c
  rw [← fwd7 c, ← fwd6 c] at h
  exact h
theorem cut_q (c : Dev nD) : (some0 c cc0_scratch6 : sProp 𝕄) ⊢ iprop(anyOf (F := F) c (qRow c) ∗ anyOf (F := F) c (qRow (bwd c 1)) ∗ anyOf (F := F) c (qRow (bwd c 2)) ∗ lendQ (F := F) c (fwd c 5) ∗ lendQ (F := F) c (fwd c 4) ∗ lendQ (F := F) c (fwd c 3) ∗ lendQ (F := F) c (fwd c 2) ∗ lendQ (F := F) c (fwd c 1)) := by
  have h := split_q (F := F) c
  rw [← fwd5 c, ← fwd4 c, ← fwd3 c, ← fwd2 c, ← fwd1 c] at h
  exact h

/-- The scale every device ends with. -/
def scOf : F .f32 := k0_pay54 (gmax am) (Scalar.ofBits .f32 0x43E00000#32)
/-- The rows of the result before the last multiply, by how far back they come from. -/
def rowAt (c : Dev nD) (P : S512x6144.Idx → Elt F .f32) (k : ℕ) : S512x1024.Idx → Elt F .bf16 :=
  if k = 0 then k0_pay63 (scOf am) (pcol8 P) (k0_pay62 (k0_pay55 (gmax am)))
  else if k ≤ 2 then bv (bwd c k) k else k0_pay64 (scOf am) (qv (bwd c k) k)
/-- All rows before the last multiply. -/
def rowsAt (c : Dev nD) (P : S512x6144.Idx → Elt F .f32) : S4096x1024.Idx → Elt F .bf16 := bfAll fun t => rowAt am bv qv c P (back c t)
/-- The block of the result that device `c` writes. -/
def outAt (c : Dev nD) (P : S512x6144.Idx → Elt F .f32) : S4096x1024.Idx → Elt F .f32 :=
  k0_pay1 (scOf am) (k0_pay55 (gmax am)) (fun j => rowsAt am bv qv c P (ouR.emb j))

theorem back_own (c : Dev nD) : back c c = 0 := by revert c; decide
theorem join_rows (c : Dev nD) (P : S512x6144.Idx → Elt F .f32) :
    (iprop(owns (c : Thread nD τ) (bfRow c) fullShare (k0_pay63 (scOf am) (pcol8 P) (k0_pay62 (k0_pay55 (gmax am)))) ∗ owns (c : Thread nD τ) (bfRow (bwd c 1)) fullShare (bv (bwd c 1) 1) ∗ owns (c : Thread nD τ) (bfRow (bwd c 2)) fullShare (bv (bwd c 2) 2) ∗ owns (c : Thread nD τ) (bfRow (bwd c 3)) fullShare (k0_pay64 (scOf am) (qv (bwd c 3) 3)) ∗ owns (c : Thread nD τ) (bfRow (bwd c 4)) fullShare (k0_pay64 (scOf am) (qv (bwd c 4) 4)) ∗ owns (c : Thread nD τ) (bfRow (bwd c 5)) fullShare (k0_pay64 (scOf am) (qv (bwd c 5) 5)) ∗ owns (c : Thread nD τ) (bfRow (bwd c 6)) fullShare (k0_pay64 (scOf am) (qv (bwd c 6) 6)) ∗ owns (c : Thread nD τ) (bfRow (bwd c 7)) fullShare (k0_pay64 (scOf am) (qv (bwd c 7) 7))) : sProp 𝕄)
    ⊢ owns (c : Thread nD τ) bfM fullShare (rowsAt am bv qv c P) := by
  have h := join_bf c fun t => rowAt am bv qv c P (back c t)
  rw [back_own c, show back c (bwd c 1) = 1 from back_bwd c 1, show back c (bwd c 2) = 2 from back_bwd c 2, show back c (bwd c 3) = 3 from back_bwd c 3, show back c (bwd c 4) = 4 from back_bwd c 4, show back c (bwd c 5) = 5 from back_bwd c 5, show back c (bwd c 6) = 6 from back_bwd c 6, show back c (bwd c 7) = 7 from back_bwd c 7] at h
  exact h

/-- The body on device `c`: from its windows, tokens and credit to the block it writes, every semaphore at zero. -/
theorem body_run (c : Dev nD) (X : S512x4096.Idx → Elt F .f32) (Wt : S4096x8192.Idx → Elt F .f32)
    (hb1 : bv c 1 = bfVal c X Wt 1) (hb2 : bv c 2 = bfVal c X Wt 2) (ha : am c = amRow c X Wt)
    (h3 : qv c 3 = k0_pay56 (gmax am) (pcol3 (parVal c X Wt))) (h4 : qv c 4 = k0_pay56 (gmax am) (pcol4 (parVal c X Wt))) (h5 : qv c 5 = k0_pay56 (gmax am) (pcol5 (parVal c X Wt))) (h6 : qv c 6 = k0_pay56 (gmax am) (pcol6 (parVal c X Wt))) (h7 : qv c 7 = k0_pay56 (gmax am) (pcol7 (parVal c X Wt)))
    {Q : PUnit → sProp (MT nD τ sig Unit (Elt F) ℕ UU ℕ)} :
    iprop(records am bv qv K ∗ ow c 0 ∗ (bigSep Finset.univ fun o : CS => atPos (ER F) (kcell (c, o)) 0 ∅ 0)
      ∗ (tkA c ∗ tkB c ∗ tkC c ∗ tkD c ∗ tkF c ∗ tkG c) ∗ (crA c ∗ crC c ∗ crE c ∗ crF c ∗ crG c)
      ∗ ((Memref.whole cc0_stg0_0).view.loc (c : Thread nD τ) ↦[Finset.univ]{fullShare} X) ∗ ((Memref.whole main_arg1).view.loc (c : Thread nD τ) ↦[Finset.univ]{fullShare} Wt)
      ∗ (∃ v, owns (c : Thread nD τ) ouM fullShare v)
      ∗ some0 c cc0_scratch0 ∗ some0 c cc0_scratch1 ∗ some0 c cc0_scratch2 ∗ some0 c cc0_scratch3 ∗ some0 c cc0_scratch4 ∗ some0 c cc0_scratch5 ∗ some0 c cc0_scratch6 ∗ some0 c cc0_scratch7)
    ⊢ iprop(((ow c 28 ∗ ((Memref.whole cc0_stg0_0).view.loc (c : Thread nD τ) ↦[Finset.univ]{fullShare} X) ∗ ((Memref.whole main_arg1).view.loc (c : Thread nD τ) ↦[Finset.univ]{fullShare} Wt)
      ∗ owns (c : Thread nD τ) ouM fullShare (outAt am bv qv c (parVal c X Wt))
      ∗ some0 c cc0_scratch0 ∗ some0 c cc0_scratch1 ∗ some0 c cc0_scratch2 ∗ some0 c cc0_scratch3 ∗ some0 c cc0_scratch4 ∗ some0 c cc0_scratch5 ∗ some0 c cc0_scratch6 ∗ some0 c cc0_scratch7
      ∗ (bigSep Finset.univ fun o : CS => semVal (kcell (c, o)) 0)) -∗ Q ⟨⟩) -∗
      wp frame (wpE (defs₀ (F := F)) 𝒱₀ (c : Thread nD τ) none) Set.univ (body0 (F := F)) Q) := by
  rw [body0_eq]
  iintro ⟨#HR, HO, Hat, ⟨HtA, HtB, HtC, HtD, HtF, HtG⟩, ⟨HcA, HcC, HcE, HcF, HcG⟩, HX, HW, Hou, S0, S1, S2, S3, S4, S5, S6, S7⟩ HQ
  ihave Hat := (at_deal c) $$ Hat
  icases Hat with ⟨HaA, HaC, HaE, HaF, HaG, HaZ⟩
  imod (close_dead am bv qv K c) $$ [HaZ] with HvZ
  · isplitr; · iexact HR
    iexact HaZ
  ihave S7 := (cut_ax c) $$ S7
  icases S7 with ⟨Hax, Hx7, Hx6, Hx5, Hx4, Hx3, Hx2, Hx1⟩
  ihave S0 := (cut_bf c) $$ S0
  icases S0 with ⟨Hb0, Hf7, Hf6, Hb3, Hb4, Hb5, Hb6, Hb7⟩
  ihave S6 := (cut_q c) $$ S6
  icases S6 with ⟨Hq0, Hq1, Hq2, Hf5, Hf4, Hf3, Hf2, Hf1⟩
  unfold tkA crA atA
  icases HtA with ⟨Ht1, Ht2, Ht3, Ht4, Ht5, Ht6, Ht7⟩
  iapply (stageA' am bv qv K c) $$ [HO HcA HaA Ht1 Hx1 Hf1 Ht2 Hx2 Hf2 Ht3 Hx3 Hf3 Ht4 Hx4 Hf4 Ht5 Hx5 Hf5 Ht6 Hx6 Hf6 Ht7 Hx7 Hf7]
  · isplitr; · iexact HR
    iframe HO HcA HaA Ht1 Hx1 Hf1 Ht2 Hx2 Hf2 Ht3 Hx3 Hf3 Ht4 Hx4 Hf4 Ht5 Hx5 Hf5 Ht6 Hx6 Hf6 Ht7 Hx7 Hf7
  iintro %v42 ⟨HO, HvB, Lx7, Lq7, Lx6, Lq6, Lx5, Lq5, Lx4, Lq4, Lx3, Lq3, Lx2, Lb2, Lx1, Lb1⟩
  unfold svZ tkB
  icases HvZ with ⟨hl2, hl3, h0_0, h0_1, h0_2, h1_c, h1_1, h1_2, h2_0, h2_3, h2_4, h2_5, h2_6, h2_7, h3_c, h3_3, h3_4, h3_5, h3_6, h3_7, h4_0, h5_c⟩
  icases HtB with ⟨t1, t2, t3, t4, t5, t6⟩
  ihave S2 := (split_w c) $$ S2
  icases S2 with ⟨⟨%B, HB⟩, ⟨%B', HB'⟩⟩
  ihave S4 := (split_bs c) $$ S4
  icases S4 with ⟨T1, T2⟩
  have o1 := any_open (F := F) c bfC1
  have o2 := any_open (F := F) c bfC2
  have o3 := any_open (F := F) c (axRow c)
  ihave T1 := o1 $$ T1
  ihave T2 := o2 $$ T2
  ihave Hax := o3 $$ Hax
  icases T1 with ⟨%T1, HT1⟩
  icases T2 with ⟨%T2, HT2⟩
  icases Hax with ⟨%A, HA⟩
  have h03 : (some0 c cc0_scratch3 : sProp 𝕄) ⊢ iprop(∃ P : S512x6144.Idx → Elt F .f32, ((Memref.whole cc0_scratch3).view.loc (c : Thread nD τ) ↦[Finset.univ]{fullShare} P)) := Entails.of_eq rfl
  ihave S3 := h03 $$ S3
  icases S3 with ⟨%P, HP⟩
  iapply (gemm' am bv qv K c _ v42 X Wt hb1 hb2 ha B B' P T1 T2 A) $$ [HO HX HW HB HB' HP HT1 HT2 hl2 hl3 HA Lb1 Lb2 Lx1 t1 t2 t3 t4 t5 t6]
  · isplitr; · iexact HR
    iframe HO HX HW HB HB' HP HT1 HT2 hl2 hl3 HA Lb1 Lb2 Lx1 t1 t2 t3 t4 t5 t6
  iintro %v522 ⟨HO, HX, HW, HB, HB', HP, hl2, hl3, C21, C22, C41, HA, HA'⟩
  unfold tkC crC atC
  icases HtC with ⟨ts2, tr2, ts3, tr3, ts4, tr4, ts5, tr5, ts6, tr6, ts7, tr7⟩
  icases HcC with ⟨cx1, cx2, cx3, cx4, cx5, cx6, cx7⟩
  icases HaC with ⟨ax1, ax2, ax3, ax4, ax5, ax6, ax7⟩
  iapply (stageC' am bv qv K c _ v522) $$ [HO HA HA' Lx2 ts2 tr2 Lx3 ts3 tr3 Lx4 ts4 tr4 Lx5 ts5 tr5 Lx6 ts6 tr6 Lx7 ts7 tr7 cx1 ax1 cx2 ax2 cx3 ax3 cx4 ax4 cx5 ax5 cx6 ax6 cx7 ax7]
  · isplitr; · iexact HR
    iframe HO HA HA' Lx2 ts2 tr2 Lx3 ts3 tr3 Lx4 ts4 tr4 Lx5 ts5 tr5 Lx6 ts6 tr6 Lx7 ts7 tr7 cx1 ax1 cx2 ax2 cx3 ax3 cx4 ax4 cx5 ax5 cx6 ax6 cx7 ax7
  iintro ⟨HO, HA, HY, ⟨C42, C43, C44, C45, C46, C47⟩, h5_1, h5_2, h5_3, h5_4, h5_5, h5_6, h5_7⟩
  unfold tkD
  icases HtD with ⟨ts3, tr3, ts4, tr4, ts5, tr5, ts6, tr6, ts7, tr7⟩
  ihave S5 := (split_qs c) $$ S5
  icases S5 with ⟨qs3, qs4, qs5, qs6, qs7⟩
  ihave S1 := (split_sc c) $$ S1
  icases S1 with ⟨⟨%s0, Hs0⟩, ⟨%s1, Hs1⟩⟩
  have hpo : ((Memref.whole cc0_scratch3).view.loc (c : Thread nD τ) ↦[Finset.univ]{fullShare} parVal c X Wt : sProp 𝕄) ⊢ owns (c : Thread nD τ) paM fullShare (parVal c X Wt) := Entails.of_eq (owns_whole (c : Thread nD τ) cc0_scratch3 fullShare (parVal c X Wt)).symm
  ihave HP := hpo $$ HP
  iapply (stageD' am bv qv K c _ (gmax am) (parVal c X Wt) h3 h4 h5 h6 h7 s0 s1) $$ [HO HP Hs0 Hs1 qs3 Lq3 ts3 tr3 qs4 Lq4 ts4 tr4 qs5 Lq5 ts5 tr5 qs6 Lq6 ts6 tr6 qs7 Lq7 ts7 tr7]
  · isplitr; · iexact HR
    iframe HO HP Hs0 Hs1 qs3 Lq3 ts3 tr3 qs4 Lq4 ts4 tr4 qs5 Lq5 ts5 tr5 qs6 Lq6 ts6 tr6 qs7 Lq7 ts7 tr7
  iintro ⟨HO, HP, Hs0, Hs1, C03, C04, C05, C06, C07⟩
  unfold crE atE
  icases HcE with ⟨cq3, cq4, cq5, cq6, cq7, cb1⟩
  icases HaE with ⟨aq3, aq4, aq5, aq6, aq7, ab1⟩
  iapply (stageE' am bv qv K c _ _ _ _) $$ [HO Hb0 Hb3 cq3 aq3 Hb4 cq4 aq4 Hb5 cq5 aq5 Hb6 cq6 aq6 Hb7 cq7 aq7 cb1 ab1]
  · isplitr; · iexact HR
    iframe HO Hb0 Hb3 cq3 aq3 Hb4 cq4 aq4 Hb5 cq5 aq5 Hb6 cq6 aq6 Hb7 cq7 aq7 cb1 ab1
  iintro ⟨HO, R0, ⟨R3, Hq3, h1_3, R4, Hq4, h1_4, R5, Hq5, h1_5, R6, Hq6, h1_6, R7, Hq7, h1_7⟩, R1, h3_1⟩
  unfold crF atF tkF
  icases HtF with ⟨te1, te2, te3, te4⟩
  icases HaF with ⟨p32, p41, p42, p43, p44, p45, p46, p47, p21, p22, p03, p04, p05, p06, p07⟩
  iapply (stageF' am bv qv K c _) $$ [HO HA HY HcF p32 te1 te2 te3 te4 C41 p41 C42 p42 C43 p43 C44 p44 C45 p45 C46 p46 C47 p47 C21 p21 C22 p22 C03 p03 C04 p04 C05 p05 C06 p06 C07 p07]
  · isplitr; · iexact HR
    iframe HO HA HY HcF p32 te1 te2 te3 te4 C41 p41 C42 p42 C43 p43 C44 p44 C45 p45 C46 p46 C47 p47 C21 p21 C22 p22 C03 p03 C04 p04 C05 p05 C06 p06 C07 p07
  iintro ⟨HO, HA, R2, h3_2, ⟨T1, T2, qs3, qs4, qs5, qs6, qs7⟩, h4_1, h4_2, h4_3, h4_4, h4_5, h4_6, h4_7, h2_1, h2_2, h0_3, h0_4, h0_5, h0_6, h0_7⟩
  have hj := join_rows am bv qv c (parVal c X Wt)
  unfold scOf at hj
  ihave HBF := hj $$ [R0 R1 R2 R3 R4 R5 R6 R7]
  · iframe R0 R1 R2 R3 R4 R5 R6 R7
  unfold crG atG tkG
  icases HtG with ⟨te5, te6, te7⟩
  iapply (stageG' am bv qv K c _ _ _) $$ [HO te5 te6 te7 HcG HaG Hs0 Hs1 HBF Hou]
  · isplitr; · iexact HR
    iframe HO te5 te6 te7 HcG HaG Hs0 Hs1 HBF Hou
  iintro ⟨HO, hX, Hs0, Hs1, HBF, Hou⟩
  irename HvB => hB
  rw [wp_ret]
  imodintro
  iapply HQ
  iframe HO HX HW
  isplitl [Hou]
  · unfold outAt scOf
    iexact Hou
  have w0 : (owns (c : Thread nD τ) bfM fullShare (rowsAt am bv qv c (parVal c X Wt)) : sProp 𝕄) ⊢ some0 c cc0_scratch0 :=
    (exists_intro (Φ := fun v => owns (c : Thread nD τ) bfM fullShare v) _).trans (Entails.of_eq (any_whole c cc0_scratch0))
  have w3 : (owns (c : Thread nD τ) paM fullShare (parVal c X Wt) : sProp 𝕄) ⊢ some0 c cc0_scratch3 :=
    (exists_intro (Φ := fun v => owns (c : Thread nD τ) paM fullShare v) _).trans (Entails.of_eq (any_whole c cc0_scratch3))
  have w7 : (owns (c : Thread nD τ) axM fullShare (axAll am) : sProp 𝕄) ⊢ some0 c cc0_scratch7 :=
    (exists_intro (Φ := fun v => owns (c : Thread nD τ) axM fullShare v) _).trans (Entails.of_eq (any_whole c cc0_scratch7))
  isplitl [HBF]
  · iapply w0 $$ HBF
  isplitl [Hs0 Hs1]
  · iapply (join_sc c) $$ [Hs0 Hs1]
    isplitl [Hs0]
    · iexists _
      iexact Hs0
    iexists _
    iexact Hs1
  isplitl [HB HB']
  · iapply (join_w c) $$ [HB HB']
    iframe HB HB'
  isplitl [HP]
  · iapply w3 $$ HP
  isplitl [T1 T2]
  · iapply (join_bs c) $$ [T1 T2]
    iframe T1 T2
  isplitl [qs3 qs4 qs5 qs6 qs7]
  · iapply (join_qs c) $$ [qs3 qs4 qs5 qs6 qs7]
    iframe qs3 qs4 qs5 qs6 qs7
  isplitl [Hq0 Hq1 Hq2 Hq3 Hq4 Hq5 Hq6 Hq7]
  · iapply (join_q c) $$ [Hq0 Hq1 Hq2 Hq3 Hq4 Hq5 Hq6 Hq7]
    iframe Hq0 Hq1 Hq2 Hq3 Hq4 Hq5 Hq6 Hq7
  isplitl [HA]
  · iapply w7 $$ HA
  have hs : (iprop(semVal (barC c) 0 ∗ (semVal (exitC c) 0 ∗ semVal ((c : Thread nD τ), SemLoc.dma 2) 0 ∗ semVal ((c : Thread nD τ), SemLoc.dma 3) 0) ∗ (semVal (dC c 0 0) 0 ∗ semVal (dC c 0 1) 0 ∗ semVal (dC c 0 2) 0 ∗ semVal (dC c 0 3) 0 ∗ semVal (dC c 0 4) 0 ∗ semVal (dC c 0 5) 0 ∗ semVal (dC c 0 6) 0 ∗ semVal (dC c 0 7) 0) ∗ (semVal (dC c 1 c) 0 ∗ semVal (dC c 1 (bwd c 1)) 0 ∗ semVal (dC c 1 (bwd c 2)) 0 ∗ semVal (dC c 1 (bwd c 3)) 0 ∗ semVal (dC c 1 (bwd c 4)) 0 ∗ semVal (dC c 1 (bwd c 5)) 0 ∗ semVal (dC c 1 (bwd c 6)) 0 ∗ semVal (dC c 1 (bwd c 7)) 0) ∗ (semVal (dC c 2 0) 0 ∗ semVal (dC c 2 1) 0 ∗ semVal (dC c 2 2) 0 ∗ semVal (dC c 2 3) 0 ∗ semVal (dC c 2 4) 0 ∗ semVal (dC c 2 5) 0 ∗ semVal (dC c 2 6) 0 ∗ semVal (dC c 2 7) 0) ∗ (semVal (dC c 3 c) 0 ∗ semVal (dC c 3 (bwd c 1)) 0 ∗ semVal (dC c 3 (bwd c 2)) 0 ∗ semVal (dC c 3 (bwd c 3)) 0 ∗ semVal (dC c 3 (bwd c 4)) 0 ∗ semVal (dC c 3 (bwd c 5)) 0 ∗ semVal (dC c 3 (bwd c 6)) 0 ∗ semVal (dC c 3 (bwd c 7)) 0) ∗ (semVal (dC c 4 0) 0 ∗ semVal (dC c 4 1) 0 ∗ semVal (dC c 4 2) 0 ∗ semVal (dC c 4 3) 0 ∗ semVal (dC c 4 4) 0 ∗ semVal (dC c 4 5) 0 ∗ semVal (dC c 4 6) 0 ∗ semVal (dC c 4 7) 0) ∗ (semVal (dC c 5 c) 0 ∗ semVal (dC c 5 (bwd c 1)) 0 ∗ semVal (dC c 5 (bwd c 2)) 0 ∗ semVal (dC c 5 (bwd c 3)) 0 ∗ semVal (dC c 5 (bwd c 4)) 0 ∗ semVal (dC c 5 (bwd c 5)) 0 ∗ semVal (dC c 5 (bwd c 6)) 0 ∗ semVal (dC c 5 (bwd c 7)) 0)) : sProp 𝕄) ⊢ bigSep Finset.univ fun o : CS => semVal (kcell (c, o)) 0 := Entails.of_eq (cells_eq c (fun g => semVal g 0)).symm
  iapply hs $$ [hB hX hl2 hl3 h0_0 h0_1 h0_2 h0_3 h0_4 h0_5 h0_6 h0_7 h1_c h1_1 h1_2 h1_3 h1_4 h1_5 h1_6 h1_7 h2_0 h2_1 h2_2 h2_3 h2_4 h2_5 h2_6 h2_7 h3_c h3_1 h3_2 h3_3 h3_4 h3_5 h3_6 h3_7 h4_0 h4_1 h4_2 h4_3 h4_4 h4_5 h4_6 h4_7 h5_c h5_1 h5_2 h5_3 h5_4 h5_5 h5_6 h5_7]
  iframe hB hX hl2 hl3 h0_0 h0_1 h0_2 h0_3 h0_4 h0_5 h0_6 h0_7 h1_c h1_1 h1_2 h1_3 h1_4 h1_5 h1_6 h1_7 h2_0 h2_1 h2_2 h2_3 h2_4 h2_5 h2_6 h2_7 h3_c h3_1 h3_2 h3_3 h3_4 h3_5 h3_6 h3_7 h4_0 h4_1 h4_2 h4_3 h4_4 h4_5 h4_6 h4_7 h5_c h5_1 h5_2 h5_3 h5_4 h5_5 h5_6 h5_7

end Cert.KernelIdeal.Run
-- ==== Proof.Ghost.lean ====
/- The tokens and positions at launch, dealt to the devices that use them. -/
module

public import proofs.«01_k».proof.Proof.Deal

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (am : Dev nD → S1x128.Idx → Elt F .f32) (bv : Dev nD → ℕ → S512x1024.Idx → Elt F .bf16) (qv : Dev nD → ℕ → S512x1024.Idx → Elt F .fp8e4m3)
variable (K : Dev nD × CS → ℕ)

local notation "𝕄" => MT nD τ sig Unit (Elt F) ℕ UU ℕ

/-! ## All cells and all tokens -/

theorem csem_injective : Function.Injective csem := by decide +kernel
theorem ownSemFacts : Pipeline.OwnSemFacts cfg0.spec osem := by decide +kernel
theorem kcell_injective : Function.Injective kcell := by
  rintro ⟨c, k⟩ ⟨c', k'⟩ h
  have h1 : c = c' := congrArg (fun g : GSem nD τ sig => g.1.1) h
  subst h1
  have h2 : k = k' := csem_injective (congrArg Prod.snd h)
  subst h2; rfl

def ringCells : Finset (GSem nD τ sig) := Finset.univ.map ⟨kcell, kcell_injective⟩
/-- One token for every cell and every name of a duty; those of no duty are never used. -/
def tokOf (x : Dev nD × CS × Fin 8) : GSem nD τ sig × ℕ × Fin 8 := (kcell (x.1, x.2.1), 0, x.2.2)
theorem tokOf_injective : Function.Injective tokOf := by
  rintro ⟨c, k, d⟩ ⟨c', k', d'⟩ h
  have h1 := kcell_injective (congrArg Prod.fst h)
  have h2 : d = d' := congrArg (fun x : GSem nD τ sig × ℕ × Fin 8 => x.2.2) h
  cases h1; subst h2; rfl
def ringToks : Finset (GSem nD τ sig × ℕ × Fin 8) := Finset.univ.map ⟨tokOf, tokOf_injective⟩

/-- The tokens of device `c`'s own cells. -/
def ownToks (c : Dev nD) : sProp 𝕄 := bigSep Finset.univ fun o : CS => bigSep Finset.univ fun d : Fin 8 => dutyTok (ER F) (kcell (c, o)) 0 d

/-- What device `c` is dealt at launch. -/
def G (c : Dev nD) : sProp 𝕄 :=
  iprop((bigSep Finset.univ fun o : CS => roundState (ER F) (Rd am bv qv) (kcell (c, o)) 0)
    ∗ ((bigSep Finset.univ fun o : CS => atPos (ER F) (kcell (c, o)) 0 ∅ 0) ∗ (bigSep Finset.univ fun o : CS => reached (ER F) (kcell (c, o)) 0)) ∗ ownToks c)

theorem fund_ring : BI.own (ER F (initOf ringCells ringToks)) ⊢ (|==> bigSep Finset.univ (G am bv qv) : sProp 𝕄) := by
  have hX (Φ : GSem nD τ sig → sProp 𝕄) : bigSep ringCells Φ = bigSep Finset.univ fun c : Dev nD => bigSep Finset.univ fun o : CS => Φ (kcell (c, o)) := by
    unfold ringCells; rw [bigSep_map, bigSep_univ_prod]; rfl
  have hT : bigSep ringToks (fun x => (dutyTok (ER F) x.1 x.2.1 x.2.2 : sProp 𝕄)) = bigSep Finset.univ fun c : Dev nD => ownToks c := by
    unfold ringToks ownToks; rw [bigSep_map, bigSep_univ_prod]
    exact bigSep_congr fun c _ => by rw [bigSep_univ_prod]; rfl
  have hf := Rounds.fund (ER F) (Rd am bv qv) ringCells ringToks
  rw [hX, hX, hX, hT] at hf
  unfold G
  rw [bigSep_sep', bigSep_sep', bigSep_sep']
  iintro H
  imod hf $$ H with ⟨Hst, Hr, Hat, Htok⟩
  imodintro
  iframe Hst Hat Hr Htok

/-! ## The tokens, dealt to the devices that pay with them -/

theorem cells_grp (c : Dev nD) (Φ : GSem nD τ sig → sProp 𝕄) : (bigSep Finset.univ fun o : CS => Φ (kcell (c, o)))
    = iprop(Φ (barC c) ∗ (Φ (exitC c) ∗ Φ ((c : Thread nD τ), SemLoc.dma 2) ∗ Φ ((c : Thread nD τ), SemLoc.dma 3))
      ∗ (bigSep Finset.univ fun i : Fin 8 => Φ (dC c 0 i)) ∗ (bigSep Finset.univ fun i : Fin 8 => Φ (dC c 1 i)) ∗ (bigSep Finset.univ fun i : Fin 8 => Φ (dC c 2 i))
      ∗ (bigSep Finset.univ fun i : Fin 8 => Φ (dC c 3 i)) ∗ (bigSep Finset.univ fun i : Fin 8 => Φ (dC c 4 i)) ∗ (bigSep Finset.univ fun i : Fin 8 => Φ (dC c 5 i))) := by
  rw [bigSep_univ_sum (fun o : CS => Φ (kcell (c, o))), bigSep_univ_sum (fun o : OS => Φ (kcell (c, .inr o))), bigSep_univ_prod (fun gi : Fin 6 × Fin 8 => Φ (kcell (c, .inr (.inr gi)))), ls1, ls3, ls6]
  rfl

/-- A device and an offset: the device that far on, and the offset. -/
def turnOff : Dev nD × Fin 8 ≃ Dev nD × Fin 8 where
  toFun x := (fwd x.1 x.2.val, x.2)
  invFun x := (bwd x.1 x.2.val, x.2)
  left_inv := by decide +kernel
  right_inv := by decide +kernel
/-- A device and an offset: the device that far on, and the first device's number. -/
def turnSrc : Dev nD × Fin 8 ≃ Dev nD × Fin 8 where
  toFun x := (fwd x.1 x.2.val, x.1)
  invFun x := (x.2, ⟨back x.1 x.2, Nat.mod_lt _ (by decide)⟩)
  left_inv := by decide +kernel
  right_inv := by decide +kernel

theorem around_off (Φ : Dev nD → Fin 8 → sProp 𝕄) : (bigSep Finset.univ fun c : Dev nD => bigSep Finset.univ fun d : Fin 8 => Φ c d)
    = bigSep Finset.univ fun c : Dev nD => bigSep Finset.univ fun k : Fin 8 => Φ (fwd c k.val) k := by
  rw [← bigSep_univ_prod (fun x : Dev nD × Fin 8 => Φ x.1 x.2), bigSep_univ_equiv turnOff, bigSep_univ_prod]; rfl
theorem around_src (Φ : Dev nD → Fin 8 → sProp 𝕄) : (bigSep Finset.univ fun c : Dev nD => bigSep Finset.univ fun d : Fin 8 => Φ c d)
    = bigSep Finset.univ fun c : Dev nD => bigSep Finset.univ fun k : Fin 8 => Φ (fwd c k.val) c := by
  rw [← bigSep_univ_prod (fun x : Dev nD × Fin 8 => Φ x.1 x.2), bigSep_univ_equiv turnSrc, bigSep_univ_prod]; rfl

/-- The tokens device `c` pays with. -/
def payToks (c : Dev nD) : sProp 𝕄 := iprop(tkA c ∗ tkB c ∗ tkC c ∗ tkD c ∗ tkF c ∗ tkG c)

theorem own_pick (c : Dev nD) : (ownToks c : sProp 𝕄) ⊢ iprop((bigSep Finset.univ fun d : Fin 8 => dutyTok (ER F) (barC c) 0 d) ∗ (bigSep Finset.univ fun d : Fin 8 => dutyTok (ER F) (exitC c) 0 d)
      ∗ (bigSep Finset.univ fun i : Fin 8 => dutyTok (ER F) (dC c 0 i) 0 0) ∗ (bigSep Finset.univ fun i : Fin 8 => dutyTok (ER F) (dC c 1 i) 0 0) ∗ (bigSep Finset.univ fun i : Fin 8 => dutyTok (ER F) (dC c 2 i) 0 0)
      ∗ (bigSep Finset.univ fun i : Fin 8 => dutyTok (ER F) (dC c 3 i) 0 0) ∗ (bigSep Finset.univ fun i : Fin 8 => dutyTok (ER F) (dC c 4 i) 0 0) ∗ (bigSep Finset.univ fun i : Fin 8 => dutyTok (ER F) (dC c 5 i) 0 0)) := by
  unfold ownToks
  rw [cells_grp c (fun g => bigSep Finset.univ fun d : Fin 8 => dutyTok (ER F) g 0 d)]
  have hz (g : Fin 6) : (bigSep Finset.univ fun i : Fin 8 => bigSep Finset.univ fun d : Fin 8 => (dutyTok (ER F) (dC c g i) 0 d : sProp 𝕄)) ⊢ bigSep Finset.univ fun i : Fin 8 => dutyTok (ER F) (dC c g i) 0 0 :=
    bigSep_mono fun i _ => bigSep_elim (Finset.mem_univ (0 : Fin 8))
  have z0 := hz 0; have z1 := hz 1; have z2 := hz 2; have z3 := hz 3; have z4 := hz 4; have z5 := hz 5
  iintro ⟨HB, ⟨HX, -, -⟩, H0, H1, H2, H3, H4, H5⟩
  iframe HB HX
  isplitl [H0]; · iapply z0 $$ H0
  isplitl [H1]; · iapply z1 $$ H1
  isplitl [H2]; · iapply z2 $$ H2
  isplitl [H3]; · iapply z3 $$ H3
  isplitl [H4]; · iapply z4 $$ H4
  iapply z5 $$ H5

theorem pay_pick (c : Dev nD) : (iprop((bigSep Finset.univ fun k : Fin 8 => dutyTok (ER F) (barC (fwd c k.val)) 0 k) ∗ (bigSep Finset.univ fun k : Fin 8 => dutyTok (ER F) (exitC (fwd c k.val)) 0 k) ∗ (bigSep Finset.univ fun i : Fin 8 => dutyTok (ER F) (dC c 0 i) 0 0) ∗ (bigSep Finset.univ fun k : Fin 8 => dutyTok (ER F) (dC (fwd c k.val) 1 c) 0 0) ∗ (bigSep Finset.univ fun i : Fin 8 => dutyTok (ER F) (dC c 2 i) 0 0) ∗ (bigSep Finset.univ fun k : Fin 8 => dutyTok (ER F) (dC (fwd c k.val) 3 c) 0 0) ∗ (bigSep Finset.univ fun i : Fin 8 => dutyTok (ER F) (dC c 4 i) 0 0) ∗ (bigSep Finset.univ fun k : Fin 8 => dutyTok (ER F) (dC (fwd c k.val) 5 c) 0 0)) : sProp 𝕄) ⊢ payToks c := by
  have ebar : (bigSep Finset.univ fun k : Fin 8 => dutyTok (ER F) (barC (fwd c k.val)) 0 k : sProp 𝕄) ⊢ iprop(dutyTok (ER F) (barC (fwd c 0)) 0 (0 : Fin 8) ∗ dutyTok (ER F) (barC (fwd c 1)) 0 (1 : Fin 8) ∗ dutyTok (ER F) (barC (fwd c 2)) 0 (2 : Fin 8) ∗ dutyTok (ER F) (barC (fwd c 3)) 0 (3 : Fin 8) ∗ dutyTok (ER F) (barC (fwd c 4)) 0 (4 : Fin 8) ∗ dutyTok (ER F) (barC (fwd c 5)) 0 (5 : Fin 8) ∗ dutyTok (ER F) (barC (fwd c 6)) 0 (6 : Fin 8) ∗ dutyTok (ER F) (barC (fwd c 7)) 0 (7 : Fin 8)) := Entails.of_eq (ls8 _)
  have eex : (bigSep Finset.univ fun k : Fin 8 => dutyTok (ER F) (exitC (fwd c k.val)) 0 k : sProp 𝕄) ⊢ iprop(dutyTok (ER F) (exitC (fwd c 0)) 0 (0 : Fin 8) ∗ dutyTok (ER F) (exitC (fwd c 1)) 0 (1 : Fin 8) ∗ dutyTok (ER F) (exitC (fwd c 2)) 0 (2 : Fin 8) ∗ dutyTok (ER F) (exitC (fwd c 3)) 0 (3 : Fin 8) ∗ dutyTok (ER F) (exitC (fwd c 4)) 0 (4 : Fin 8) ∗ dutyTok (ER F) (exitC (fwd c 5)) 0 (5 : Fin 8) ∗ dutyTok (ER F) (exitC (fwd c 6)) 0 (6 : Fin 8) ∗ dutyTok (ER F) (exitC (fwd c 7)) 0 (7 : Fin 8)) := Entails.of_eq (ls8 _)
  have eg0 : (bigSep Finset.univ fun i : Fin 8 => dutyTok (ER F) (dC c 0 i) 0 0 : sProp 𝕄) ⊢ iprop(dutyTok (ER F) (dC c 0 0) 0 0 ∗ dutyTok (ER F) (dC c 0 1) 0 0 ∗ dutyTok (ER F) (dC c 0 2) 0 0 ∗ dutyTok (ER F) (dC c 0 3) 0 0 ∗ dutyTok (ER F) (dC c 0 4) 0 0 ∗ dutyTok (ER F) (dC c 0 5) 0 0 ∗ dutyTok (ER F) (dC c 0 6) 0 0 ∗ dutyTok (ER F) (dC c 0 7) 0 0) := Entails.of_eq (ls8 _)
  have eg1 : (bigSep Finset.univ fun k : Fin 8 => dutyTok (ER F) (dC (fwd c k.val) 1 c) 0 0 : sProp 𝕄) ⊢ iprop(dutyTok (ER F) (dC (fwd c 0) 1 c) 0 0 ∗ dutyTok (ER F) (dC (fwd c 1) 1 c) 0 0 ∗ dutyTok (ER F) (dC (fwd c 2) 1 c) 0 0 ∗ dutyTok (ER F) (dC (fwd c 3) 1 c) 0 0 ∗ dutyTok (ER F) (dC (fwd c 4) 1 c) 0 0 ∗ dutyTok (ER F) (dC (fwd c 5) 1 c) 0 0 ∗ dutyTok (ER F) (dC (fwd c 6) 1 c) 0 0 ∗ dutyTok (ER F) (dC (fwd c 7) 1 c) 0 0) := Entails.of_eq (ls8 _)
  have eg2 : (bigSep Finset.univ fun i : Fin 8 => dutyTok (ER F) (dC c 2 i) 0 0 : sProp 𝕄) ⊢ iprop(dutyTok (ER F) (dC c 2 0) 0 0 ∗ dutyTok (ER F) (dC c 2 1) 0 0 ∗ dutyTok (ER F) (dC c 2 2) 0 0 ∗ dutyTok (ER F) (dC c 2 3) 0 0 ∗ dutyTok (ER F) (dC c 2 4) 0 0 ∗ dutyTok (ER F) (dC c 2 5) 0 0 ∗ dutyTok (ER F) (dC c 2 6) 0 0 ∗ dutyTok (ER F) (dC c 2 7) 0 0) := Entails.of_eq (ls8 _)
  have eg3 : (bigSep Finset.univ fun k : Fin 8 => dutyTok (ER F) (dC (fwd c k.val) 3 c) 0 0 : sProp 𝕄) ⊢ iprop(dutyTok (ER F) (dC (fwd c 0) 3 c) 0 0 ∗ dutyTok (ER F) (dC (fwd c 1) 3 c) 0 0 ∗ dutyTok (ER F) (dC (fwd c 2) 3 c) 0 0 ∗ dutyTok (ER F) (dC (fwd c 3) 3 c) 0 0 ∗ dutyTok (ER F) (dC (fwd c 4) 3 c) 0 0 ∗ dutyTok (ER F) (dC (fwd c 5) 3 c) 0 0 ∗ dutyTok (ER F) (dC (fwd c 6) 3 c) 0 0 ∗ dutyTok (ER F) (dC (fwd c 7) 3 c) 0 0) := Entails.of_eq (ls8 _)
  have eg4 : (bigSep Finset.univ fun i : Fin 8 => dutyTok (ER F) (dC c 4 i) 0 0 : sProp 𝕄) ⊢ iprop(dutyTok (ER F) (dC c 4 0) 0 0 ∗ dutyTok (ER F) (dC c 4 1) 0 0 ∗ dutyTok (ER F) (dC c 4 2) 0 0 ∗ dutyTok (ER F) (dC c 4 3) 0 0 ∗ dutyTok (ER F) (dC c 4 4) 0 0 ∗ dutyTok (ER F) (dC c 4 5) 0 0 ∗ dutyTok (ER F) (dC c 4 6) 0 0 ∗ dutyTok (ER F) (dC c 4 7) 0 0) := Entails.of_eq (ls8 _)
  have eg5 : (bigSep Finset.univ fun k : Fin 8 => dutyTok (ER F) (dC (fwd c k.val) 5 c) 0 0 : sProp 𝕄) ⊢ iprop(dutyTok (ER F) (dC (fwd c 0) 5 c) 0 0 ∗ dutyTok (ER F) (dC (fwd c 1) 5 c) 0 0 ∗ dutyTok (ER F) (dC (fwd c 2) 5 c) 0 0 ∗ dutyTok (ER F) (dC (fwd c 3) 5 c) 0 0 ∗ dutyTok (ER F) (dC (fwd c 4) 5 c) 0 0 ∗ dutyTok (ER F) (dC (fwd c 5) 5 c) 0 0 ∗ dutyTok (ER F) (dC (fwd c 6) 5 c) 0 0 ∗ dutyTok (ER F) (dC (fwd c 7) 5 c) 0 0) := Entails.of_eq (ls8 _)
  unfold payToks
  iintro ⟨Hbar, Hex, Hg0, Hg1, Hg2, Hg3, Hg4, Hg5⟩
  ihave Hbar := ebar $$ Hbar
  ihave Hex := eex $$ Hex
  ihave Hg0 := eg0 $$ Hg0
  ihave Hg1 := eg1 $$ Hg1
  ihave Hg2 := eg2 $$ Hg2
  ihave Hg3 := eg3 $$ Hg3
  ihave Hg4 := eg4 $$ Hg4
  ihave Hg5 := eg5 $$ Hg5
  icases Hbar with ⟨-, bar_1, bar_2, bar_3, bar_4, bar_5, bar_6, bar_7⟩
  icases Hex with ⟨-, ex_1, ex_2, ex_3, ex_4, ex_5, ex_6, ex_7⟩
  icases Hg0 with ⟨-, -, -, g0_3, g0_4, g0_5, g0_6, g0_7⟩
  icases Hg1 with ⟨-, -, -, g1_3, g1_4, g1_5, g1_6, g1_7⟩
  icases Hg2 with ⟨-, g2_1, g2_2, -, -, -, -, -⟩
  icases Hg3 with ⟨-, g3_1, g3_2, -, -, -, -, -⟩
  icases Hg4 with ⟨-, g4_1, g4_2, g4_3, g4_4, g4_5, g4_6, g4_7⟩
  icases Hg5 with ⟨-, g5_1, g5_2, g5_3, g5_4, g5_5, g5_6, g5_7⟩
  isplitl [bar_1 bar_2 bar_3 bar_4 bar_5 bar_6 bar_7]
  · unfold tkA
    iframe bar_1 bar_2 bar_3 bar_4 bar_5 bar_6 bar_7
  isplitl [g2_1 g3_1 g2_2 g3_2 g4_1 g5_1]
  · unfold tkB
    iframe g2_1 g3_1 g2_2 g3_2 g4_1 g5_1
  isplitl [g4_2 g5_2 g4_3 g5_3 g4_4 g5_4 g4_5 g5_5 g4_6 g5_6 g4_7 g5_7]
  · unfold tkC
    iframe g4_2 g5_2 g4_3 g5_3 g4_4 g5_4 g4_5 g5_5 g4_6 g5_6 g4_7 g5_7
  isplitl [g0_3 g1_3 g0_4 g1_4 g0_5 g1_5 g0_6 g1_6 g0_7 g1_7]
  · unfold tkD
    iframe g0_3 g1_3 g0_4 g1_4 g0_5 g1_5 g0_6 g1_6 g0_7 g1_7
  isplitl [ex_1 ex_2 ex_3 ex_4]
  · unfold tkF
    iframe ex_1 ex_2 ex_3 ex_4
  unfold tkG
  iframe ex_5 ex_6 ex_7

theorem toks_around : (bigSep Finset.univ fun c : Dev nD => (ownToks c : sProp 𝕄)) ⊢ bigSep Finset.univ fun c : Dev nD => payToks c := by
  refine (bigSep_mono fun c _ => own_pick c).trans (BI.Entails.trans ?_ (bigSep_mono fun c _ => pay_pick c))
  simp only [bigSep_sep']
  rw [around_off (F := F) (fun c d => dutyTok (ER F) (barC c) 0 d), around_off (F := F) (fun c d => dutyTok (ER F) (exitC c) 0 d),
    around_src (F := F) (fun c i => dutyTok (ER F) (dC c 1 i) 0 0), around_src (F := F) (fun c i => dutyTok (ER F) (dC c 3 i) 0 0), around_src (F := F) (fun c i => dutyTok (ER F) (dC c 5 i) 0 0)]
  exact BI.Entails.refl _

/-! ## The invariants, for all devices at once -/

theorem unscopedSems0_eq (c : Dev nD) : (unscopedSems0 c : sProp 𝕄) = semVal (barC c) 0 := by
  unfold unscopedSems0; rw [bigSep_eq_bigSepL_of_eq [SemLoc.reg ⟨0, by decide⟩] (by decide +kernel) (by decide)]; rfl

/-- A device's semaphores are the launch's own ones and the runtime's barrier. -/
theorem sems0_eq (c : Dev nD) : (bigSep Finset.univ fun o : CS => semVal (kcell (c, o)) 0 : sProp 𝕄)
    = iprop(unscopedSems0 c ∗ Pipeline.ownSems0 (Ix := Unit) (Name := ℕ) (U := UU) (Lvl := ℕ) (Val := Elt F) (τ := τ) osem c) := by
  rw [bigSep_univ_sum (fun o : CS => (semVal (kcell (c, o)) 0 : sProp 𝕄)), ls1, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G am bv qv c)
      ⊢ |={Set.univ}=> iprop((bigSep Finset.univ fun o : CS => iprop(∃ κ : ℕ, cellInv (ER F) (Rd am bv qv) κ (kcell (c, o))))
          ∗ ((bigSep Finset.univ fun o : CS => atPos (ER F) (kcell (c, o)) 0 ∅ 0) ∗ (bigSep Finset.univ fun o : CS => reached (ER F) (kcell (c, o)) 0)) ∗ ownToks c) := by
  have ha : iprop((bigSep Finset.univ fun o : CS => semVal (kcell (c, o)) 0) ∗ bigSep Finset.univ fun o : CS => roundState (ER F) (Rd am bv qv) (kcell (c, o)) 0)
      ⊢ (|={Set.univ}=> bigSep Finset.univ fun o : CS => iprop(∃ κ : ℕ, cellInv (ER F) (Rd am bv qv) κ (kcell (c, o))) : sProp 𝕄) := by
    rw [← bigSep_sep']
    exact (bigSep_mono fun o _ => (Rounds.body_intro (ER F) (Rd am bv qv) (kcell (c, o))).trans inv_alloc).trans (bigSep_fupd _ _)
  rw [sems0_eq] at ha
  unfold G
  iintro ⟨Hos, Hus, Hst, Hat, Htok⟩
  imod ha $$ [Hos Hus Hst] with Hinv
  · iframe Hos Hus Hst
  imodintro
  iframe Hinv Hat Htok

/-- Every cell's invariant and first round. -/
def known (K : Dev nD × CS → ℕ) : sProp 𝕄 :=
  iprop((bigSep Finset.univ fun ck : Dev nD × CS => cellInv (ER F) (Rd am bv qv) (K ck) (kcell ck)) ∗ (bigSep Finset.univ fun ck : Dev nD × CS => reached (ER F) (kcell ck) 0))
instance known_persistent (K : Dev nD × CS → ℕ) : BI.Persistent (known am bv qv K) := by unfold known; infer_instance
/-- What stays with device `c`. -/
def mine (c : Dev nD) : sProp 𝕄 := iprop((bigSep Finset.univ fun o : CS => atPos (ER F) (kcell (c, o)) 0 ∅ 0) ∗ payToks c)
def G' (c : Dev nD) : sProp 𝕄 := iprop(∃ K, known am bv qv K ∗ mine c)

theorem regroup :
    (bigSep Finset.univ fun c : Dev nD => iprop((bigSep Finset.univ fun o : CS => iprop(∃ κ : ℕ, cellInv (ER F) (Rd am bv qv) κ (kcell (c, o))))
          ∗ ((bigSep Finset.univ fun o : CS => atPos (ER F) (kcell (c, o)) 0 ∅ 0) ∗ (bigSep Finset.univ fun o : CS => reached (ER F) (kcell (c, o)) 0)) ∗ ownToks c) : sProp 𝕄)
      ⊢ bigSep Finset.univ (G' am bv qv) := by
  rw [bigSep_sep', bigSep_sep', bigSep_sep', ← bigSep_univ_prod (fun ck : Dev nD × CS => iprop(∃ κ : ℕ, cellInv (ER F) (Rd am bv qv) κ (kcell ck))),
    ← bigSep_univ_prod (fun ck : Dev nD × CS => (reached (ER F) (kcell ck) 0 : sProp 𝕄))]
  iintro ⟨HI, ⟨Hat, #HR⟩, Htok⟩
  ihave HK := (BI.bigSep_exists_pi Finset.univ (fun (ck : Dev nD × CS) (κ : ℕ) => (cellInv (ER F) (Rd am bv qv) κ (kcell ck) : sProp 𝕄))) $$ HI
  icases HK with ⟨%K, #HI⟩
  ihave Htk := (toks_around (F := F)) $$ Htok
  have hm : iprop((bigSep Finset.univ fun c : Dev nD => bigSep Finset.univ fun o : CS => (atPos (ER F) (kcell (c, o)) 0 ∅ 0 : sProp 𝕄)) ∗ bigSep Finset.univ fun c : Dev nD => (payToks c : sProp 𝕄)) ⊢ bigSep Finset.univ fun c : Dev nD => (mine c : sProp 𝕄) := by
    rw [← bigSep_sep']; exact Entails.of_eq rfl
  have hg : iprop(known am bv qv K ∗ bigSep Finset.univ fun c : Dev nD => (mine c : sProp 𝕄)) ⊢ bigSep Finset.univ (G' am bv qv) :=
    (BIClass.sep_mono (BI.bigSep_of_persistent (Finset.univ : Finset (Dev nD)) (known am bv qv K)) (Entails.of_eq rfl)).trans (by
      rw [← bigSep_sep']
      exact bigSep_mono fun c _ => exists_intro (Φ := fun K => iprop(known am bv qv K ∗ mine c)) K)
  iapply hg
  isplitr
  · unfold known
    isplitl
    · iexact HI
    · iexact HR
  iapply hm $$ [Hat Htk]
  iframe Hat Htk

/-- The semaphores of all devices become invariants. -/
theorem glob : (bigSep Finset.univ fun c => iprop(Pipeline.ownSems0 (Ix := Unit) (Name := ℕ) (U := UU) (Lvl := ℕ) (Val := Elt F) (τ := τ) osem c ∗ unscopedSems0 c ∗ G am bv qv c) : sProp 𝕄)
    ⊢ |={Set.univ}=> bigSep Finset.univ (G' am bv qv) :=
  ((bigSep_mono fun c _ => core_alloc am bv qv c).trans (bigSep_fupd _ _)).trans (BI.fupd_mono (regroup am bv qv))

end Cert.KernelIdeal.Run
-- ==== Proof.Launch.lean ====
/- The kernel's run on the mesh: the launch, the credit dealt with it, and what every run ends with. -/
module

public import proofs.«01_k».proof.Proof.Body
public import proofs.«01_k».proof.Proof.Ghost
public import Idealize.ShloMosaic.Lib.Pipeline.Launch
public import Idealize.ShloMosaic.Lib.Pipeline.Kit
public import Idealize.ShloMosaic.Lib.Pipeline.CollectiveSegs

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (am : Dev nD → S1x128.Idx → Elt F .f32) (bv : Dev nD → ℕ → S512x1024.Idx → Elt F .bf16) (qv : Dev nD → ℕ → S512x1024.Idx → Elt F .fp8e4m3)

local notation "𝕄" => MT nD τ sig Unit (Elt F) ℕ UU ℕ

/-! ## The credit -/

theorem owed_at (d : Dev nD) (g : GSem nD τ sig) : owed d 0 g () = ∑ i ∈ Finset.range 28, if payC d i = g then payN i else 0 := by
  unfold owed
  rw [Finset.sum_apply, Finsupp.finset_sum_apply]
  refine Finset.sum_congr (by ext; simp) fun i _ => ?_
  rw [tallyAt_apply]
  by_cases h : payC d i = g
  · rw [if_pos h, if_pos ⟨h.symm, rfl⟩]
  · rw [if_neg h, if_neg fun h' => h h'.1.symm]

/-- What all devices together owe a cell. -/
def due (g : GSem nD τ sig) : ℕ := ∑ d : Dev nD, ∑ i ∈ Finset.range 28, if payC d i = g then payN i else 0
theorem due_bar : ∀ c : Dev nD, due (barC c) = 7 := by decide +kernel
theorem due_exit : ∀ c : Dev nD, due (exitC c) = 7 := by decide +kernel
theorem due_ax : ∀ (c : Dev nD) (k : Fin 7), due (dC c 5 (bwd c (k.val + 1))) = 16 := by decide +kernel
theorem due_bf : ∀ (c : Dev nD) (k : Fin 2), due (dC c 3 (bwd c (k.val + 1))) = 32768 := by decide +kernel
theorem due_q : ∀ (c : Dev nD) (k : Fin 5), due (dC c 1 (bwd c (k.val + 3))) = 16384 := by decide +kernel

/-- A cell's credit at launch is what is due to it. -/
theorem launch_at (g : GSem nD τ sig) (n : ℕ) (h : due g = n) :
    tallyOn g (launchCredit (Pipeline.owing fun d : Dev nD => owed d 0) 0 g) = (tallyAt g () n : CellTallies nD τ sig Unit) := by
  unfold tallyAt; refine congrArg _ (Finsupp.ext fun u => ?_); cases u
  rw [Pipeline.launchCredit_owing, Finsupp.single_eq_same, Finset.sum_congr rfl fun d _ => owed_at d g]
  exact h

/-- The credit of cell `g` at launch. -/
abbrev lcred (g : GSem nD τ sig) : sProp 𝕄 := cred (tallyOn g (launchCredit (Pipeline.owing fun d : Dev nD => owed d 0) 0 g))

theorem lcred_at (g : GSem nD τ sig) (n : ℕ) (h : due g = n) : (lcred g : sProp 𝕄) ⊢ cred (tallyAt g () n) := by
  unfold lcred; rw [launch_at g n h]

theorem creds (c : Dev nD) : (Pipeline.launchCred (fun d => owed d 0) c : sProp 𝕄) ⊢ iprop(crA c ∗ crC c ∗ crE c ∗ crF c ∗ crG c) := by
  have h1 : (Pipeline.launchCred (fun d => owed d 0) c : sProp 𝕄) ⊢ bigSep Finset.univ fun o : CS => lcred (F := F) (kcell (c, o)) := by
    unfold Pipeline.launchCred
    refine (bigSep_subset (Finset.subset_univ (Finset.univ.map ⟨csem, csem_injective⟩))).trans ?_
    rw [bigSep_map]
    exact BI.Entails.refl _
  rw [cells_eq c (fun g => lcred (F := F) g)] at h1
  have d_hB := lcred_at (F := F) (barC c) 7 (due_bar c)
  have d_h5_1 := lcred_at (F := F) (dC c 5 (bwd c 1)) 16 (due_ax c 0)
  have d_h5_2 := lcred_at (F := F) (dC c 5 (bwd c 2)) 16 (due_ax c 1)
  have d_h5_3 := lcred_at (F := F) (dC c 5 (bwd c 3)) 16 (due_ax c 2)
  have d_h5_4 := lcred_at (F := F) (dC c 5 (bwd c 4)) 16 (due_ax c 3)
  have d_h5_5 := lcred_at (F := F) (dC c 5 (bwd c 5)) 16 (due_ax c 4)
  have d_h5_6 := lcred_at (F := F) (dC c 5 (bwd c 6)) 16 (due_ax c 5)
  have d_h5_7 := lcred_at (F := F) (dC c 5 (bwd c 7)) 16 (due_ax c 6)
  have d_h1_3 := lcred_at (F := F) (dC c 1 (bwd c 3)) 16384 (due_q c 0)
  have d_h1_4 := lcred_at (F := F) (dC c 1 (bwd c 4)) 16384 (due_q c 1)
  have d_h1_5 := lcred_at (F := F) (dC c 1 (bwd c 5)) 16384 (due_q c 2)
  have d_h1_6 := lcred_at (F := F) (dC c 1 (bwd c 6)) 16384 (due_q c 3)
  have d_h1_7 := lcred_at (F := F) (dC c 1 (bwd c 7)) 16384 (due_q c 4)
  have d_h3_1 := lcred_at (F := F) (dC c 3 (bwd c 1)) 32768 (due_bf c 0)
  have d_h3_2 := lcred_at (F := F) (dC c 3 (bwd c 2)) 32768 (due_bf c 1)
  have d_hX := lcred_at (F := F) (exitC c) 7 (due_exit c)
  refine h1.trans ?_
  iintro ⟨hB, ⟨hX, -, -⟩, ⟨-, -, -, -, -, -, -, -⟩, ⟨-, -, -, h1_3, h1_4, h1_5, h1_6, h1_7⟩, ⟨-, -, -, -, -, -, -, -⟩, ⟨-, h3_1, h3_2, -, -, -, -, -⟩, ⟨-, -, -, -, -, -, -, -⟩, ⟨-, h5_1, h5_2, h5_3, h5_4, h5_5, h5_6, h5_7⟩⟩
  isplitl [hB]
  · unfold crA
    iapply d_hB $$ hB
  isplitl [h5_1 h5_2 h5_3 h5_4 h5_5 h5_6 h5_7]
  · unfold crC
    isplitl [h5_1]
    · iapply d_h5_1 $$ h5_1
    isplitl [h5_2]
    · iapply d_h5_2 $$ h5_2
    isplitl [h5_3]
    · iapply d_h5_3 $$ h5_3
    isplitl [h5_4]
    · iapply d_h5_4 $$ h5_4
    isplitl [h5_5]
    · iapply d_h5_5 $$ h5_5
    isplitl [h5_6]
    · iapply d_h5_6 $$ h5_6
    iapply d_h5_7 $$ h5_7
  isplitl [h1_3 h1_4 h1_5 h1_6 h1_7 h3_1]
  · unfold crE
    isplitl [h1_3]
    · iapply d_h1_3 $$ h1_3
    isplitl [h1_4]
    · iapply d_h1_4 $$ h1_4
    isplitl [h1_5]
    · iapply d_h1_5 $$ h1_5
    isplitl [h1_6]
    · iapply d_h1_6 $$ h1_6
    isplitl [h1_7]
    · iapply d_h1_7 $$ h1_7
    iapply d_h3_1 $$ h3_1
  isplitl [h3_2]
  · unfold crF
    iapply d_h3_2 $$ h3_2
  unfold crG
  iapply d_hX $$ hX

/-! ## The values, from the memory at launch -/

section Run

variable (m : (ℓ : Loc nD τ sig) → Buf (Elt F) ℓ) (ρ : Dev nD → PrngReg)

/-- Device `c`'s rows of the input, and its copy of the weights. -/
def xOf (c : Dev nD) : S512x4096.Idx → Elt F .f32 := (win0_0.blk (0 : Fin 1)).view.read (Elt F) (m ((c : Thread nD τ).loc main_arg0))
def wOf (c : Dev nD) : S4096x8192.Idx → Elt F .f32 := m ((c : Thread nD τ).loc main_arg1)
def amOf (c : Dev nD) : S1x128.Idx → Elt F .f32 := amRow c (xOf m c) (wOf m c)
def bvOf (c : Dev nD) (k : ℕ) : S512x1024.Idx → Elt F .bf16 := bfVal c (xOf m c) (wOf m c) k
/-- The product of device `c`, its six other column blocks. -/
def paOf (c : Dev nD) : S512x6144.Idx → Elt F .f32 := parVal c (xOf m c) (wOf m c)
def pcolOf (P : S512x6144.Idx → Elt F .f32) (k : ℕ) : S512x1024.Idx → Elt F .f32 :=
  if k = 3 then pcol3 P else if k = 4 then pcol4 P else if k = 5 then pcol5 P else if k = 6 then pcol6 P else pcol7 P
def qvOf (c : Dev nD) (k : ℕ) : S512x1024.Idx → Elt F .fp8e4m3 := k0_pay56 (gmax (amOf m)) (pcolOf (paOf m c) k)
/-- The block of the result on device `c`. -/
def resOf (c : Dev nD) : S4096x1024.Idx → Elt F .f32 := outAt (amOf m) (bvOf m) (qvOf m) c (paOf m c)

/-! ## The launch -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev someScr (c : Dev nD) : sProp 𝕄 :=
  iprop(some0 c cc0_scratch0 ∗ some0 c cc0_scratch1 ∗ some0 c cc0_scratch2 ∗ some0 c cc0_scratch3 ∗ some0 c cc0_scratch4 ∗ some0 c cc0_scratch5 ∗ some0 c cc0_scratch6 ∗ some0 c cc0_scratch7)
abbrev argPts (c : Dev nD) : sProp 𝕄 := ((c : Thread nD τ).loc main_arg1) ↦{fullShare} m ((c : Thread nD τ).loc main_arg1)

/-- What a device's body starts from, its scratch apart. -/
def start (c : Dev nD) : sProp 𝕄 :=
  iprop((∃ K, records (amOf m) (bvOf m) (qvOf m) K) ∗ mine c ∗ (crA c ∗ crC c ∗ crE c ∗ crF c ∗ crG c) ∗ argPts m c)
def Φ₀ (c : Dev nD) : sProp 𝕄 := iprop(start m c ∗ someScr c)
def Φ₁ (c : Dev nD) : sProp 𝕄 := iprop(argPts m c ∗ someScr c ∗ bigSep Finset.univ fun o : CS => semVal (kcell (c, o)) 0)

def dats (_ : Fin 1) (c : Dev nD) : Dat τ (Elt F) Unit ℕ UU ℕ cfg0 c where
  A w := m ((cfg0.win w).arr.view.loc (c : Thread nD τ))
  after w _ := match w with
    | ⟨0, _⟩ => xOf m c
    | ⟨1, _⟩ => resOf m c
  Φ t := match t with
    | ⟨0, _⟩ => Φ₀ m c
    | ⟨_ + 1, _⟩ => Φ₁ m c
  q _ := fullShare
  owed t := match t with
    | ⟨0, _⟩ => owed c 0
    | ⟨_ + 1, _⟩ => 0

theorem fetch_0 (t : Fin cfg0.N) : (cfg0.win (0 : Fin 2)).fetch t = true := by rw [fin_N t]; rfl
theorem share_eq (c : Dev nD) (w : Fin cfg0.W) : (dats m 0 c).share w = fullShare := by unfold Dat.share; split <;> rfl
theorem before_x (c : Dev nD) (d) : (dats m 0 c).before (0 : Fin 2) t₀ d = xOf m c := by unfold Dat.before; rw [if_pos (fetch_0 t₀)]; rfl

def bodyPre (c : Dev nD) : sProp 𝕄 :=
  iprop(Φ₀ m c ∗ (dats m 0 c).owesAt () t₀.castSucc
    ∗ (∃ d, owns (c : Thread nD τ) (Memref.whole cc0_stg0_0) fullShare ((dats m 0 c).before (0 : Fin 2) t₀ d))
    ∗ (∃ d, owns (c : Thread nD τ) (Memref.whole cc0_stg1_0) fullShare ((dats m 0 c).before (1 : Fin 2) t₀ d)))
def bodyPost (c : Dev nD) : sProp 𝕄 :=
  iprop(Φ₁ m c ∗ (dats m 0 c).owesAt () t₀.succ
    ∗ owns (c : Thread nD τ) (Memref.whole cc0_stg0_0) fullShare (xOf m c)
    ∗ owns (c : Thread nD τ) (Memref.whole cc0_stg1_0) fullShare (resOf m c))

theorem stg_pts (c : Dev nD) (X : S512x4096.Idx → Elt F .f32) :
    (owns (c : Thread nD τ) (Memref.whole cc0_stg0_0) fullShare X : sProp 𝕄) = ((Memref.whole cc0_stg0_0).view.loc (c : Thread nD τ) ↦[Finset.univ]{fullShare} X) :=
  owns_whole (c : Thread nD τ) cc0_stg0_0 fullShare X

theorem owes_in (c : Dev nD) : ((dats m 0 c).owesAt () t₀.castSucc : sProp 𝕄) ⊢ ow c 0 := by
  unfold Dat.owesAt Pipeline.owesWithin ow
  iintro ⟨%W, -, HO⟩
  iexists W
  iexact HO
theorem owes_out (c : Dev nD) : (ow c 28 : sProp 𝕄) ⊢ (dats m 0 c).owesAt () t₀.succ := by
  unfold Dat.owesAt Pipeline.owesWithin ow
  rw [owed_end, show (dats m 0 c).owed t₀.succ = 0 from rfl]
  iintro ⟨%W, HO⟩
  iexists W
  isplitr
  · ipureintro; exact fun _ _ => Or.inl trivial
  iexact HO

theorem body_sound (c : Dev nD) : bodyPre m c ⊢ wp frame (wpE (defs₀ (F := F)) 𝒱₀ (c : Thread nD τ) none) Set.univ (body0 (F := F)) (fun _ => bodyPost m c) := by
  unfold bodyPre Φ₀ start mine payToks
  simp only [before_x, stg_pts]
  iintro ⟨⟨⟨⟨%K, #HR⟩, ⟨Hat, Htk⟩, Hcr, HW⟩, S0, S1, S2, S3, S4, S5, S6, S7⟩, Ho, ⟨%d, HX⟩, ⟨%d', Hou⟩⟩
  ihave Ho := (owes_in m c) $$ Ho
  have hb := body_run (amOf m) (bvOf m) (qvOf m) K c (xOf m c) (wOf m c) rfl rfl rfl rfl rfl rfl rfl rfl (Q := fun _ => bodyPost m c)
  iapply hb $$ [Hat Htk Hcr HW S0 S1 S2 S3 S4 S5 S6 S7 Ho HX Hou]
  · isplitr; · iexact HR
    iframe Ho Hat Htk Hcr HX
    isplitl [HW]; · iexact HW
    isplitl [Hou]
    · iexists _
      iexact Hou
    iframe S0 S1 S2 S3 S4 S5 S6 S7
  iintro ⟨HO, HX, HW, Hou, S0, S1, S2, S3, S4, S5, S6, S7, Hv⟩
  unfold bodyPost Φ₁
  rw [stg_pts]
  isplitl [HW S0 S1 S2 S3 S4 S5 S6 S7 Hv]
  · isplitl [HW]; · iexact HW
    iframe S0 S1 S2 S3 S4 S5 S6 S7 Hv
  isplitl [HO]
  · iapply (owes_out m c) $$ HO
  iframe HX
  unfold resOf paOf
  iexact Hou

theorem bigSep_W (Φ : Fin cfg0.W → sProp 𝕄) : bigSep Finset.univ Φ = iprop(Φ (0 : Fin 2) ∗ Φ (1 : Fin 2)) := bigSep_W0 Φ

set_option maxRecDepth 8000 in
theorem body_obligation (c : Dev nD) : BodyObligation (dats (F := F) m 0 c) (defs₀ (F := F)) 𝒱₀ () Set.univ := fun t => by
  rw [fin_N t]
  rw [bigSep_W, bigSep_W]
  exact body_sound m c

/-! ## The side conditions of the launch -/

theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' (amOf m) (bvOf m) (qvOf m) c)
      ⊢ |={Set.univ}=> iprop(start m c ∗ emp) := by
  rw [Pipeline.unscopedRestP_none, unscopedRest0_eq]
  unfold G' start
  iintro ⟨HW, #Hlev, Hcr, -, ⟨%K, #HK, HM⟩⟩
  ihave Hc := (creds (F := F) c) $$ Hcr
  imodintro
  isplitl
  · isplitr
    · iexists K
      unfold records known
      icases HK with ⟨#H1, #H2⟩
      isplitr; · iexact H1
      isplitr; · iexact H2
      iexact Hlev
    iframe HM Hc
    iexact HW
  · iempintro

theorem scr_eq (c : Dev nD) : (Pipeline.scopedRest cfg0.spec c : sProp 𝕄)
    = iprop(some0 c cc0_scratch0 ∗ some0 c cc0_scratch2 ∗ some0 c cc0_scratch3 ∗ some0 c cc0_scratch4 ∗ some0 c cc0_scratch5 ∗ some0 c cc0_scratch6 ∗ some0 c cc0_scratch7 ∗ some0 c cc0_scratch1) :=
  scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, S0, S2, S3, S4, S5, S6, S7, S1⟩
  isplitl [Hs]; · iexact Hs
  iframe S0 S1 S2 S3 S4 S5 S6 S7

theorem phi1_exit (c : Dev nD) :
    (dats m 0 c).Φ (Fin.last cfg0.N) ⊢ iprop((unscopedSems0 c ∗ argPts m c) ∗ Pipeline.ownSems0 osem c ∗ Pipeline.scopedRest cfg0.spec c) := by
  rw [show (dats m 0 c).Φ (Fin.last cfg0.N) = Φ₁ m c from rfl, scr_eq]
  unfold Φ₁
  rw [sems0_eq]
  iintro ⟨HW, ⟨S0, S1, S2, S3, S4, S5, S6, S7⟩, Hu, Ho⟩
  iframe Hu HW Ho S0 S1 S2 S3 S4 S5 S6 S7

theorem waits (c : Dev nD) : (levAts L lv : sProp 𝕄) ⊢ Pipeline.cellsWaits cfgs (dats m) () 0 c :=
  Pipeline.cellsWaits_intro cfgs (dats m) () 0 c fun w s t => by
    have h : ∀ n, (levAts L lv : sProp 𝕄) ⊢ MayWait (c : Thread nD τ) (.dma (((cfgs 0).win w).sem s)) () (owed c n) := fun n =>
      mayWait c n _ fun i _ hi => by
        have h0 : lvS (.dma (((cfgs 0).win w).sem s)) = 0 := by revert w s; decide +kernel
        rw [h0]; exact (by decide +kernel : ∀ i < 28, 0 < payL i) i hi
    rcases t with ⟨_ | _, ht⟩
    · exact h 0
    · have := h 28; rw [owed_end] at this; exact this

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

set_option maxRecDepth 8000 in
/-- Every weakly fair run of the kernel on the eight devices ends, each device's result at the computed block, its
    arguments as they were and every semaphore at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) (EP F) defs₀ 𝒱₀ m ρ main
    (hmain := fun _ => rfl)
    (hbody := body_obligation m) (hne := fun w => block_pos0 w) (harr := arr_whole0) (hstage := stage_whole0) (hshare := share_eq m)
    (hdistinct := winFacts0.arr_inj)
    (O₀ := fun c => owed c 0) (howed₀ := fun _ => rfl) (howedN := fun _ => rfl)
    (L := L) (lv := lv) (hL := L_of_ne) (hwaits := waits m)
    (G := G (amOf m) (bvOf m) (qvOf m)) (G' := G' (amOf m) (bvOf m) (qvOf m))
    (u₀ := (initOf (Pipeline.cells cfgs cellOf_inj) (Pipeline.launchToks cfgs cellOf_inj), (initOf ringCells ringToks, 1)))
    (hu₀ := by
      iintro Hu
      ihave H := (ownU_pair _ _) $$ Hu
      icases H with ⟨HP, HX⟩
      ihave HX := (own_pair_emb _ _ _) $$ HX
      icases HX with ⟨HX, -⟩
      have hf := fund_ring (F := F) (amOf m) (bvOf m) (qvOf m)
      imod hf $$ HX with HG
      imodintro
      isplitl [HP] <;> iassumption)
    (hglob := glob (amOf m) (bvOf m) (qvOf m))
    (hA := fun _ _ => rfl) (hpf := fun _ k => k.elim0)
    (X := start m) (Y := fun c => iprop(unscopedSems0 c ∗ argPts m c)) (Z := fun _ => iprop(emp))
    (hX := start_intro m ρ) (hin := phi0_intro m) (hout := phi1_exit m)
    (QY := fun c s => (∀ sm : SemLoc sig, sm.isScoped .tc = false → s.sem ((c.tc : Thread nD τ), sm) = 0) ∧ s.mem ((c : Thread nD τ).loc main_arg1) = m ((c : Thread nD τ).loc main_arg1))
    (hY := fun c s' => by
      iintro ⟨⟨Hu, HW⟩, -, HSI⟩
      icombine HSI HW gives %h
      imod (Pipeline.unscopedSems0_read (X := unscopedSems0 c) (c := c) fupd_intro s') $$ [Hu HSI] with ⟨%hu, HSI⟩
      · isplitl [Hu] <;> iassumption
      imodintro
      isplitr
      · ipureintro; exact ⟨hu, Buf.eq_of_forall_mem_univ h⟩
      iexact HSI)
    (hQ := fun _ h hs => ⟨fun c => ⟨fun w => (h c).1 w, (h c).2.2.2⟩, sem_eq_zero hs fun c => (h c).2.2.1⟩)

end Run

end Cert.KernelIdeal.Run
-- ==== Proof.Final.lean ====
/- What every run of the kernel leaves in memory: the result's block on each device, the arguments as they were. -/
module

public import proofs.«01_k».proof.Proof.Launch

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]
variable (m : (ℓ : Loc nD τ sig) → Buf (Elt F) ℓ) (ρ : Dev nD → PrngReg)

theorem at0 : ∀ t : Fin cfg0.N, win0_0.index t (0 : Fin 2) = 0 ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)

/-- An index of the input's one block is the same index of the array. -/
theorem emb0 (t : Fin cfg0.N) (j : S512x4096.Idx) : ((cfg0.win 0).blk t).view.emb j = j := by
  obtain ⟨e0, e1⟩ := at0 t
  funext a; apply Fin.ext
  match a with
  | ⟨0, _⟩ => show win0_0.index t (0 : Fin 2) * 512 + 1 * (j 0).val = (j 0).val; omega
  | ⟨1, _⟩ => show win0_0.index t (1 : Fin 2) * 4096 + 1 * (j 1).val = (j 1).val; omega
/-- The same of the result's. -/
theorem emb1 (t : Fin cfg0.N) (j : S4096x1024.Idx) : ((cfg0.win 1).blk t).view.emb j = j := by
  obtain ⟨e0, e1⟩ := at1 t
  funext a; apply Fin.ext
  match a with
  | ⟨0, _⟩ => show win0_1.index t (0 : Fin 2) * 4096 + 1 * (j 0).val = (j 0).val; omega
  | ⟨1, _⟩ => show win0_1.index t (1 : Fin 2) * 1024 + 1 * (j 1).val = (j 1).val; omega

theorem xOf_eq (c : Dev nD) : xOf m c = m ((c : Thread nD τ).loc main_arg0) := funext fun j =>
  congrArg (m ((c : Thread nD τ).loc main_arg0)) (emb0 t₀ j)

theorem flush1 (t : Fin cfg0.N) : (cfg0.win 1).flush t = true := by rw [fin_N t]; rfl
theorem flushed1 (c : Dev nD) (t : Fin cfg0.N) : (dats m 0 c).flushed 1 t = ((cfg0.win 1).blk t).view.read (Elt F) (resOf m c) := by
  show (cfg0.win 1).cut (grid0.coords t) (resOf m c) = _
  funext j
  show resOf m c j = resOf m c (((cfg0.win 1).blk t).view.emb j)
  rw [emb1]
theorem covered1 (i : S4096x1024.Idx) : ∃ t : Fin cfg0.N, (cfg0.win 1).flush t = true ∧ i ∈ ((cfg0.win 1).blk t).view.set :=
  ⟨t₀, flush1 _, by have h := ((cfg0.win 1).blk t₀).view.emb_mem_set i; rwa [emb1] at h⟩

theorem final_out (c : Dev nD) : finalA m c (1 : Fin 2) = resOf m c :=
  (dats m 0 c).arrAt_eq_of_cover 1 (resOf m c) (fun t _ => flushed1 m c t) covered1
theorem final_x (c : Dev nD) : finalA m c (0 : Fin 2) = m ((c : Thread nD τ).loc main_arg0) := (dats m 0 c).arrAt_in (0 : Fin 2) rfl _

/-- Every run ends with each device's result at its computed block, the arguments unchanged and every semaphore at zero. -/
theorem run : θ_run defs (onTc (τ := τ) (main (F := F))) ⟨m, fun _ => 0, ρ⟩ fun r => (∀ c : Dev nD,
      r.2.mem ((c : Thread nD τ).loc main_v1) = resOf m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun _ h => ⟨fun c => ⟨((h.1 c).1 (1 : Fin 2)).trans (final_out m c), ((h.1 c).1 (0 : Fin 2)).trans (final_x m c), (h.1 c).2⟩, h.2⟩)
    (run_main m ρ)

end Cert.KernelIdeal.Run
-- ==== Proof.Same.lean ====
/- The kernel and its idealization are one program text: read at the bits, their tables and their mains are equal. -/
module

public import proofs.«01_k».proof.Proof.Final
public import proofs.«01_k».proof.Defs
public import proofs.«01_k».proof.Proof.Gen.Kernel

@[expose] public section

noncomputable section

namespace Cert.Same

open Idealize.ShloMosaic Idealize.SL.Sem

/-- The two body tables agree, label by label. -/
theorem bodies : @Cert.Kernel.defs₀ Bits _ Cert.Kernel.Gen.facts = @Cert.KernelIdeal.defs₀ Bits _ Cert.KernelIdeal.Gen.facts := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) (funext fun l => funext fun a => ?_)
  match l, a with
  | ⟨0, _⟩, (t, s) => rfl

theorem tables : @Cert.Kernel.defs Bits _ Cert.Kernel.Gen.facts = @Cert.KernelIdeal.defs Bits _ Cert.KernelIdeal.Gen.facts := by
  unfold Cert.Kernel.defs Cert.KernelIdeal.defs
  rw [bodies]
  rfl

theorem mains : @Cert.Kernel.main Bits _ = @Cert.KernelIdeal.main Bits _ := rfl

/-- The frame of the kernel, from the run of its idealization read at the bits. -/
theorem frame (m : (ℓ : Loc Cert.KernelIdeal.nD Cert.KernelIdeal.τ Cert.KernelIdeal.sig) → Buf (Elt Bits) ℓ) (ρ : Dev Cert.KernelIdeal.nD → PrngReg) :
    θ_run (Cert.Kernel.defs (F := Bits)) (onTc (τ := Cert.Kernel.τ) (Cert.Kernel.main (F := Bits))) ⟨m, fun _ => 0, ρ⟩ fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 := by
  have h := Cert.KernelIdeal.Run.run (F := Bits) m ρ
  rw [← tables, ← mains] at h
  exact (θ_run Cert.Kernel.defs _ _).mono (fun _ h => ⟨fun c => (h.1 c).2, h.2⟩) h

end Cert.Same

end
-- ==== Proof.Quant.lean ====
/- Over the extended reals: scaling by the reciprocal and back agrees with dividing by the scale, whatever the largest magnitude. -/
module

public import Idealize.ShloMosaic.PureOps.Ideal
public import Idealize.ShloMosaic.PureOps.Ideal.Laws

@[expose] public section

noncomputable section

namespace Cert.Quant

open Idealize.ShloMosaic

/-- The largest e4m3 number. -/
abbrev top8 : EReal := ((448 : ℝ) : EReal)

theorem top8_bits : Ideal.ofBits .f32 0x43E00000#32 = top8 := by
  simp [Ideal.ofBits, Ideal.ieee]; norm_cast; norm_num
theorem neg_top8_bits : Ideal.ofBits .f32 0xC3E00000#32 = -top8 := by
  rw [← EReal.coe_neg]; simp [Ideal.ofBits, Ideal.ieee]; norm_cast; norm_num
theorem bot_bits : Ideal.ofBits .f32 0xFF800000#32 = ⊥ := by simp [Ideal.ofBits, Ideal.ieee]

/-- Clipped to the e4m3 range and scaled. -/
def snap (x s : EReal) : EReal := min top8 (max (-top8) x) * s
/-- The scale and its reciprocal, of the largest magnitude `g`. -/
def scale (g : EReal) : EReal := Ideal.div g top8
def recip (g : EReal) : EReal := Ideal.div top8 g

theorem div_real (x : EReal) (r : ℝ) (h : r ≠ 0) : Ideal.div x (r : EReal) = x * ((r⁻¹ : ℝ) : EReal) := by
  unfold Ideal.div; rw [if_neg (by exact_mod_cast h), EReal.coe_inv]
theorem div_top (x : EReal) : Ideal.div x ⊤ = 0 := by
  unfold Ideal.div; rw [if_neg (by simp), EReal.inv_top, mul_zero]
theorem scale_top : scale ⊤ = ⊤ := by
  unfold scale; rw [div_real _ _ (by norm_num)]; exact EReal.top_mul_coe_of_pos (by norm_num)
theorem recip_top : recip ⊤ = 0 := div_top _
theorem scale_zero : scale 0 = 0 := by unfold scale; rw [div_real _ _ (by norm_num), zero_mul]
theorem scale_real (r : ℝ) : scale (r : EReal) = ((r * 448⁻¹ : ℝ) : EReal) := by
  unfold scale; rw [div_real _ _ (by norm_num), ← EReal.coe_mul]
theorem recip_real (r : ℝ) (h : r ≠ 0) : recip (r : EReal) = ((448 * r⁻¹ : ℝ) : EReal) := by
  unfold recip; rw [div_real _ _ h, ← EReal.coe_mul]

/-- What a bound on the magnitude leaves: an infinite bound, or a finite one of a finite number. -/
theorem bounded {y g : EReal} (h : max y (-y) ≤ g) : g = ⊤ ∨ ∃ v r : ℝ, y = v ∧ g = r ∧ |v| ≤ r := by
  induction g using EReal.rec with
  | bot =>
    exfalso
    have h1 := le_bot_iff.mp ((le_max_left _ _).trans h)
    have h2 := le_bot_iff.mp ((le_max_right _ _).trans h)
    rw [h1] at h2; simp at h2
  | top => exact .inl rfl
  | coe r =>
    refine .inr ?_
    have h1 := (le_max_left _ _).trans h
    have h2 := (le_max_right _ _).trans h
    induction y using EReal.rec with
    | bot => simp at h2
    | top => simp at h1
    | coe v =>
      refine ⟨v, r, rfl, rfl, ?_⟩
      rw [← EReal.coe_neg] at h2
      exact abs_le.mpr ⟨by have := EReal.coe_le_coe_iff.mp h2; linarith, EReal.coe_le_coe_iff.mp h1⟩

/-- Multiplying by the reciprocal and dividing by the scale snap to the same number. -/
theorem snap_recip (y g : EReal) (h : max y (-y) ≤ g) : snap (y * recip g) (scale g) = snap (Ideal.div y (scale g)) (scale g) := by
  rcases bounded h with rfl | ⟨v, r, rfl, rfl, hv⟩
  · rw [recip_top, scale_top, div_top, mul_zero]
  · by_cases hr : r = 0
    · subst hr
      unfold snap; rw [show ((0 : ℝ) : EReal) = 0 from rfl, scale_zero, mul_zero, mul_zero]
    · rw [recip_real r hr, scale_real, div_real _ _ (mul_ne_zero hr (by norm_num)), mul_inv, inv_inv, mul_comm r⁻¹]

/-- So do they after a first scaling there and back. -/
theorem snap_twice (y g : EReal) (h : max y (-y) ≤ g) : snap (y * recip g * scale g * recip g) (scale g) = snap (Ideal.div y (scale g)) (scale g) := by
  rw [← snap_recip y g h]
  rcases bounded h with rfl | ⟨v, r, rfl, rfl, hv⟩
  · rw [recip_top, mul_zero, mul_zero]
  · by_cases hr : r = 0
    · subst hr
      unfold snap; rw [show ((0 : ℝ) : EReal) = 0 from rfl, scale_zero, mul_zero, mul_zero]
    · rw [recip_real r hr, scale_real]
      congr 1
      simp only [← EReal.coe_mul]
      congr 1
      field_simp

end Cert.Quant

end
-- ==== Proof.Peak.lean ====
/- Over the extended reals: the product's elements, chunk by chunk and whole, and the largest magnitude among them. -/
module

public import proofs.«01_k».proof.Proof.Final
public import proofs.«01_k».proof.Proof.Quant
public import proofs.«01_k».proof.Proof.Gen.ReferenceIdeal.Value
public import Idealize.ShloMosaic.Lib.MatmulPlain
public import Idealize.ShloMosaic.Lib.ValueLayout
public import Idealize.ShloMosaic.PureOps.Ideal.Laws

@[expose] public section

noncomputable section

namespace Cert.Peak

open Idealize.ShloMosaic Idealize.ShloMosaic.ValueIdx Cert.KernelIdeal.Run Cert.KernelIdeal.Gen Cert.KernelIdeal

/-! ## Largest elements -/

/-- A maximum over all elements, from below everything, is bounded as they all are. -/
theorem top_le {s t : Shape} {axes : List (Fin s.rank)} (src : FVec Ideal s .f32) (h : s.Reduces axes t) (ht : ∀ b, t.size b = 1)
    (hφ : FKind.Formats .f32) (hacc : (0xFF800000#32 : BitVec 32) = FKind.maximumf.neutral .f32 hφ) (j : t.Idx) (z : EReal) :
    (multiReduction .maximumf axes t src 0xFF800000#32 h hφ hacc j : EReal) ≤ z ↔ ∀ i, (src i : EReal) ≤ z := by
  rw [multiReduction_maximumf_eq_fold, Finset.filter_true_of_mem fun i _ => funext fun b => Fin.ext (by
    have := (h.drop i b).isLt; have := (j b).isLt; have := ht b; omega)]
  refine (Finset.fold_max_le z).trans ?_
  rw [show (FloatOps.ofBits (F := Ideal) .f32 0xFF800000#32) = (⊥ : EReal) from Quant.bot_bits]
  exact ⟨fun h' i => h'.2 i (Finset.mem_univ i), fun h' => ⟨bot_le, fun i _ => h' i⟩⟩

/-- A reshape has the same elements. -/
theorem cast_le {s t : Shape} (x : s.Idx → EReal) (h : s.ShapeCasts t) (z : EReal) : (∀ i, shapeCast t x h i ≤ z) ↔ ∀ j, x j ≤ z :=
  ((Shape.reshapeEquiv h).surjective.forall (p := fun j => x j ≤ z)).symm

/-! ## Elements of the product -/

/-- One element of the whole product. -/
def yAt (A : (⟨2, ![4096, 4096]⟩ : Shape).Idx → EReal) (B : S4096x8192.Idx → EReal) (i : Fin 4096) (j : Fin 8192) : EReal := ∑ k : Fin 4096, A (ix2 i k) * B (ix2 k j)
/-- Its magnitude. -/
abbrev mag (y : EReal) : EReal := max y (-y)

theorem mag_nonneg {y z : EReal} (h : mag y ≤ z) : 0 ≤ z := by
  rcases le_total 0 y with h0 | h0
  · exact h0.trans ((le_max_left _ _).trans h)
  · exact (EReal.neg_nonneg.mpr h0).trans ((le_max_right _ _).trans h)

/-- The column of the weights that column `q` of chunk `t` is, on device `c`. -/
def colOf (c : Dev nD) (t q : ℕ) : ℕ := 1024 * ((c.val + t / 2 % 8 + 1) % 8) + 512 * (t % 2) + q
theorem colOf_lt (c : Dev nD) (t q : ℕ) (h : q < 512) : colOf c t q < 8192 := by unfold colOf; omega

/-- Chunk `t` of device `c`'s product. -/
def chunk (c : Dev nD) (X : S512x4096.Idx → EReal) (W : S4096x8192.Idx → EReal) (t : ℕ) : S512x512.Idx → EReal := k0_pay5 (F := Ideal) X (wcn (F := Ideal) c W t)

theorem win_read (c : Dev nD) (W : S4096x8192.Idx → EReal) (t : ℕ) (k : Fin 4096) (q : Fin 512) :
    (wwin c (Fin.ofNat 8 (t / 2)) (Fin.ofNat 2 t)).view.read (Elt Ideal) W (ix2 k q) = W (ix2 k ⟨colOf c t q.val, colOf_lt c t _ q.isLt⟩) := by
  refine congrArg W (funext fun a => Fin.ext ?_)
  match a with
  | ⟨0, _⟩ =>
    show k0_off1 c (BitVec.ofNat 32 (1 + (Fin.ofNat 8 (t / 2)).val)) (BitVec.ofNat 32 (512 * (Fin.ofNat 2 t).val)) 0 + 1 * k.val = k.val
    rw [k0_off1_eq]; show 0 + 1 * k.val = k.val; omega
  | ⟨1, _⟩ =>
    show k0_off1 c (BitVec.ofNat 32 (1 + (Fin.ofNat 8 (t / 2)).val)) (BitVec.ofNat 32 (512 * (Fin.ofNat 2 t).val)) 1 + 1 * q.val = colOf c t q.val
    rw [k0_off1_eq]
    show 1024 * ((c.val + t / 2 % 8 + 1) % 8) + 512 * (t % 2) + 1 * q.val = colOf c t q.val
    unfold colOf; omega

theorem dot_plain : dot_S512x4096_S4096x512_S512x512_1_0_0_1_n_n = DotDims.plain 512 4096 512 := rfl

/-- A product of a strip with a window, from zero. -/
theorem strip_mul (X : S512x4096.Idx → EReal) (R : S4096x512.Idx → EReal) (p q : Fin 512) :
    (matmul (F := Ideal) (φ₁ := .f32) (φ₂ := .f32) dot_S512x4096_S4096x512_S512x512_1_0_0_1_n_n none X R (constant S512x512 .f32 0x00000000#32) (ix2 p q) : EReal) = ∑ k : Fin 4096, X (ix2 p k) * R (ix2 k q) := by
  rw [dot_plain]
  unfold matmul
  rw [Ideal.matmul_plain_apply]
  exact (congrArg (· + _) (Ideal.ofBits_zero_f32)).trans (zero_add _)

theorem pay5_eq {F : FTy → Type} [FloatOps F] (X : S512x4096.Idx → F .f32) (R : S4096x512.Idx → F .f32) (h : S4096x512.ShapeCasts S1x4096x512) :
    k0_pay5 (F := F) X (shapeCast S1x4096x512 R h) = matmul dot_S512x4096_S4096x512_S512x512_1_0_0_1_n_n none X R (constant S512x512 .f32 0x00000000#32) := by
  unfold k0_pay5
  rw [shapeCast_shapeCast, shapeCast_self]

theorem chunk_apply (c : Dev nD) (X : S512x4096.Idx → EReal) (W : S4096x8192.Idx → EReal) (t : ℕ) (p q : Fin 512) :
    chunk c X W t (ix2 p q) = ∑ k : Fin 4096, X (ix2 p k) * W (ix2 k ⟨colOf c t q.val, colOf_lt c t _ q.isLt⟩) := by
  unfold chunk wcn wc
  rw [pay5_eq, strip_mul]
  exact Finset.sum_congr rfl fun k _ => congrArg (X (ix2 p k) * ·) (win_read c W t k q)

/-! ## The kernel's largest magnitude -/

theorem pay6_le (v : EReal) (X : S512x4096.Idx → EReal) (w : S1x4096x512.Idx → EReal) (z : EReal) :
    (k0_pay6 (F := Ideal) v X w : EReal) ≤ z ↔ v ≤ z ∧ ∀ i, mag (k0_pay5 (F := Ideal) X w i) ≤ z := by
  unfold k0_pay6
  refine (max_le_iff (a := v)).trans (and_congr_right fun _ => ?_)
  refine (top_le _ _ (fun b => by fin_cases b; rfl) (.inl rfl) rfl _ z).trans ?_
  exact cast_le (absf (k0_pay5 (F := Ideal) X w)) _ z

theorem amx_le (c : Dev nD) (X : S512x4096.Idx → EReal) (W : S4096x8192.Idx → EReal) (n : ℕ) (z : EReal) :
    (amx (F := Ideal) c X W n : EReal) ≤ z ↔ 0 ≤ z ∧ ∀ t < n, ∀ i, mag (chunk c X W t i) ≤ z := by
  induction n with
  | zero =>
    rw [show (amx (F := Ideal) c X W 0 : EReal) = 0 from Ideal.ofBits_zero_f32]
    exact ⟨fun h => ⟨h, fun t ht => absurd ht (Nat.not_lt_zero t)⟩, fun h => h.1⟩
  | succ n ih =>
    refine (pay6_le _ X (wcn (F := Ideal) c W n) z).trans ?_
    rw [ih]
    constructor
    · rintro ⟨⟨h0, h1⟩, h2⟩
      refine ⟨h0, fun t ht => ?_⟩
      rcases Nat.lt_succ_iff_lt_or_eq.mp ht with h | rfl
      · exact h1 t h
      · exact h2
    · rintro ⟨h0, h1⟩
      exact ⟨⟨h0, fun t ht => h1 t (Nat.lt_succ_of_lt ht)⟩, h1 n (Nat.lt_succ_self n)⟩

theorem amx_succ (c : Dev nD) (X : S512x4096.Idx → EReal) (W : S4096x8192.Idx → EReal) (n : ℕ) :
    amx (F := Ideal) c X W (n + 1) = k0_pay6 (F := Ideal) (amx (F := Ideal) c X W n) X (wcn (F := Ideal) c W n) := rfl

theorem pay52_eq {F : FTy → Type} [FloatOps F] (v : F .f32) (X : S512x4096.Idx → F .f32) (w : S1x4096x512.Idx → F .f32) (j : S1x128.Idx) :
    k0_pay52 (F := F) v X w j = k0_pay6 (F := F) v X w := by
  unfold k0_pay52
  rw [shapeCast_self]
  rfl

theorem amRow_eq {F : FTy → Type} [FloatOps F] (c : Dev nD) (X : S512x4096.Idx → F .f32) (W : S4096x8192.Idx → F .f32) (j : S1x128.Idx) (n : ℕ) (hn : n = 15) :
    amRow (F := F) c X W j = k0_pay6 (F := F) (amx (F := F) c X W n) X (wcn (F := F) c W n) := by
  subst hn
  exact pay52_eq _ _ _ _

theorem amRow_le (c : Dev nD) (X : S512x4096.Idx → EReal) (W : S4096x8192.Idx → EReal) (j : S1x128.Idx) (z : EReal) :
    (amRow (F := Ideal) c X W j : EReal) ≤ z ↔ 0 ≤ z ∧ ∀ t < 16, ∀ i, mag (chunk c X W t i) ≤ z := by
  obtain ⟨n, hn⟩ : ∃ n : ℕ, n = 15 := ⟨_, rfl⟩
  have h := amx_le c X W (n + 1) z
  rw [amx_succ] at h
  rw [amRow_eq (F := Ideal) c X W j n hn]
  rw [hn] at h ⊢
  exact h

/-- The maximum over the devices' rows is bounded as their first elements are. -/
theorem gmax_le (am : Dev nD → S1x128.Idx → EReal) (z : EReal) :
    (gmax (F := Ideal) am : EReal) ≤ z ↔ ∀ d : Dev nD, am d (ix2 0 0) ≤ z := by
  unfold gmax k0_pay53
  refine (top_le _ _ (fun b => by fin_cases b; rfl) (.inl rfl) rfl _ z).trans ?_
  refine (cast_le _ _ z).trans ((cast_le _ _ z).trans ?_)
  constructor
  · intro h d
    refine le_trans (le_of_eq ?_) (h (ix2 ⟨d.val, d.isLt⟩ 0))
    show am d (ix2 0 0) = am _ _
    refine congrArg₂ (fun (u : Dev nD) (x : S1x128.Idx) => am u x) (Fin.ext ?_) (funext fun a => Fin.ext ?_)
    · show d.val = 0 + 1 * d.val; omega
    · match a with
      | ⟨0, _⟩ => rfl
      | ⟨1, _⟩ => rfl
  · intro h j
    refine le_trans (le_of_eq ?_) (h ⟨(j 0).val, (j 0).isLt⟩)
    refine congrArg₂ (fun (u : Dev nD) (x : S1x128.Idx) => am u x) (Fin.ext ?_) (funext fun a => Fin.ext ?_)
    · show 0 + 1 * (j 0).val = (j 0).val; omega
    · have h1 : (j 1).val < 1 := (j 1).isLt
      match a with
      | ⟨0, _⟩ => rfl
      | ⟨1, _⟩ => show 0 + 1 * (j 1).val = 0; omega

end Cert.Peak

end
-- ==== Proof.Whole.lean ====
/- Over the extended reals: the block of the result each device writes is its block of the reference's result. -/
module

public import proofs.«01_k».proof.Proof.Peak

@[expose] public section

noncomputable section

namespace Cert.Whole

open Idealize.ShloMosaic Idealize.ShloMosaic.TcCoe Idealize.ShloMosaic.ValueIdx Cert.KernelIdeal.Run Cert.KernelIdeal.Gen Cert.KernelIdeal Cert.Peak Cert.Quant

/-- The whole left operand. -/
abbrev SA : Shape := ⟨2, ![4096, 4096]⟩

/-! ## The product, whole and by strips -/

/-- The rows of the left operand that device `c` has. -/
def strip (A : SA.Idx → EReal) (c : Dev nD) : S512x4096.Idx → EReal := Layout.block ⟨2, ![512, 4096]⟩ SA 0 8 c A

/-- Row `p` of strip `c`. -/
def rowOf (c : Dev nD) (p : Fin 512) : Fin 4096 := ⟨512 * c.val + p.val, by have h : c.val < 8 := c.isLt; omega⟩
/-- Column `j` of block `c` of the result. -/
def blkCol (c : Dev nD) (j : Fin 1024) : Fin 8192 := ⟨1024 * c.val + j.val, by have h : c.val < 8 := c.isLt; omega⟩

theorem strip_apply (A : SA.Idx → EReal) (c : Dev nD) (p : Fin 512) (k : Fin 4096) : strip A c (ix2 p k) = A (ix2 (rowOf c p) k) := by
  unfold strip
  refine congrArg A (funext fun a => Fin.ext ?_)
  match a with
  | ⟨0, _⟩ => show c.val * 512 + p.val = 512 * c.val + p.val; omega
  | ⟨1, _⟩ => rfl

theorem chunk_strip (A : SA.Idx → EReal) (B : S4096x8192.Idx → EReal) (c : Dev nD) (t : ℕ) (p q : Fin 512) :
    chunk c (strip A c) B t (ix2 p q) = yAt A B (rowOf c p) ⟨colOf c t q.val, colOf_lt c t _ q.isLt⟩ := by
  rw [chunk_apply]
  exact Finset.sum_congr rfl fun k _ => congrArg (· * _) (strip_apply A c p k)

theorem idx512 (i : S512x512.Idx) : i = ix2 (i 0) (i 1) := funext fun a => by
  match a with
  | ⟨0, _⟩ => rfl
  | ⟨1, _⟩ => rfl

/-- The kernel's largest magnitude. -/
def top (A : SA.Idx → EReal) (B : S4096x8192.Idx → EReal) : EReal := gmax (F := Ideal) fun c => amRow (F := Ideal) c (strip A c) B

theorem top_spec (A : SA.Idx → EReal) (B : S4096x8192.Idx → EReal) (z : EReal) : top A B ≤ z ↔ ∀ i j, mag (yAt A B i j) ≤ z := by
  unfold top
  rw [gmax_le]
  constructor
  · intro h i j
    have hi := i.isLt
    have hj := j.isLt
    have h1 := ((amRow_le _ _ B _ z).mp (h ⟨i.val / 512, by show _ < 8; omega⟩)).2 (2 * ((j.val / 1024 + 15 - i.val / 512) % 8) + j.val % 1024 / 512) (by omega)
      (ix2 ⟨i.val % 512, by omega⟩ ⟨j.val % 512, by omega⟩)
    rw [chunk_strip] at h1
    refine le_trans (le_of_eq (congrArg₂ (fun a b => mag (yAt A B a b)) (Fin.ext ?_) (Fin.ext ?_))) h1
    · show i.val = 512 * (i.val / 512) + i.val % 512; omega
    · show j.val = colOf _ _ _
      unfold colOf
      show j.val = 1024 * ((i.val / 512 + (2 * ((j.val / 1024 + 15 - i.val / 512) % 8) + j.val % 1024 / 512) / 2 % 8 + 1) % 8) + 512 * ((2 * ((j.val / 1024 + 15 - i.val / 512) % 8) + j.val % 1024 / 512) % 2) + j.val % 512
      have e1 : (2 * ((j.val / 1024 + 15 - i.val / 512) % 8) + j.val % 1024 / 512) / 2 = (j.val / 1024 + 15 - i.val / 512) % 8 := by omega
      have e2 : (2 * ((j.val / 1024 + 15 - i.val / 512) % 8) + j.val % 1024 / 512) % 2 = j.val % 1024 / 512 := by omega
      rw [e1, e2]
      omega
  · intro h d
    refine (amRow_le d _ B _ z).mpr ⟨mag_nonneg (h 0 0), fun t _ i => ?_⟩
    exact le_trans (le_of_eq (congrArg mag ((congrArg (chunk d (strip A d) B t) (idx512 i)).trans (chunk_strip A B d t (i 0) (i 1))))) (h _ _)

/-! ## The reference -/

theorem dot_whole : Cert.ReferenceIdeal.dot_S4096x4096_S4096x8192_S4096x8192_1_0_0_1_n_n = DotDims.plain 4096 4096 8192 := rfl

/-- The whole product. -/
def prod (A : SA.Idx → EReal) (B : S4096x8192.Idx → EReal) : S4096x8192.Idx → EReal :=
  matmul (F := Ideal) (φ₁ := .f32) (φ₂ := .f32) Cert.ReferenceIdeal.dot_S4096x4096_S4096x8192_S4096x8192_1_0_0_1_n_n none A B (constant S4096x8192 .f32 0x00000000#32)

theorem prod_apply (A : SA.Idx → EReal) (B : S4096x8192.Idx → EReal) (i : Fin 4096) (j : Fin 8192) : prod A B (ix2 i j) = yAt A B i j := by
  unfold prod
  rw [dot_whole]
  unfold matmul
  rw [Ideal.matmul_plain_apply]
  exact (congrArg (· + _) (Ideal.ofBits_zero_f32)).trans (zero_add _)

/-- The reference's largest magnitude. -/
def refTop (A : SA.Idx → EReal) (B : S4096x8192.Idx → EReal) : EReal :=
  extractAt ![0, 0, 0] (shapeCast Cert.ReferenceIdeal.S1x1x1 (multiReduction (F := Ideal) .maximumf [1, 2] Cert.ReferenceIdeal.S1
    (shapeCast Cert.ReferenceIdeal.S1x4096x8192 (absf (F := Ideal) (φ := .f32) (prod A B)) Cert.ReferenceIdeal.Gen.facts.shapeCasts_S4096x8192_S1x4096x8192) 0xFF800000#32
      Cert.ReferenceIdeal.Gen.facts.reduces_S1x4096x8192_S1 (.inl rfl) rfl) Cert.ReferenceIdeal.Gen.facts.shapeCasts_S1_S1x1x1) Cert.ReferenceIdeal.Gen.facts.inpos_S1x1x1_p0_0_0

theorem refTop_spec (A : SA.Idx → EReal) (B : S4096x8192.Idx → EReal) (z : EReal) : refTop A B ≤ z ↔ ∀ i j, mag (yAt A B i j) ≤ z := by
  unfold refTop
  refine (top_le _ _ (fun b => by fin_cases b; rfl) (.inl rfl) rfl _ z).trans ?_
  refine (cast_le (absf (F := Ideal) (φ := .f32) (prod A B)) _ z).trans ?_
  constructor
  · intro h i j
    have h1 : mag (prod A B (ix2 i j)) ≤ z := h (ix2 i j)
    rwa [prod_apply] at h1
  · intro h i
    have e : i = ix2 (i 0) (i 1) := funext fun a => by
      match a with
      | ⟨0, _⟩ => rfl
      | ⟨1, _⟩ => rfl
    exact le_trans (le_of_eq (congrArg mag ((congrArg (prod A B) e).trans (prod_apply A B (i 0) (i 1))))) (h _ _)

theorem refTop_eq (A : SA.Idx → EReal) (B : S4096x8192.Idx → EReal) : refTop A B = top A B :=
  eq_of_forall_ge_iff fun z => (refTop_spec A B z).trans (top_spec A B z).symm

theorem le_top' (A : SA.Idx → EReal) (B : S4096x8192.Idx → EReal) (i : Fin 4096) (j : Fin 8192) : mag (yAt A B i j) ≤ top A B :=
  (top_spec A B _).mp le_rfl i j

/-- The reference's result, element by element. -/
theorem ref_apply (A : SA.Idx → EReal) (B : S4096x8192.Idx → EReal) (i : Fin 4096) (j : Fin 8192) :
    (Cert.ReferenceIdeal.Gen.k0_pay1 (F := Ideal) A B (ix2 i j) : EReal) = snap (Ideal.div (yAt A B i j) (scale (top A B))) (scale (top A B)) := by
  rw [← refTop_eq, ← prod_apply]
  unfold snap scale
  rw [← neg_top8_bits, ← top8_bits]
  rfl

/-! ## The kernel's values, element by element -/

theorem pay4_eq {F : FTy → Type} [FloatOps F] (X : S512x4096.Idx → F .f32) (w : S1x4096x512.Idx → F .f32) :
    k0_pay4 (F := F) X w = truncf .bf16 (k0_pay5 (F := F) X w) bitsLt_bf16_f32 := by
  unfold k0_pay4
  exact shapeCast_self _ _
theorem pay16_eq {F : FTy → Type} [FloatOps F] (X : S512x4096.Idx → F .f32) (w : S1x4096x512.Idx → F .f32) : k0_pay16 (F := F) X w = k0_pay5 (F := F) X w := by
  unfold k0_pay16
  rw [shapeCast_self]
  rfl

theorem bf_at (A : SA.Idx → EReal) (B : S4096x8192.Idx → EReal) (c : Dev nD) (k : ℕ) (h1 : 1 ≤ k) (h2 : k ≤ 2) (p : Fin 512) (j : Fin 1024) :
    (bfVal (F := Ideal) c (strip A c) B k (ix2 p j) : EReal) = yAt A B (rowOf c p) (blkCol ⟨(c.val + k) % 8, Nat.mod_lt _ (by decide)⟩ j) := by
  refine (congrFun (pay4_eq (F := Ideal) (strip A c) (wcn (F := Ideal) c B (2 * (k - 1) + j.val / 512))) (ix2 p ⟨j.val % 512, Nat.mod_lt _ (by decide)⟩)).trans ?_
  refine (chunk_strip A B c (2 * (k - 1) + j.val / 512) p ⟨j.val % 512, Nat.mod_lt _ (by decide)⟩).trans (congrArg (yAt A B (rowOf c p)) (Fin.ext ?_))
  show colOf c (2 * (k - 1) + j.val / 512) (j.val % 512) = 1024 * ((c.val + k) % 8) + j.val
  have hj := j.isLt
  unfold colOf
  rw [show (2 * (k - 1) + j.val / 512) / 2 = k - 1 by omega, show (2 * (k - 1) + j.val / 512) % 2 = j.val / 512 by omega, show (k - 1) % 8 = k - 1 by omega, show c.val + (k - 1) + 1 = c.val + k by omega]
  omega

theorem par_at (A : SA.Idx → EReal) (B : S4096x8192.Idx → EReal) (c : Dev nD) (n : ℕ) (hn : n < 6) (p : Fin 512) (j : Fin 1024) :
    (parVal (F := Ideal) c (strip A c) B (ix2 p ⟨1024 * n + j.val, by omega⟩) : EReal) = yAt A B (rowOf c p) (blkCol ⟨(c.val + (n + 3)) % 8, Nat.mod_lt _ (by decide)⟩ j) := by
  refine (congrFun (pay16_eq (F := Ideal) (strip A c) (wcn (F := Ideal) c B (4 + (1024 * n + j.val) / 512))) (ix2 p ⟨(1024 * n + j.val) % 512, Nat.mod_lt _ (by decide)⟩)).trans ?_
  refine (chunk_strip A B c (4 + (1024 * n + j.val) / 512) p ⟨(1024 * n + j.val) % 512, Nat.mod_lt _ (by decide)⟩).trans (congrArg (yAt A B (rowOf c p)) (Fin.ext ?_))
  show colOf c (4 + (1024 * n + j.val) / 512) ((1024 * n + j.val) % 512) = 1024 * ((c.val + (n + 3)) % 8) + j.val
  have hj := j.isLt
  unfold colOf
  rw [show (4 + (1024 * n + j.val) / 512) / 2 = n + 2 by omega, show (4 + (1024 * n + j.val) / 512) % 2 = j.val / 512 by omega, show (n + 2) % 8 = n + 2 by omega, show c.val + (n + 2) + 1 = c.val + (n + 3) by omega]
  omega

theorem pcol_at (P : S512x6144.Idx → EReal) (n : ℕ) (hn : n < 5) (p : Fin 512) (j : Fin 1024) :
    (pcolOf (F := Ideal) P (n + 3) (ix2 p j) : EReal) = P (ix2 p ⟨1024 * n + j.val, by omega⟩) := by
  unfold pcolOf
  interval_cases n
  · refine congrArg P (funext fun a => Fin.ext ?_)
    match a with
    | ⟨0, _⟩ => show 0 + 1 * p.val = p.val; omega
    | ⟨1, _⟩ => show 0 + 1 * j.val = 1024 * 0 + j.val; omega
  · refine congrArg P (funext fun a => Fin.ext ?_)
    match a with
    | ⟨0, _⟩ => show 0 + 1 * p.val = p.val; omega
    | ⟨1, _⟩ => show 1024 + 1 * j.val = 1024 * 1 + j.val; omega
  · refine congrArg P (funext fun a => Fin.ext ?_)
    match a with
    | ⟨0, _⟩ => show 0 + 1 * p.val = p.val; omega
    | ⟨1, _⟩ => show 2048 + 1 * j.val = 1024 * 2 + j.val; omega
  · refine congrArg P (funext fun a => Fin.ext ?_)
    match a with
    | ⟨0, _⟩ => show 0 + 1 * p.val = p.val; omega
    | ⟨1, _⟩ => show 3072 + 1 * j.val = 1024 * 3 + j.val; omega
  · refine congrArg P (funext fun a => Fin.ext ?_)
    match a with
    | ⟨0, _⟩ => show 0 + 1 * p.val = p.val; omega
    | ⟨1, _⟩ => show 4096 + 1 * j.val = 1024 * 4 + j.val; omega
theorem pcol8_at (P : S512x6144.Idx → EReal) (p : Fin 512) (j : Fin 1024) : pcol8 (F := Ideal) P (ix2 p j) = P (ix2 p ⟨1024 * 5 + j.val, by omega⟩) := by
  refine congrArg P (funext fun a => Fin.ext ?_)
  match a with
    | ⟨0, _⟩ => show 0 + 1 * p.val = p.val; omega
    | ⟨1, _⟩ => show 5120 + 1 * j.val = 1024 * 5 + j.val; omega

/-! ## The scalings -/

theorem sc_eq (am : Dev nD → S1x128.Idx → EReal) : (scOf (F := Ideal) am : EReal) = scale (gmax (F := Ideal) am) := by
  unfold scale
  rw [← top8_bits]
  rfl
theorem pay55_eq (g : EReal) : (k0_pay55 (F := Ideal) g : EReal) = recip g := by
  unfold recip
  rw [← top8_bits]
  rfl
theorem pay56_at (g : EReal) (P : S512x1024.Idx → EReal) (i : S512x1024.Idx) : (k0_pay56 (F := Ideal) g P i : EReal) = P i * recip g := by
  rw [← pay55_eq]
  unfold k0_pay56
  rw [shapeCast_self]
  rfl
theorem pay63_at (s b : EReal) (P : S512x1024.Idx → EReal) (i : S512x1024.Idx) : (k0_pay63 (F := Ideal) s P (k0_pay62 (F := Ideal) b) i : EReal) = P i * b * s := by
  unfold k0_pay63 k0_pay62
  rw [shapeCast_self]
  rfl
theorem pay64_at (s : EReal) (P : S512x1024.Idx → EReal) (i : S512x1024.Idx) : (k0_pay64 (F := Ideal) s P i : EReal) = P i * s := by
  unfold k0_pay64
  rw [shapeCast_self]
  rfl
theorem pay1_at (s b : EReal) (P : S4096x1024.Idx → EReal) (i : S4096x1024.Idx) : (k0_pay1 (F := Ideal) s b P i : EReal) = snap (P i * b) s := by
  unfold snap
  rw [← neg_top8_bits, ← top8_bits]
  rfl

/-! ## The result -/

theorem fwd_bwd (c : Dev nD) (k : Fin 8) : (⟨((bwd c k.val).val + k.val) % 8, Nat.mod_lt _ (by decide)⟩ : Dev nD) = c := by revert c k; decide
theorem bwd_back (c t : Dev nD) : bwd c (back c t) = t := by revert c t; decide

variable (m : (ℓ : Loc nD τ sig) → Buf (Elt Ideal) ℓ) (A : SA.Idx → EReal) (B : S4096x8192.Idx → EReal)
  (hA : ∀ c : Dev nD, m ((c : Thread nD τ).loc main_arg0) = strip A c) (hB : ∀ c : Dev nD, m ((c : Thread nD τ).loc main_arg1) = B)
include hA hB

theorem am_eq : amOf m = fun c => amRow (F := Ideal) c (strip A c) B := by
  funext c
  unfold amOf wOf
  rw [xOf_eq, hA, hB]
theorem top_eq : (gmax (F := Ideal) (amOf m) : EReal) = top A B := by rw [am_eq m A B hA hB]; rfl
theorem par_eq (c : Dev nD) : paOf m c = parVal (F := Ideal) c (strip A c) B := by
  unfold paOf wOf
  rw [xOf_eq, hA, hB]
theorem bv_eq (c : Dev nD) (k : ℕ) : bvOf m c k = bfVal (F := Ideal) c (strip A c) B k := by
  unfold bvOf wOf
  rw [xOf_eq, hA, hB]

/-- A row of the result before the last clip: the product itself, or scaled down and back up. -/
theorem row_at (c t : Dev nD) (p : Fin 512) (j : Fin 1024) :
    (rowAt (F := Ideal) (amOf m) (bvOf m) (qvOf m) c (paOf m c) (back c t) (ix2 p j) : EReal) = yAt A B (rowOf t p) (blkCol c j)
    ∨ (rowAt (F := Ideal) (amOf m) (bvOf m) (qvOf m) c (paOf m c) (back c t) (ix2 p j) : EReal) = yAt A B (rowOf t p) (blkCol c j) * recip (top A B) * scale (top A B) := by
  obtain ⟨k, hk⟩ : ∃ k : Fin 8, k.val = back c t := ⟨⟨back c t, Nat.mod_lt _ (by decide)⟩, rfl⟩
  have ht : bwd c k.val = t := by rw [hk, bwd_back]
  have hc := fwd_bwd c k
  rw [ht] at hc
  rw [← hk]
  have hk8 := k.isLt
  unfold rowAt
  rw [ht]
  by_cases h0 : k.val = 0
  · right
    have hct : t = c := by rw [← ht, h0]; exact bwd_zero c
    subst hct
    rw [if_pos h0]
    refine (pay63_at _ _ _ _).trans ?_
    rw [sc_eq, pay55_eq, top_eq m A B hA hB, pcol8_at, par_eq m A B hA hB]
    refine congrArg (fun y => y * recip (top A B) * scale (top A B)) ((par_at A B t 5 (by decide) p j).trans ?_)
    exact congrArg (fun d => yAt A B (rowOf t p) (blkCol d j)) (Fin.ext (by show (t.val + 8) % 8 = t.val; have : t.val < 8 := t.isLt; omega))
  · by_cases h2 : k.val ≤ 2
    · left
      rw [if_neg h0, if_pos h2, bv_eq m A B hA hB]
      refine (bf_at A B t k.val (by omega) h2 p j).trans ?_
      rw [hc]
    · right
      obtain ⟨n, hn⟩ : ∃ n, k.val = n + 3 := ⟨k.val - 3, by omega⟩
      rw [if_neg h0, if_neg h2]
      refine (pay64_at _ _ _).trans ?_
      rw [sc_eq, top_eq m A B hA hB]
      refine congrArg (· * scale (top A B)) ?_
      unfold qvOf
      refine (pay56_at _ _ _).trans ?_
      rw [top_eq m A B hA hB]
      refine congrArg (· * recip (top A B)) ?_
      simp only [hn] at hc ⊢
      refine (pcol_at _ n (by omega) p j).trans ?_
      rw [par_eq m A B hA hB]
      refine (par_at A B t n (by omega) p j).trans ?_
      rw [hc]

/-- The block device `c` writes is its block of the reference's result. -/
theorem res_eq (c : Dev nD) : resOf m c = Layout.block ⟨2, ![4096, 1024]⟩ ⟨2, ![4096, 8192]⟩ 1 8 c (Cert.ReferenceIdeal.Gen.k0_pay1 (F := Ideal) A B) := by
  funext i
  obtain ⟨t, p, hi⟩ : ∃ (t : Dev nD) (p : Fin 512), (i 0).val = 512 * t.val + p.val := by
    have h := (i 0).isLt
    have h' : (i 0).val < 4096 := h
    exact ⟨⟨(i 0).val / 512, by show _ < 8; omega⟩, ⟨(i 0).val % 512, by omega⟩, by show _ = 512 * ((i 0).val / 512) + (i 0).val % 512; omega⟩
  obtain ⟨j, hj⟩ : ∃ j : Fin 1024, j = i 1 := ⟨_, rfl⟩
  have hp := p.isLt
  have e : rowsAt (F := Ideal) (amOf m) (bvOf m) (qvOf m) c (paOf m c) (ouR.emb i) = rowAt (F := Ideal) (amOf m) (bvOf m) (qvOf m) c (paOf m c) (back c t) (ix2 p j) := by
    have e0 : ((ouR.emb i) 0).val = 512 * t.val + p.val := by show 0 + 1 * (i 0).val = _; omega
    have e1 : ((ouR.emb i) 1).val = j.val := by rw [hj]; show 0 + 1 * (i 1).val = _; omega
    unfold rowsAt bfAll
    refine congrArg₂ (fun (u : Dev nD) (x : S512x1024.Idx) => rowAt (F := Ideal) (amOf m) (bvOf m) (qvOf m) c (paOf m c) (back c u) x) (Fin.ext ?_) (funext fun a => Fin.ext ?_)
    · show ((ouR.emb i) 0).val / 512 = t.val; rw [e0]; omega
    · match a with
      | ⟨0, _⟩ => show ((ouR.emb i) 0).val % 512 = p.val; rw [e0]; omega
      | ⟨1, _⟩ => exact e1
  have r : (Layout.block ⟨2, ![4096, 1024]⟩ ⟨2, ![4096, 8192]⟩ 1 8 c (Cert.ReferenceIdeal.Gen.k0_pay1 (F := Ideal) A B) (by decide) i : EReal)
      = snap (Ideal.div (yAt A B (rowOf t p) (blkCol c j)) (scale (top A B))) (scale (top A B)) := by
    rw [← ref_apply]
    refine congrArg (Cert.ReferenceIdeal.Gen.k0_pay1 (F := Ideal) A B) (funext fun a => Fin.ext ?_)
    match a with
    | ⟨0, _⟩ => exact hi
    | ⟨1, _⟩ => rw [hj]; show c.val * 1024 + (i 1).val = 1024 * c.val + (i 1).val; omega
  refine Eq.trans ?_ r.symm
  unfold resOf outAt
  refine (pay1_at _ _ _ i).trans ?_
  rw [sc_eq, pay55_eq, top_eq m A B hA hB, e]
  have hm := le_top' A B (rowOf t p) (blkCol c j)
  rcases row_at m A B hA hB c t p j with h | h
  · rw [h]; exact snap_recip _ _ hm
  · rw [h]; exact snap_twice _ _ hm

end Cert.Whole

end
-- ==== Proof.lean ====
/- The proof of the certificate's claim: three frames, the idealization, and the equality of the kernel's and the
   reference's results over the extended reals. -/
module

public import proofs.«01_k».proof.Proof.Gen.ReferenceIdeal.Value
public import proofs.«01_k».proof.Proof.Same
public import proofs.«01_k».proof.Proof.Whole
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ => Cert.Same.frame m ρ

theorem frame_ideal : Cert.quiescent_KernelIdeal := fun m ρ _ =>
  (θ_run Cert.KernelIdeal.defs _ _).mono (fun _ h => ⟨fun c => (h.1 c).2, h.2⟩) (Cert.KernelIdeal.Run.run (F := Ideal) m ρ)

theorem frame_reference : Cert.quiescent_ReferenceIdeal := fun m ρ _ => Cert.ReferenceIdeal.Gen.frame m ρ

/-- Each device's block of the kernel's result is its block of the reference's. -/
theorem algebraic : Cert.algebraic_KernelIdeal_ReferenceIdeal := fun m g m' g' _ h =>
  ⟨Cert.ReferenceIdeal.Gen.k0_pay1 (F := Ideal) _ _,
    (θ_run Cert.KernelIdeal.defs _ _).mono
      (fun _ r c => ⟨(r.1 c).1.trans (Cert.Whole.res_eq m _ _ (fun d => (h d).1) (fun d => (h d).2) c), (r.1 c).2⟩)
      (Cert.KernelIdeal.Run.run (F := Ideal) m g),
    (θ_run Cert.ReferenceIdeal.defs _ _).mono (fun _ r => r 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
